-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16384x1536 : Shape := ⟨2, ![16384, 1536]⟩
abbrev S64 : Shape := ⟨1, ![64]⟩
abbrev S1024x1024 : Shape := ⟨2, ![1024, 1024]⟩
abbrev S1024x4096 : Shape := ⟨2, ![1024, 4096]⟩
abbrev S4096x1024 : Shape := ⟨2, ![4096, 1024]⟩
abbrev S128x256 : Shape := ⟨2, ![128, 256]⟩
abbrev S128x128 : Shape := ⟨2, ![128, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S2048x128 : Shape := ⟨2, ![2048, 128]⟩
abbrev S32x1024 : Shape := ⟨2, ![32, 1024]⟩
abbrev S32x4096 : Shape := ⟨2, ![32, 4096]⟩
abbrev S128x1024 : Shape := ⟨2, ![128, 1024]⟩
abbrev S16x128x256 : Shape := ⟨3, ![16, 128, 256]⟩
abbrev S16x256x128 : Shape := ⟨3, ![16, 256, 128]⟩
abbrev S512x128 : Shape := ⟨2, ![512, 128]⟩
abbrev S512x256 : Shape := ⟨2, ![512, 256]⟩
abbrev S2x512x256 : Shape := ⟨3, ![2, 512, 256]⟩
abbrev S2x2x512x128 : Shape := ⟨4, ![2, 2, 512, 128]⟩
abbrev S1x128x128 : Shape := ⟨3, ![1, 128, 128]⟩
abbrev S1x128x256 : Shape := ⟨3, ![1, 128, 256]⟩
abbrev S1x1x128x128 : Shape := ⟨4, ![1, 1, 128, 128]⟩
abbrev S256x128 : Shape := ⟨2, ![256, 128]⟩
abbrev S256x256 : Shape := ⟨2, ![256, 256]⟩
abbrev S1x256x256 : Shape := ⟨3, ![1, 256, 256]⟩
abbrev S1x1x256x128 : Shape := ⟨4, ![1, 1, 256, 128]⟩
abbrev S384x128 : Shape := ⟨2, ![384, 128]⟩
abbrev S384x256 : Shape := ⟨2, ![384, 256]⟩
abbrev S1x384x256 : Shape := ⟨3, ![1, 384, 256]⟩
abbrev S1x512x256 : Shape := ⟨3, ![1, 512, 256]⟩
abbrev S1x256x128 : Shape := ⟨3, ![1, 256, 128]⟩
abbrev S1x1x384x128 : Shape := ⟨4, ![1, 1, 384, 128]⟩
abbrev S1x384x128 : Shape := ⟨3, ![1, 384, 128]⟩
abbrev S1x1x512x128 : Shape := ⟨4, ![1, 1, 512, 128]⟩
abbrev S1x512x128 : Shape := ⟨3, ![1, 512, 128]⟩

abbrev nBuf : Space → Nat
  | .hbm => 20
  | .vmem => 34
  | .smem => 0
  | _ => 0

abbrev bufTy : (tb : Table) → Fin (tcTables nBuf tb) → BufTy
  | .hbm, ⟨0, _⟩ => ⟨S16384x1536, .f32⟩
  | .hbm, ⟨1, _⟩ => ⟨S64, .f32⟩
  | .hbm, ⟨2, _⟩ => ⟨S64, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S128x256, .bf16⟩
  | .hbm, ⟨7, _⟩ => ⟨S128x128, .bf16⟩
  | .hbm, ⟨8, _⟩ => ⟨S1x64, .f32⟩
  | .hbm, ⟨9, _⟩ => ⟨S2x64, .f32⟩
  | .hbm, ⟨10, _⟩ => ⟨S128, .f32⟩
  | .hbm, ⟨11, _⟩ => ⟨S1x128, .f32⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S1x128, .f32⟩
  | .hbm, ⟨16, _⟩ => ⟨S16384x512, .f32⟩
  | .hbm, ⟨17, _⟩ => ⟨S1024x1024, .bf16⟩
  | .hbm, ⟨18, _⟩ => ⟨S1024x4096, .bf16⟩
  | .hbm, ⟨19, _⟩ => ⟨S4096x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S128x256, .bf16⟩
  | .local _ .vmem, ⟨9, _⟩ => ⟨S128x128, .bf16⟩
  | .local _ .vmem, ⟨10, _⟩ => ⟨S32x1024, .f32⟩
  | .local _ .vmem, ⟨11, _⟩ => ⟨S32x1024, .f32⟩
  | .local _ .vmem, ⟨12, _⟩ => ⟨S32x4096, .f32⟩
  | .local _ .vmem, ⟨13, _⟩ => ⟨S32x4096, .f32⟩
  | .local _ .vmem, ⟨14, _⟩ => ⟨S128x1024, .f32⟩
  | .local _ .vmem, ⟨15, _⟩ => ⟨S128x1024, .f32⟩
  | .local _ .vmem, ⟨16, _⟩ => ⟨S2048x128, .f32⟩
  | .local _ .vmem, ⟨17, _⟩ => ⟨S2048x128, .f32⟩
  | .local _ .vmem, ⟨18, _⟩ => ⟨S32x1024, .bf16⟩
  | .local _ .vmem, ⟨19, _⟩ => ⟨S32x1024, .bf16⟩
  | .local _ .vmem, ⟨20, _⟩ => ⟨S32x4096, .bf16⟩
  | .local _ .vmem, ⟨21, _⟩ => ⟨S32x4096, .bf16⟩
  | .local _ .vmem, ⟨22, _⟩ => ⟨S128x1024, .bf16⟩
  | .local _ .vmem, ⟨23, _⟩ => ⟨S128x1024, .bf16⟩
  | .local _ .vmem, ⟨24, _⟩ => ⟨S16x128x256, .bf16⟩
  | .local _ .vmem, ⟨25, _⟩ => ⟨S16x256x128, .bf16⟩
  | .local _ .vmem, ⟨26, _⟩ => ⟨S2048x128, .bf16⟩
  | .local _ .vmem, ⟨27, _⟩ => ⟨S512x128, .f32⟩
  | .local _ .vmem, ⟨28, _⟩ => ⟨S512x256, .f32⟩
  | .local _ .vmem, ⟨29, _⟩ => ⟨S2x512x256, .f32⟩
  | .local _ .vmem, ⟨30, _⟩ => ⟨S2x512x256, .f32⟩
  | .local _ .vmem, ⟨31, _⟩ => ⟨S2x2x512x128, .bf16⟩
  | .local _ .vmem, ⟨32, _⟩ => ⟨S2x512x256, .f32⟩
  | .local _ .vmem, ⟨33, _⟩ => ⟨S2x512x256, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c16_i32 : BitVec 32 := 16#32
  let v20 : BitVec 32 := Scalar.muli c0_i32 c16_i32
  let c0_i32_12 : BitVec 32 := 0#32
  let v21 : BitVec 32 := Scalar.addi v20 c0_i32_12
  let c128_i32 : BitVec 32 := 128#32
  let v22 : BitVec 32 := Scalar.muli v21 c128_i32
  v22
def k0_off1 (c0_i32_12 : BitVec 32) : Fin 2 → Nat :=
  let c0_i32 : BitVec 32 := 0#32
  let c16_i32 : BitVec 32 := 16#32
  let v20 : BitVec 32 := Scalar.muli c0_i32 c16_i32
  let v21 : BitVec 32 := Scalar.addi v20 c0_i32_12
  let c128_i32 : BitVec 32 := 128#32
  let v22 : BitVec 32 := Scalar.muli v21 c128_i32
  let v23 : BitVec 32 := v22
  let v24 : Index := Scalar.indexCast v23
  let c0_13 : Index := 0#32
  ![v24.toNat, 0]
def k0_off2 (c0_i32_12 : BitVec 32) : Fin 3 → Nat :=
  let c0_i32 : BitVec 32 := 0#32
  let c16_i32 : BitVec 32 := 16#32
  let v20 : BitVec 32 := Scalar.muli c0_i32 c16_i32
  let v21 : BitVec 32 := Scalar.addi v20 c0_i32_12
  let v44 : Index := Scalar.indexCast v21
  let c0_21 : Index := 0#32
  let c0_22 : Index := 0#32
  ![v44.toNat, 0, 0]
def k0_off3 (c0_i32_12 : BitVec 32) : Fin 3 → Nat :=
  let c0_i32 : BitVec 32 := 0#32
  let c16_i32 : BitVec 32 := 16#32
  let v20 : BitVec 32 := Scalar.muli c0_i32 c16_i32
  let v21 : BitVec 32 := Scalar.addi v20 c0_i32_12
  let v51 : Index := Scalar.indexCast v21
  let c0_24 : Index := 0#32
  let c128 : Index := 128#32
  ![v51.toNat, 0, 128]
def k0_off4 (c0_i32_12 : BitVec 32) : Fin 3 → Nat :=
  let c0_i32 : BitVec 32 := 0#32
  let c16_i32 : BitVec 32 := 16#32
  let v20 : BitVec 32 := Scalar.muli c0_i32 c16_i32
  let v21 : BitVec 32 := Scalar.addi v20 c0_i32_12
  let v60 : Index := Scalar.indexCast v21
  let c0_27 : Index := 0#32
  let c0_28 : Index := 0#32
  ![v60.toNat, 0, 0]
def k0_off5 (c0_i32_12 : BitVec 32) : Fin 3 → Nat :=
  let c0_i32 : BitVec 32 := 0#32
  let c16_i32 : BitVec 32 := 16#32
  let v20 : BitVec 32 := Scalar.muli c0_i32 c16_i32
  let v21 : BitVec 32 := Scalar.addi v20 c0_i32_12
  let v67 : Index := Scalar.indexCast v21
  let c128_30 : Index := 128#32
  let c0_31 : Index := 0#32
  ![v67.toNat, 128, 0]
def k0_mult2 : BitVec 32 :=
  let c0_i32 : BitVec 32 := 0#32
  let c16_i32_42 : BitVec 32 := 16#32
  let v94 : BitVec 32 := Scalar.muli c0_i32 c16_i32_42
  let c1_i32 : BitVec 32 := 1#32
  let v95 : BitVec 32 := Scalar.addi v94 c1_i32
  let c128_i32_43 : BitVec 32 := 128#32
  let v96 : BitVec 32 := Scalar.muli v95 c128_i32_43
  v96
def k0_mult3 : BitVec 32 :=
  let c0_i32 : BitVec 32 := 0#32
  let c16_i32_75 : BitVec 32 := 16#32
  let v168 : BitVec 32 := Scalar.muli c0_i32 c16_i32_75
  let c2_i32 : BitVec 32 := 2#32
  let v169 : BitVec 32 := Scalar.addi v168 c2_i32
  let c128_i32_76 : BitVec 32 := 128#32
  let v170 : BitVec 32 := Scalar.muli v169 c128_i32_76
  v170
def k0_mult4 : BitVec 32 :=
  let c0_i32 : BitVec 32 := 0#32
  let c16_i32_108 : BitVec 32 := 16#32
  let v242 : BitVec 32 := Scalar.muli c0_i32 c16_i32_108
  let c3_i32 : BitVec 32 := 3#32
  let v243 : BitVec 32 := Scalar.addi v242 c3_i32
  let c128_i32_109 : BitVec 32 := 128#32
  let v244 : BitVec 32 := Scalar.muli v243 c128_i32_109
  v244
def k0_mult5 : BitVec 32 :=
  let c0_i32 : BitVec 32 := 0#32
  let c16_i32_141 : BitVec 32 := 16#32
  let v316 : BitVec 32 := Scalar.muli c0_i32 c16_i32_141
  let c4_i32 : BitVec 32 := 4#32
  let v317 : BitVec 32 := Scalar.addi v316 c4_i32
  let c128_i32_142 : BitVec 32 := 128#32
  let v318 : BitVec 32 := Scalar.muli v317 c128_i32_142
  v318
def k0_mult6 : BitVec 32 :=
  let c0_i32 : BitVec 32 := 0#32
  let c16_i32_174 : BitVec 32 := 16#32
  let v390 : BitVec 32 := Scalar.muli c0_i32 c16_i32_174
  let c5_i32 : BitVec 32 := 5#32
  let v391 : BitVec 32 := Scalar.addi v390 c5_i32
  let c128_i32_175 : BitVec 32 := 128#32
  let v392 : BitVec 32 := Scalar.muli v391 c128_i32_175
  v392
def k0_mult7 : BitVec 32 :=
  let c0_i32 : BitVec 32 := 0#32
  let c16_i32_207 : BitVec 32 := 16#32
  let v464 : BitVec 32 := Scalar.muli c0_i32 c16_i32_207
  let c6_i32 : BitVec 32 := 6#32
  let v465 : BitVec 32 := Scalar.addi v464 c6_i32
  let c128_i32_208 : BitVec 32 := 128#32
  let v466 : BitVec 32 := Scalar.muli v465 c128_i32_208
  v466
def k0_mult8 : BitVec 32 :=
  let c0_i32 : BitVec 32 := 0#32
  let c16_i32_240 : BitVec 32 := 16#32
  let v538 : BitVec 32 := Scalar.muli c0_i32 c16_i32_240
  let c7_i32 : BitVec 32 := 7#32
  let v539 : BitVec 32 := Scalar.addi v538 c7_i32
  let c128_i32_241 : BitVec 32 := 128#32
  let v540 : BitVec 32 := Scalar.muli v539 c128_i32_241
  v540
def k0_mult9 : BitVec 32 :=
  let c0_i32 : BitVec 32 := 0#32
  let c16_i32_273 : BitVec 32 := 16#32
  let v612 : BitVec 32 := Scalar.muli c0_i32 c16_i32_273
  let c8_i32 : BitVec 32 := 8#32
  let v613 : BitVec 32 := Scalar.addi v612 c8_i32
  let c128_i32_274 : BitVec 32 := 128#32
  let v614 : BitVec 32 := Scalar.muli v613 c128_i32_274
  v614
def k0_mult10 : BitVec 32 :=
  let c0_i32 : BitVec 32 := 0#32
  let c16_i32_306 : BitVec 32 := 16#32
  let v686 : BitVec 32 := Scalar.muli c0_i32 c16_i32_306
  let c9_i32 : BitVec 32 := 9#32
  let v687 : BitVec 32 := Scalar.addi v686 c9_i32
  let c128_i32_307 : BitVec 32 := 128#32
  let v688 : BitVec 32 := Scalar.muli v687 c128_i32_307
  v688
def k0_mult11 : BitVec 32 :=
  let c0_i32 : BitVec 32 := 0#32
  let c16_i32_339 : BitVec 32 := 16#32
  let v760 : BitVec 32 := Scalar.muli c0_i32 c16_i32_339
  let c10_i32 : BitVec 32 := 10#32
  let v761 : BitVec 32 := Scalar.addi v760 c10_i32
  let c128_i32_340 : BitVec 32 := 128#32
  let v762 : BitVec 32 := Scalar.muli v761 c128_i32_340
  v762
def k0_mult12 : BitVec 32 :=
  let c0_i32 : BitVec 32 := 0#32
  let c16_i32_372 : BitVec 32 := 16#32
  let v834 : BitVec 32 := Scalar.muli c0_i32 c16_i32_372
  let c11_i32 : BitVec 32 := 11#32
  let v835 : BitVec 32 := Scalar.addi v834 c11_i32
  let c128_i32_373 : BitVec 32 := 128#32
  let v836 : BitVec 32 := Scalar.muli v835 c128_i32_373
  v836
def k0_mult13 : BitVec 32 :=
  let c0_i32 : BitVec 32 := 0#32
  let c16_i32_405 : BitVec 32 := 16#32
  let v908 : BitVec 32 := Scalar.muli c0_i32 c16_i32_405
  let c12_i32 : BitVec 32 := 12#32
  let v909 : BitVec 32 := Scalar.addi v908 c12_i32
  let c128_i32_406 : BitVec 32 := 128#32
  let v910 : BitVec 32 := Scalar.muli v909 c128_i32_406
  v910
def k0_mult14 : BitVec 32 :=
  let c0_i32 : BitVec 32 := 0#32
  let c16_i32_438 : BitVec 32 := 16#32
  let v982 : BitVec 32 := Scalar.muli c0_i32 c16_i32_438
  let c13_i32 : BitVec 32 := 13#32
  let v983 : BitVec 32 := Scalar.addi v982 c13_i32
  let c128_i32_439 : BitVec 32 := 128#32
  let v984 : BitVec 32 := Scalar.muli v983 c128_i32_439
  v984
def k0_mult15 : BitVec 32 :=
  let c0_i32 : BitVec 32 := 0#32
  let c16_i32_471 : BitVec 32 := 16#32
  let v1056 : BitVec 32 := Scalar.muli c0_i32 c16_i32_471
  let c14_i32 : BitVec 32 := 14#32
  let v1057 : BitVec 32 := Scalar.addi v1056 c14_i32
  let c128_i32_472 : BitVec 32 := 128#32
  let v1058 : BitVec 32 := Scalar.muli v1057 c128_i32_472
  v1058
def k0_mult16 : BitVec 32 :=
  let c0_i32 : BitVec 32 := 0#32
  let c16_i32_504 : BitVec 32 := 16#32
  let v1130 : BitVec 32 := Scalar.muli c0_i32 c16_i32_504
  let c15_i32 : BitVec 32 := 15#32
  let v1131 : BitVec 32 := Scalar.addi v1130 c15_i32
  let c128_i32_505 : BitVec 32 := 128#32
  let v1132 : BitVec 32 := Scalar.muli v1131 c128_i32_505
  v1132
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S16384x1536 : Shape := ⟨2, ![16384, 1536]⟩
abbrev S64 : Shape := ⟨1, ![64]⟩
abbrev S1024x1024 : Shape := ⟨2, ![1024, 1024]⟩
abbrev S1024x4096 : Shape := ⟨2, ![1024, 4096]⟩
abbrev S4096x1024 : Shape := ⟨2, ![4096, 1024]⟩
abbrev S8x2048x1536 : Shape := ⟨3, ![8, 2048, 1536]⟩
abbrev S8x2048x512 : Shape := ⟨3, ![8, 2048, 512]⟩
abbrev S8x2048x8x64 : Shape := ⟨4, ![8, 2048, 8, 64]⟩
abbrev S_ : Shape := ⟨0, ![]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048x2047 : Shape := ⟨4, ![8, 8, 2048, 2047]⟩
abbrev S8x8x2048x1 : Shape := ⟨4, ![8, 8, 2048, 1]⟩
abbrev S8x8x64x2048 : Shape := ⟨4, ![8, 8, 64, 2048]⟩
abbrev S16384x512 : Shape := ⟨2, ![16384, 512]⟩

abbrev nBuf : Space → Nat
  | .hbm => 99
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S64, .f32⟩
  | .hbm, ⟨2, _⟩ => ⟨S64, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S8x2048x1536, .f32⟩
  | .hbm, ⟨7, _⟩ => ⟨S8x2048x512, .f32⟩
  | .hbm, ⟨8, _⟩ => ⟨S8x2048x512, .f32⟩
  | .hbm, ⟨9, _⟩ => ⟨S8x2048x512, .f32⟩
  | .hbm, ⟨10, _⟩ => ⟨S8x2048x8x64, .f32⟩
  | .hbm, ⟨11, _⟩ => ⟨S8x2048x8x64, .f32⟩
  | .hbm, ⟨12, _⟩ => ⟨S_, .f32⟩
  | .hbm, ⟨13, _⟩ => ⟨S8x2048x8, .f32⟩
  | .hbm, ⟨14, _⟩ => ⟨S8x2048x8x1, .f32⟩
  | .hbm, ⟨15, _⟩ => ⟨S_, .f32⟩
  | .hbm, ⟨16, _⟩ => ⟨S8x2048x8x1, .f32⟩
  | .hbm, ⟨17, _⟩ => ⟨S8x2048x8x1, .f32⟩
  | .hbm, ⟨18, _⟩ => ⟨S_, .f32⟩
  | .hbm, ⟨19, _⟩ => ⟨S8x2048x8x1, .f32⟩
  | .hbm, ⟨20, _⟩ => ⟨S8x2048x8x1, .f32⟩
  | .hbm, ⟨21, _⟩ => ⟨S8x2048x8x1, .f32⟩
  | .hbm, ⟨22, _⟩ => ⟨S8x2048x8x64, .f32⟩
  | .hbm, ⟨23, _⟩ => ⟨S8x2048x8x64, .f32⟩
  | .hbm, ⟨24, _⟩ => ⟨S1x1x1x64, .f32⟩
  | .hbm, ⟨25, _⟩ => ⟨S8x2048x8x64, .f32⟩
  | .hbm, ⟨26, _⟩ => ⟨S8x2048x8x64, .f32⟩
  | .hbm, ⟨27, _⟩ => ⟨S8x2048x8x64, .f32⟩
  | .hbm, ⟨28, _⟩ => ⟨S8x2048x8x64, .f32⟩
  | .hbm, ⟨29, _⟩ => ⟨S_, .f32⟩
  | .hbm, ⟨30, _⟩ => ⟨S8x2048x8, .f32⟩
  | .hbm, ⟨31, _⟩ => ⟨S8x2048x8x1, .f32⟩
  | .hbm, ⟨32, _⟩ => ⟨S_, .f32⟩
  | .hbm, ⟨33, _⟩ => ⟨S8x2048x8x1, .f32⟩
  | .hbm, ⟨34, _⟩ => ⟨S8x2048x8x1, .f32⟩
  | .hbm, ⟨35, _⟩ => ⟨S_, .f32⟩
  | .hbm, ⟨36, _⟩ => ⟨S8x2048x8x1, .f32⟩
  | .hbm, ⟨37, _⟩ => ⟨S8x2048x8x1, .f32⟩
  | .hbm, ⟨38, _⟩ => ⟨S8x2048x8x1, .f32⟩
  | .hbm, ⟨39, _⟩ => ⟨S8x2048x8x64, .f32⟩
  | .hbm, ⟨40, _⟩ => ⟨S8x2048x8x64, .f32⟩
  | .hbm, ⟨41, _⟩ => ⟨S1x1x1x64, .f32⟩
  | .hbm, ⟨42, _⟩ => ⟨S8x2048x8x64, .f32⟩
  | .hbm, ⟨43, _⟩ => ⟨S8x2048x8x64, .f32⟩
  | .hbm, ⟨44, _⟩ => ⟨S8x2048x8x64, .f32⟩
  | .hbm, ⟨45, _⟩ => ⟨S8x8x2048x2048, .f32⟩
  | .hbm, ⟨46, _⟩ => ⟨S_, .f32⟩
  | .hbm, ⟨47, _⟩ => ⟨S8x8x2048x2048, .f32⟩
  | .hbm, ⟨48, _⟩ => ⟨S8x8x2048x2048, .f32⟩
  | .hbm, ⟨49, _⟩ => ⟨S2048, .i32⟩
  | .hbm, ⟨50, _⟩ => ⟨S1x2048, .i32⟩
  | .hbm, ⟨51, _⟩ => ⟨S2048, .i32⟩
  | .hbm, ⟨52, _⟩ => ⟨S2048x1, .i32⟩
  | .hbm, ⟨53, _⟩ => ⟨S2048x2048, .i32⟩
  | .hbm, ⟨54, _⟩ => ⟨S2048x2048, .i32⟩
  | .hbm, ⟨55, _⟩ => ⟨S2048x2048, .i1⟩
  | .hbm, ⟨56, _⟩ => ⟨S8x8x2048x2048, .f32⟩
  | .hbm, ⟨57, _⟩ => ⟨S_, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S8x8x2048x2048, .i1⟩
  | .hbm, ⟨63, _⟩ => ⟨S8x8x2048x2048, .f32⟩
  | .hbm, ⟨64, _⟩ => ⟨S8x8x2048x2048, .f32⟩
  | .hbm, ⟨65, _⟩ => ⟨S8x8x2048x2048, .f32⟩
  | .hbm, ⟨66, _⟩ => ⟨S8x8x2048x2048, .f32⟩
  | .hbm, ⟨67, _⟩ => ⟨S8x8x2048x2048, .f32⟩
  | .hbm, ⟨68, _⟩ => ⟨S8x8x2048x2048, .f32⟩
  | .hbm, ⟨69, _⟩ => ⟨S8x8x2048x2048, .f32⟩
  | .hbm, ⟨70, _⟩ => ⟨S8x8x2048x2048, .f32⟩
  | .hbm, ⟨71, _⟩ => ⟨S8x8x2048x2048, .f32⟩
  | .hbm, ⟨72, _⟩ => ⟨S8x8x2048x2048, .f32⟩
  | .hbm, ⟨73, _⟩ => ⟨S_, .f32⟩
  | .hbm, ⟨74, _⟩ => ⟨S_, .f32⟩
  | .hbm, ⟨75, _⟩ => ⟨S8x8x2048x2048, .i1⟩
  | .hbm, ⟨76, _⟩ => ⟨S8x8x2048x2048, .f32⟩
  | .hbm, ⟨77, _⟩ => ⟨S8x8x2048x2048, .f32⟩
  | .hbm, ⟨78, _⟩ => ⟨S_, .f32⟩
  | .hbm, ⟨79, _⟩ => ⟨S_, .f32⟩
  | .hbm, ⟨80, _⟩ => ⟨S8x8x2048x2048, .f32⟩
  | .hbm, ⟨81, _⟩ => ⟨S8x8x2048x2047, .f32⟩
  | .hbm, ⟨82, _⟩ => ⟨S8x8x2048x1, .f32⟩
  | .hbm, ⟨83, _⟩ => ⟨S_, .f32⟩
  | .hbm, ⟨84, _⟩ => ⟨S8x8x2048x1, .f32⟩
  | .hbm, ⟨85, _⟩ => ⟨S8x8x2048x2048, .f32⟩
  | .hbm, ⟨86, _⟩ => ⟨S8x8x2048x2048, .f32⟩
  | .hbm, ⟨87, _⟩ => ⟨S8x8x2048x2048, .f32⟩
  | .hbm, ⟨88, _⟩ => ⟨S_, .f32⟩
  | .hbm, ⟨89, _⟩ => ⟨S_, .f32⟩
  | .hbm, ⟨90, _⟩ => ⟨S8x8x2048x2048, .i1⟩
  | .hbm, ⟨91, _⟩ => ⟨S8x8x2048x2048, .f32⟩
  | .hbm, ⟨92, _⟩ => ⟨S8x8x2048x2048, .f32⟩
  | .hbm, ⟨93, _⟩ => ⟨S8x8x64x2048, .f32⟩
  | .hbm, ⟨94, _⟩ => ⟨S8x2048x8x64, .f32⟩
  | .hbm, ⟨95, _⟩ => ⟨S16384x512, .f32⟩
  | .hbm, ⟨96, _⟩ => ⟨S1024x1024, .bf16⟩
  | .hbm, ⟨97, _⟩ => ⟨S1024x4096, .bf16⟩
  | .hbm, ⟨98, _⟩ => ⟨S4096x1024, .bf16⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_v0 : Ref sig .tc := ⟨.hbm, 56, rfl⟩
abbrev main_call0_call0_cst : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_v1 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v45 : Ref sig .tc := ⟨.hbm, 77, rfl⟩
abbrev main_call2_cst : Ref sig .tc := ⟨.hbm, 78, rfl⟩
abbrev main_call2_v0 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_7 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_8 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩

abbrev nD : Nat := 1
abbrev τ : Topo := Topo.v7x

variable {F : FTy → Type} [FloatOps F]
-- ==== Kernel2.lean ====
abbrev S16384x512 : Shape := ⟨2, ![16384, 512]⟩
abbrev S8x2048x1024 : Shape := ⟨3, ![8, 2048, 1024]⟩
abbrev S8x6144 : Shape := ⟨2, ![8, 6144]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S8x6x1024 : Shape := ⟨3, ![8, 6, 1024]⟩
abbrev S1x512 : Shape := ⟨2, ![1, 512]⟩
abbrev S1x1024 : Shape := ⟨2, ![1, 1024]⟩
abbrev S1024x512 : Shape := ⟨2, ![1024, 512]⟩
abbrev S1x6x1024 : Shape := ⟨3, ![1, 6, 1024]⟩
abbrev S1024x1 : Shape := ⟨2, ![1024, 1]⟩
abbrev S512x1024 : Shape := ⟨2, ![512, 1024]⟩
abbrev S1x1x1024 : Shape := ⟨3, ![1, 1, 1024]⟩

abbrev nBuf : Space → Nat
  | .hbm => 14
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S8x2048x1024, .f32⟩
  | .hbm, ⟨3, _⟩ => ⟨S8x6144, .f32⟩
  | .hbm, ⟨4, _⟩ => ⟨S512, .f32⟩
  | .hbm, ⟨5, _⟩ => ⟨S1024x1024, .bf16⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S16384x1024, .f32⟩
  | .hbm, ⟨10, _⟩ => ⟨S8x6x1024, .f32⟩
  | .hbm, ⟨11, _⟩ => ⟨S1x512, .f32⟩
  | .hbm, ⟨12, _⟩ => ⟨S1x1024, .f32⟩
  | .hbm, ⟨13, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1024x1024, .f32⟩
  | .local _ .vmem, ⟨14, _⟩ => ⟨S1024x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x512 : Shape := ⟨2, ![16384, 512]⟩
abbrev S8x2048x1024 : Shape := ⟨3, ![8, 2048, 1024]⟩
abbrev S8x6144 : Shape := ⟨2, ![8, 6144]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x1024 : Shape := ⟨2, ![8, 1024]⟩
abbrev S8x2048x512 : Shape := ⟨3, ![8, 2048, 512]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S8x1x1024 : Shape := ⟨3, ![8, 1, 1024]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S8x2048x1024, .f32⟩
  | .hbm, ⟨3, _⟩ => ⟨S8x6144, .f32⟩
  | .hbm, ⟨4, _⟩ => ⟨S512, .f32⟩
  | .hbm, ⟨5, _⟩ => ⟨S1024x1024, .bf16⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S16384x512, .f32⟩
  | .hbm, ⟨16, _⟩ => ⟨S8x2048x512, .f32⟩
  | .hbm, ⟨17, _⟩ => ⟨S8x2048x512, .f32⟩
  | .hbm, ⟨18, _⟩ => ⟨S8x2048x512, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x512, .f32⟩
  | .hbm, ⟨30, _⟩ => ⟨S8x2048x512, .f32⟩
  | .hbm, ⟨31, _⟩ => ⟨S1x1x512, .f32⟩
  | .hbm, ⟨32, _⟩ => ⟨S8x2048x512, .f32⟩
  | .hbm, ⟨33, _⟩ => ⟨S8x2048x512, .f32⟩
  | .hbm, ⟨34, _⟩ => ⟨S8x2048x1024, .f32⟩
  | .hbm, ⟨35, _⟩ => ⟨S8x1x1024, .f32⟩
  | .hbm, ⟨36, _⟩ => ⟨S1024x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S8x1x1024, .f32⟩
  | .hbm, ⟨58, _⟩ => ⟨S_, .f32⟩
  | .hbm, ⟨59, _⟩ => ⟨S8x1x1024, .f32⟩
  | .hbm, ⟨60, _⟩ => ⟨S8x1x1024, .f32⟩
  | .hbm, ⟨61, _⟩ => ⟨S8x2048x1024, .f32⟩
  | .hbm, ⟨62, _⟩ => ⟨S8x2048x1024, .f32⟩
  | .hbm, ⟨63, _⟩ => ⟨S8x1x1024, .f32⟩
  | .hbm, ⟨64, _⟩ => ⟨S8x2048x1024, .f32⟩
  | .hbm, ⟨65, _⟩ => ⟨S8x2048x1024, .f32⟩
  | .hbm, ⟨66, _⟩ => ⟨S1024x4096, .f32⟩
  | .hbm, ⟨67, _⟩ => ⟨S8x2048x4096, .f32⟩
  | .hbm, ⟨68, _⟩ => ⟨S_, .f32⟩
  | .hbm, ⟨69, _⟩ => ⟨S8x2048x4096, .f32⟩
  | .hbm, ⟨70, _⟩ => ⟨S8x2048x4096, .f32⟩
  | .hbm, ⟨71, _⟩ => ⟨S8x2048x4096, .f32⟩
  | .hbm, ⟨72, _⟩ => ⟨S4096x1024, .f32⟩
  | .hbm, ⟨73, _⟩ => ⟨S8x2048x1024, .f32⟩
  | .hbm, ⟨74, _⟩ => ⟨S8x1x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call0_cst : Ref sig .tc := ⟨.hbm, 68, rfl⟩
abbrev main_call0_v0 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x6144 : Shape := ⟨2, ![8, 6144]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S16384x1024 : Shape := ⟨2, ![16384, 1024]⟩
abbrev S8x6x1024 : Shape := ⟨3, ![8, 6, 1024]⟩
abbrev S1x1024 : Shape := ⟨2, ![1, 1024]⟩
abbrev S1x512 : Shape := ⟨2, ![1, 512]⟩
abbrev S16384x512 : Shape := ⟨2, ![16384, 512]⟩
abbrev S16384x1536 : Shape := ⟨2, ![16384, 1536]⟩
abbrev S1024x1024 : Shape := ⟨2, ![1024, 1024]⟩
abbrev S1x6x1024 : Shape := ⟨3, ![1, 6, 1024]⟩
abbrev S1024x512 : Shape := ⟨2, ![1024, 512]⟩
abbrev S1024x1536 : Shape := ⟨2, ![1024, 1536]⟩
abbrev S1032x512 : Shape := ⟨2, ![1032, 512]⟩
abbrev S2x256x1536 : Shape := ⟨3, ![2, 256, 1536]⟩
abbrev S8x512 : Shape := ⟨2, ![8, 512]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S1x256x1536 : Shape := ⟨3, ![1, 256, 1536]⟩
abbrev S1x256x512 : Shape := ⟨3, ![1, 256, 512]⟩
abbrev S256x512 : Shape := ⟨2, ![256, 512]⟩

abbrev nBuf : Space → Nat
  | .hbm => 12
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x3072, .f32⟩
  | .hbm, ⟨4, _⟩ => ⟨S3x512, .f32⟩
  | .hbm, ⟨5, _⟩ => ⟨S512, .f32⟩
  | .hbm, ⟨6, _⟩ => ⟨S16384x1024, .f32⟩
  | .hbm, ⟨7, _⟩ => ⟨S8x6x1024, .f32⟩
  | .hbm, ⟨8, _⟩ => ⟨S1x1024, .f32⟩
  | .hbm, ⟨9, _⟩ => ⟨S1x512, .f32⟩
  | .hbm, ⟨10, _⟩ => ⟨S16384x512, .bf16⟩
  | .hbm, ⟨11, _⟩ => ⟨S16384x1536, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .f32⟩
  | .local _ .vmem, ⟨6, _⟩ => ⟨S3x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x1536, .f32⟩
  | .local _ .vmem, ⟨11, _⟩ => ⟨S1024x1536, .f32⟩
  | .local _ .vmem, ⟨12, _⟩ => ⟨S1032x512, .f32⟩
  | .local _ .vmem, ⟨13, _⟩ => ⟨S1024x1024, .bf16⟩
  | .local _ .vmem, ⟨14, _⟩ => ⟨S2x256x1536, .f32⟩
  | .local _ .vmem, ⟨15, _⟩ => ⟨S1024x3072, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x2048x1024 : Shape := ⟨3, ![8, 2048, 1024]⟩
abbrev S8x6144 : Shape := ⟨2, ![8, 6144]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x3072 : Shape := ⟨3, ![8, 2048, 3072]⟩
abbrev S8x2048x512 : Shape := ⟨3, ![8, 2048, 512]⟩
abbrev S8x2048x1536 : Shape := ⟨3, ![8, 2048, 1536]⟩
abbrev S8x2050x512 : Shape := ⟨3, ![8, 2050, 512]⟩
abbrev S1x512 : Shape := ⟨2, ![1, 512]⟩
abbrev S1x1x512 : Shape := ⟨3, ![1, 1, 512]⟩
abbrev S16384x512 : Shape := ⟨2, ![16384, 512]⟩
abbrev S16384x1536 : Shape := ⟨2, ![16384, 1536]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x3072, .f32⟩
  | .hbm, ⟨4, _⟩ => ⟨S3x512, .f32⟩
  | .hbm, ⟨5, _⟩ => ⟨S512, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x3072, .f32⟩
  | .hbm, ⟨38, _⟩ => ⟨S8x2048x512, .f32⟩
  | .hbm, ⟨39, _⟩ => ⟨S8x2048x512, .f32⟩
  | .hbm, ⟨40, _⟩ => ⟨S8x2048x512, .f32⟩
  | .hbm, ⟨41, _⟩ => ⟨S8x2048x1536, .f32⟩
  | .hbm, ⟨42, _⟩ => ⟨S8x2048x512, .f32⟩
  | .hbm, ⟨43, _⟩ => ⟨S_, .i32⟩
  | .hbm, ⟨44, _⟩ => ⟨S_, .f32⟩
  | .hbm, ⟨45, _⟩ => ⟨S8x2050x512, .f32⟩
  | .hbm, ⟨46, _⟩ => ⟨S1x512, .f32⟩
  | .hbm, ⟨47, _⟩ => ⟨S512, .f32⟩
  | .hbm, ⟨48, _⟩ => ⟨S8x2048x512, .f32⟩
  | .hbm, ⟨49, _⟩ => ⟨S1x1x512, .f32⟩
  | .hbm, ⟨50, _⟩ => ⟨S8x2048x512, .f32⟩
  | .hbm, ⟨51, _⟩ => ⟨S8x2048x512, .f32⟩
  | .hbm, ⟨52, _⟩ => ⟨S1x512, .f32⟩
  | .hbm, ⟨53, _⟩ => ⟨S512, .f32⟩
  | .hbm, ⟨54, _⟩ => ⟨S8x2048x512, .f32⟩
  | .hbm, ⟨55, _⟩ => ⟨S1x1x512, .f32⟩
  | .hbm, ⟨56, _⟩ => ⟨S8x2048x512, .f32⟩
  | .hbm, ⟨57, _⟩ => ⟨S8x2048x512, .f32⟩
  | .hbm, ⟨58, _⟩ => ⟨S8x2048x512, .f32⟩
  | .hbm, ⟨59, _⟩ => ⟨S1x512, .f32⟩
  | .hbm, ⟨60, _⟩ => ⟨S512, .f32⟩
  | .hbm, ⟨61, _⟩ => ⟨S8x2048x512, .f32⟩
  | .hbm, ⟨62, _⟩ => ⟨S1x1x512, .f32⟩
  | .hbm, ⟨63, _⟩ => ⟨S8x2048x512, .f32⟩
  | .hbm, ⟨64, _⟩ => ⟨S8x2048x512, .f32⟩
  | .hbm, ⟨65, _⟩ => ⟨S8x2048x512, .f32⟩
  | .hbm, ⟨66, _⟩ => ⟨S8x2048x512, .f32⟩
  | .hbm, ⟨67, _⟩ => ⟨S8x2048x512, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x512, .f32⟩
  | .hbm, ⟨79, _⟩ => ⟨S8x2048x512, .f32⟩
  | .hbm, ⟨80, _⟩ => ⟨S1x1x512, .f32⟩
  | .hbm, ⟨81, _⟩ => ⟨S8x2048x512, .f32⟩
  | .hbm, ⟨82, _⟩ => ⟨S8x2048x512, .f32⟩
  | .hbm, ⟨83, _⟩ => ⟨S8x2048x512, .bf16⟩
  | .hbm, ⟨84, _⟩ => ⟨S16384x512, .bf16⟩
  | .hbm, ⟨85, _⟩ => ⟨S16384x1536, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== Proof.Stick.lean ====
/-
  Stick-breaking attention on the extended reals: the functions of the two programs, and that the base-2 form of the
  kernel is the base-e form of the reference. Nothing here depends on a printed program.
-/
module

public import Idealize.ShloMosaic.PureOps.Ideal
public import Idealize.ShloMosaic.PureOps.Ideal.Laws
public import Idealize.ShloMosaic.Lib.Pointwise

@[expose] public section

noncomputable section

namespace Cert.Stick

open Idealize.ShloMosaic
open scoped BigOperators

/-- `log2 e`, the number the name "log2e" stands for. -/
def lg : ℝ := (Real.log 2)⁻¹

theorem log_two_pos : 0 < Real.log 2 := Real.log_pos (by norm_num)

theorem lg_pos : 0 < lg := inv_pos.mpr log_two_pos

/-- The logarithm of the sigmoid in base two, as the kernel computes it from base-two scores. -/
def lsig2 (z : EReal) : EReal := min z 0 - Ideal.log (1 + Ideal.exp2 (-(max z (-z)))) * (lg : EReal)

/-- The logarithm of the sigmoid as the reference computes it: minus the softplus of `-z`. -/
def lsig (z : EReal) : EReal := -(max (-z) 0 + Ideal.log1p (Ideal.exp (-(max (-z - 0) (-(-z - 0))))))

theorem coe_max (x y : ℝ) : ((max x y : ℝ) : EReal) = max (x : EReal) y := EReal.coe_strictMono.monotone.map_max

theorem coe_min (x y : ℝ) : ((min x y : ℝ) : EReal) = min (x : EReal) y := EReal.coe_strictMono.monotone.map_min

/-- A positive real distributes over a sum of two extended reals. -/
theorem coe_mul_add {c : ℝ} (hc : 0 < c) (a b : EReal) : (c : EReal) * (a + b) = c * a + c * b :=
  EReal.left_distrib_of_nonneg_of_ne_top (EReal.coe_nonneg.mpr hc.le) (EReal.coe_ne_top c) a b

/-- A positive real distributes over a difference of two extended reals. -/
theorem coe_mul_sub {c : ℝ} (hc : 0 < c) (a b : EReal) : (c : EReal) * (a - b) = c * a - c * b := by
  rw [sub_eq_add_neg, sub_eq_add_neg, coe_mul_add hc, mul_neg]

/-- A positive real distributes over a finite sum of extended reals. -/
theorem coe_mul_sum {c : ℝ} (hc : 0 < c) {ι : Type*} (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- Two to the power `log2 e · y` is `e` to the power `y`. -/
theorem exp2_lg (y : EReal) : Ideal.exp2 ((lg : EReal) * y) = Ideal.exp y := by
  induction y with
  | bot => rw [EReal.coe_mul_bot_of_pos lg_pos]; rfl
  | top => rw [EReal.coe_mul_top_of_pos lg_pos]; rfl
  | coe r =>
    rw [← EReal.coe_mul]
    show ((Real.rpow 2 (lg * r) : ℝ) : EReal) = ((Real.exp r : ℝ) : EReal)
    congr 1
    show (2 : ℝ) ^ (lg * r) = Real.exp r
    rw [Real.rpow_def_of_pos (by norm_num), lg, ← mul_assoc, mul_inv_cancel₀ log_two_pos.ne', one_mul]

theorem lsig2_lg (z : EReal) : lsig2 ((lg : EReal) * z) = lg * lsig z := by
  induction z with
  | bot =>
    rw [EReal.coe_mul_bot_of_pos lg_pos]
    have h1 : lsig2 ⊥ = ⊥ := by
      simp only [lsig2, EReal.neg_bot, sub_eq_add_neg]
      rw [min_eq_left bot_le, EReal.bot_add]
    have h2 : lsig ⊥ = ⊥ := by
      have : Ideal.exp (-(max (-⊥ - 0) (-(-⊥ - 0)))) = 0 := by
        simp only [EReal.neg_bot, sub_zero, EReal.neg_top, max_eq_left bot_le]; rfl
      rw [lsig, this]
      have h3 : Ideal.log1p 0 = ((0 : ℝ) : EReal) := by
        show Ideal.log (1 + 0) = _
        rw [add_zero]
        show (if (1 : ℝ) ≤ 0 then (⊥ : EReal) else (Real.log 1 : EReal)) = _
        rw [if_neg (by norm_num), Real.log_one]
      rw [h3, EReal.neg_bot, max_eq_left le_top, EReal.top_add_coe, EReal.neg_top]
    rw [h1, h2, EReal.coe_mul_bot_of_pos lg_pos]
  | top =>
    rw [EReal.coe_mul_top_of_pos lg_pos]
    have hl : Ideal.log (1 + 0) = 0 := by
      rw [add_zero]
      show (if (1 : ℝ) ≤ 0 then (⊥ : EReal) else (Real.log 1 : EReal)) = _
      rw [if_neg (by norm_num), Real.log_one]; rfl
    have h1 : lsig2 ⊤ = 0 := by
      simp only [lsig2, EReal.neg_top]
      rw [min_eq_right le_top, max_eq_left bot_le, EReal.neg_top]
      show 0 - Ideal.log (1 + 0) * _ = _
      rw [hl, zero_mul, sub_zero]
    have h2 : lsig ⊤ = 0 := by
      have : Ideal.exp (-(max (-⊤ - 0) (-(-⊤ - 0)))) = 0 := by
        simp only [EReal.neg_top, sub_zero, EReal.neg_bot, max_eq_right bot_le]; rfl
      rw [lsig, this]
      show -(_ + Ideal.log (1 + 0)) = _
      rw [hl, EReal.neg_top, max_eq_right bot_le, add_zero, neg_zero]
    rw [h1, h2, mul_zero]
  | coe r =>
    have hz : ((lg : EReal) * (r : EReal)) = ((lg * r : ℝ) : EReal) := (EReal.coe_mul _ _).symm
    rw [hz]
    have habs : ∀ x : ℝ, max (x : EReal) (-(x : EReal)) = ((|x| : ℝ) : EReal) := fun x => by
      rw [← EReal.coe_neg, ← coe_max]; rfl
    have hpos : ∀ x : ℝ, 0 < x → Ideal.log (1 + (x : EReal)) = ((Real.log (1 + x) : ℝ) : EReal) := fun x hx => by
      have : (1 : EReal) + (x : EReal) = ((1 + x : ℝ) : EReal) := by rw [EReal.coe_add]; rfl
      rw [this]
      show (if (1 + x : ℝ) ≤ 0 then (⊥ : EReal) else _) = _
      rw [if_neg (by linarith)]
    have hk : lsig2 ((lg * r : ℝ) : EReal) = ((min (lg * r) 0 - Real.log (1 + (2 : ℝ) ^ (-|lg * r|)) * lg : ℝ) : EReal) := by
      rw [lsig2, habs, ← EReal.coe_neg]
      have he : Ideal.exp2 ((-|lg * r| : ℝ) : EReal) = (((2 : ℝ) ^ (-|lg * r|) : ℝ) : EReal) := rfl
      rw [he, hpos _ (Real.rpow_pos_of_pos (by norm_num) _), ← EReal.coe_zero, ← coe_min, ← EReal.coe_mul, ← EReal.coe_sub]
    have hr : lsig (r : EReal) = ((-(max (-r) 0 + Real.log (1 + Real.exp (-|r|))) : ℝ) : EReal) := by
      rw [lsig, ← EReal.coe_neg, sub_zero, habs, ← EReal.coe_neg, abs_neg]
      have he : Ideal.exp ((-|r| : ℝ) : EReal) = ((Real.exp (-|r|) : ℝ) : EReal) := rfl
      rw [he, Ideal.log1p, hpos _ (Real.exp_pos _), ← EReal.coe_zero, ← coe_max, ← EReal.coe_add, ← EReal.coe_neg]
    rw [hk, hr, ← EReal.coe_mul]
    congr 1
    have he : (2 : ℝ) ^ (-|lg * r|) = Real.exp (-|r|) := by
      rw [Real.rpow_def_of_pos (by norm_num), abs_mul, abs_of_pos lg_pos, lg, mul_neg, ← mul_assoc, mul_inv_cancel₀ log_two_pos.ne',
        one_mul]
    rw [he]
    have hm : min (lg * r) 0 = lg * min r 0 := by
      rw [mul_min_of_nonneg _ _ lg_pos.le, mul_zero]
    have hn : max (-r) 0 = -min r 0 := by rw [← neg_zero, max_neg_neg]; simp
    rw [hm, hn]; ring

/-! ## The attention of one head -/

/-- The number the programs add under the root. -/
def eps : EReal := Ideal.ofBits .f32 0x358637BD#32

/-- A row of one head, normalised by the root of its mean square and scaled by a gain. -/
def nrm (x g : ℕ → EReal) (d : ℕ) : EReal :=
  x d * Ideal.rsqrt ((∑ e ∈ Finset.range 64, x e * x e) * ((1 / 64 : ℝ) : EReal) + eps) * g d

/-- The score of a query row against a key row. -/
def score (q k : ℕ → ℕ → EReal) (t s : ℕ) : EReal := (∑ d ∈ Finset.range 64, q t d * k s d) * ((1 / 8 : ℝ) : EReal)

/-- Base e: the logarithm of what the breaks leave, of a key strictly before the query. -/
def rl1 (z : ℕ → ℕ → EReal) (t s : ℕ) : EReal := if s < t then lsig (z t s) - z t s else 0

/-- Base e: the weight of key `s` for query `t`, the keys after `s` breaking first. -/
def ratt (z : ℕ → ℕ → EReal) (t s : ℕ) : EReal :=
  if s < t then Ideal.exp (lsig (z t s) + ∑ u ∈ Finset.Ico (s + 1) 2048, rl1 z t u) else 0

/-- Base e: the weighted sum of the values. -/
def rout (z : ℕ → ℕ → EReal) (v : ℕ → EReal) (t : ℕ) : EReal := ∑ s ∈ Finset.range 2048, ratt z t s * v s

/-- Base two: the logarithm of what the breaks leave, of a key strictly before the query. -/
def kl1 (z : ℕ → ℕ → EReal) (t s : ℕ) : EReal := if s < t then lsig2 (z t s) - z t s else 0

/-- Base two: the weight of key `s` for query `t`. -/
def katt (z : ℕ → ℕ → EReal) (t s : ℕ) : EReal :=
  if s < t then Ideal.exp2 (lsig2 (z t s) + ∑ u ∈ Finset.Ico (s + 1) 2048, kl1 z t u) else 0

/-- Base two: the sum of the breaks of the key tiles from `j` on. -/
def carryAt (z : ℕ → ℕ → EReal) (t j : ℕ) : EReal := ∑ u ∈ Finset.Ico (128 * j) 2048, kl1 z t u

/-- Base two: the weighted sum of the values of the key tiles from `j` on. -/
def accAt (z : ℕ → ℕ → EReal) (v : ℕ → EReal) (t j : ℕ) : EReal := ∑ s ∈ Finset.Ico (128 * j) 2048, katt z t s * v s

theorem kl1_lg (z : ℕ → ℕ → EReal) (t s : ℕ) : kl1 (fun t s => (lg : EReal) * z t s) t s = lg * rl1 z t s := by
  unfold kl1 rl1
  split
  · rw [lsig2_lg, coe_mul_sub lg_pos]
  · rw [mul_zero]

/-- The weights in base two from scores scaled by `log2 e` are the weights in base e. -/
theorem katt_lg (z : ℕ → ℕ → EReal) (t s : ℕ) : katt (fun t s => (lg : EReal) * z t s) t s = ratt z t s := by
  unfold katt ratt
  split
  · rw [Finset.sum_congr rfl fun u _ => kl1_lg z t u, ← coe_mul_sum lg_pos, lsig2_lg, ← coe_mul_add lg_pos, exp2_lg]
  · rfl

/-- The base-two accumulation over every key tile is the base-e attention. -/
theorem accAt_zero_lg (z : ℕ → ℕ → EReal) (v : ℕ → EReal) (t : ℕ) :
    accAt (fun t s => (lg : EReal) * z t s) v t 0 = rout z v t := by
  unfold accAt rout
  rw [mul_zero, ← Finset.range_eq_Ico]
  exact Finset.sum_congr rfl fun s _ => by rw [katt_lg]

/-! ## One key tile at a time -/

/-- A sum from tile `j` on is the tile's own 128 terms and the sum from tile `j + 1` on. -/
theorem sum_tile (f : ℕ → EReal) {j : ℕ} (hj : 128 * (j + 1) ≤ 2048) :
    ∑ u ∈ Finset.Ico (128 * j) 2048, f u
      = ∑ u ∈ Finset.Ico (128 * (j + 1)) 2048, f u + ∑ c ∈ Finset.range 128, f (128 * j + c) := by
  have e : ∑ c ∈ Finset.range 128, f (128 * j + c) = ∑ u ∈ Finset.Ico (128 * j) (128 * (j + 1)), f u := by
    rw [Finset.sum_Ico_eq_sum_range, show 128 * (j + 1) - 128 * j = 128 by omega]
  rw [e, add_comm, Finset.sum_Ico_consecutive f (by omega) hj]

theorem carryAt_succ (z : ℕ → ℕ → EReal) (t : ℕ) {j : ℕ} (hj : j < 16) :
    carryAt z t j = carryAt z t (j + 1) + ∑ c ∈ Finset.range 128, kl1 z t (128 * j + c) :=
  sum_tile _ (by omega)

theorem accAt_succ (z : ℕ → ℕ → EReal) (v : ℕ → EReal) (t : ℕ) {j : ℕ} (hj : j < 16) :
    accAt z v t j = accAt z v t (j + 1) + ∑ c ∈ Finset.range 128, katt z t (128 * j + c) * v (128 * j + c) :=
  sum_tile _ (by omega)

/-- No key tile strictly after the query's own breaks anything. -/
theorem carryAt_of_le (z : ℕ → ℕ → EReal) {t j : ℕ} (h : t ≤ 128 * j) : carryAt z t j = 0 :=
  Finset.sum_eq_zero fun u hu => by rw [Finset.mem_Ico] at hu; rw [kl1, if_neg (by omega)]

theorem accAt_of_le (z : ℕ → ℕ → EReal) (v : ℕ → EReal) {t j : ℕ} (h : t ≤ 128 * j) : accAt z v t j = 0 :=
  Finset.sum_eq_zero fun u hu => by rw [Finset.mem_Ico] at hu; rw [katt, if_neg (by omega), zero_mul]

/-- The breaks after key `128 j + c`: those of the rest of its tile and those of the later tiles. -/
theorem sum_after (f : ℕ → EReal) {j c : ℕ} (hj : j < 16) (hc : c < 128) :
    ∑ u ∈ Finset.Ico (128 * j + c + 1) 2048, f u
      = (∑ e ∈ Finset.range 128, if c < e then f (128 * j + e) else 0) + ∑ u ∈ Finset.Ico (128 * (j + 1)) 2048, f u := by
  rw [← Finset.sum_Ico_consecutive f (show 128 * j + c + 1 ≤ 128 * (j + 1) by omega) (by omega)]
  congr 1
  rw [← Finset.sum_filter]
  refine (Finset.sum_nbij' (fun e => 128 * j + e) (fun u => u - 128 * j) ?_ ?_ ?_ ?_ ?_).symm
  · intro e he; simp only [Finset.mem_filter, Finset.mem_range, Finset.mem_Ico] at he ⊢; omega
  · intro u hu; simp only [Finset.mem_filter, Finset.mem_range, Finset.mem_Ico] at hu ⊢; omega
  · intro e _; simp
  · intro u hu; simp only [Finset.mem_Ico] at hu; omega
  · intro e _; rfl

/-- The weight of key `128 j + c` from the tile's own suffix sum and the carry of the later tiles. -/
theorem katt_tile (z : ℕ → ℕ → EReal) (t : ℕ) {j c : ℕ} (hj : j < 16) (hc : c < 128) :
    katt z t (128 * j + c) = if 128 * j + c < t then
      Ideal.exp2 (lsig2 (z t (128 * j + c)) + (∑ e ∈ Finset.range 128, if c < e then kl1 z t (128 * j + e) else 0)
        + carryAt z t (j + 1)) else 0 := by
  rw [katt, sum_after _ hj hc, carryAt, add_assoc]

/-! ## Arrays at natural coordinates -/

/-- The entry of a matrix at natural coordinates (zero outside it). -/
def at2 {R C : ℕ} (X : (⟨2, ![R, C]⟩ : Shape).Idx → EReal) (r c : ℕ) : EReal :=
  if h : r < R ∧ c < C then X (ix2 ⟨r, h.1⟩ ⟨c, h.2⟩) else 0

theorem at2_eq {R C : ℕ} (X : (⟨2, ![R, C]⟩ : Shape).Idx → EReal) {r c : ℕ} (hr : r < R) (hc : c < C) :
    at2 X r c = X (ix2 ⟨r, hr⟩ ⟨c, hc⟩) := dif_pos ⟨hr, hc⟩

/-- The entry of a vector at a natural coordinate (zero outside it). -/
def at1 {R : ℕ} (x : (⟨1, ![R]⟩ : Shape).Idx → EReal) (r : ℕ) : EReal := if h : r < R then x (ix1 ⟨r, h⟩) else 0

theorem at1_eq {R : ℕ} (x : (⟨1, ![R]⟩ : Shape).Idx → EReal) {r : ℕ} (hr : r < R) : at1 x r = x (ix1 ⟨r, hr⟩) := dif_pos hr

/-- The normalised rows of head `h` of batch element `b`, read at columns `o + 64 h + d` of the packed array. -/
def head (X : (⟨2, ![16384, 1536]⟩ : Shape).Idx → EReal) (g : ℕ → EReal) (o b h : ℕ) (t : ℕ) : ℕ → EReal :=
  nrm (fun d => at2 X (b * 2048 + t) (o + (h * 64 + d))) g

/-- The attention's result for the packed queries, keys and values `X` and the two gains, at batch element `b`, head `h`,
query `t` and component `d`. -/
def attn (X : (⟨2, ![16384, 1536]⟩ : Shape).Idx → EReal) (gq gk : (⟨1, ![64]⟩ : Shape).Idx → EReal) (b h t d : ℕ) : EReal :=
  rout (score (head X (at1 gq) 0 b h) (head X (at1 gk) 512 b h)) (fun s => at2 X (b * 2048 + s) (1024 + (h * 64 + d))) t

end Cert.Stick

end
-- ==== Proof.RefValue.lean ====
/-
  What the reference computes, read at an index: the attention of one head (`Stick.rout`) of the normalised rows.
-/
module

public import proofs.«01_k».proof.Proof.Gen.ReferenceIdeal.Run
public import proofs.«01_k».proof.Proof.Stick
public import Idealize.ShloMosaic.Lib.Pointwise
public import Idealize.ShloMosaic.Lib.IdealHost

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem
open Cert.Stick
open scoped BigOperators

/-! ## The reference in stages -/

def rows (X : FVec Ideal S16384x1536 .f32) : FVec Ideal S8x2048x1536 .f32 := shapeCast _ X shapeCasts_S16384x1536_S8x2048x1536

def xq (X : FVec Ideal S16384x1536 .f32) : FVec Ideal S8x2048x8x64 .f32 :=
  shapeCast _ (extractStridedSlice S8x2048x512 ![0, 0, 0] (rows X) slices_S8x2048x1536_S8x2048x512_0_0_0) shapeCasts_S8x2048x512_S8x2048x8x64

def xk (X : FVec Ideal S16384x1536 .f32) : FVec Ideal S8x2048x8x64 .f32 :=
  shapeCast _ (extractStridedSlice S8x2048x512 ![0, 0, 512] (rows X) slices_S8x2048x1536_S8x2048x512_0_0_512) shapeCasts_S8x2048x512_S8x2048x8x64

def xv (X : FVec Ideal S16384x1536 .f32) : FVec Ideal S8x2048x8x64 .f32 :=
  shapeCast _ (extractStridedSlice S8x2048x512 ![0, 0, 1024] (rows X) slices_S8x2048x1536_S8x2048x512_0_0_1024) shapeCasts_S8x2048x512_S8x2048x8x64

/-- The rms norm of every head's rows. -/
def norm (x : FVec Ideal S8x2048x8x64 .f32) (g : FVec Ideal S64 .f32) : FVec Ideal S8x2048x8x64 .f32 :=
  mulf (mulf x (broadcastInDim S8x2048x8x64 ![0, 1, 2, 3] bcast_S8x2048x8x1_S8x2048x8x64_0_1_2_3 (Host.rsqrt (addf (Host.divf
    (broadcastInDim S8x2048x8x1 ![0, 1, 2] bcast_S8x2048x8_S8x2048x8x1_0_1_2 (Host.reduceAdd (mulf x x) (constant S_ .f32 0x00000000#32) reducesTo_S8x2048x8x64_S8x2048x8_d3 h_S_))
    (broadcastInDim S8x2048x8x1 ![] bcast_S_S8x2048x8x1 (constant S_ .f32 0x42800000#32)))
    (broadcastInDim S8x2048x8x1 ![] bcast_S_S8x2048x8x1 (constant S_ .f32 0x358637BD#32))))))
    (broadcastInDim S8x2048x8x64 ![0, 1, 2, 3] bcast_S1x1x1x64_S8x2048x8x64_0_1_2_3 (broadcastInDim S1x1x1x64 ![3] bcast_S64_S1x1x1x64_3 g))

/-- The scores. -/
def scores (q k : FVec Ideal S8x2048x8x64 .f32) : FVec Ideal S8x8x2048x2048 .f32 :=
  mulf (Host.dotGeneral dot_S8x2048x8x64_S8x2048x8x64_S8x8x2048x2048_3_3_1_1_02_02 none q k)
    (broadcastInDim S8x8x2048x2048 ![] bcast_S_S8x8x2048x2048 (constant S_ .f32 0x3E000000#32))

def zeros : FVec Ideal S8x8x2048x2048 .f32 := broadcastInDim S8x8x2048x2048 ![] bcast_S_S8x8x2048x2048 (constant S_ .f32 0x00000000#32)

def softplus (x : FVec Ideal S8x8x2048x2048 .f32) : FVec Ideal S8x8x2048x2048 .f32 :=
  select (cmpf .une (subf x zeros) (subf x zeros)) (addf x zeros)
    (addf (maximumf x zeros) (Host.log1p (Host.exp (Host.negf (Host.absf (subf x zeros))))))

/-- The logarithm of the sigmoid of the scores. -/
def logSig (z : FVec Ideal S8x8x2048x2048 .f32) : FVec Ideal S8x8x2048x2048 .f32 := Host.negf (softplus (Host.negf z))

/-- The keys strictly before the query. -/
def before : IVec S8x8x2048x2048 1 :=
  broadcastInDim S8x8x2048x2048 ![2, 3] bcast_S2048x2048_S8x8x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

def zerosId : FVec Ideal S8x8x2048x2048 .f32 := broadcastInDim S8x8x2048x2048 ![] bcast_S_S8x8x2048x2048 (id (constant S_ .f32 0x00000000#32))

/-- The sums from every key on. -/
def suffix (x : FVec Ideal S8x8x2048x2048 .f32) : FVec Ideal S8x8x2048x2048 .f32 :=
  Host.reduceWindowAdd ![1, 1, 1, 2048] ![1, 1, 1, 1] ![0, 0, 0, 0] ![0, 0, 0, 2047] x (broadcastInDim S_ ![] bcast_S_S_ (constant S_ .f32 0x00000000#32))
    reduceWindows_S8x8x2048x2048_S8x8x2048x2048_w1s1p0_0_w1s1p0_0_w1s1p0_0_w2048s1p0_2047 h_S_

/-- The sums after every key. -/
def after (x : FVec Ideal S8x8x2048x2048 .f32) : FVec Ideal S8x8x2048x2048 .f32 :=
  fn_main_v50 (F := Ideal) (extractStridedSlice S8x8x2048x2047 ![0, 0, 0, 1] (suffix x) slices_S8x8x2048x2048_S8x8x2048x2047_0_0_0_1)
    (broadcastInDim S8x8x2048x1 ![] bcast_S_S8x8x2048x1 (constant (F := Ideal) S_ .f32 0x00000000#32))

/-- The weights. -/
def weights (z : FVec Ideal S8x8x2048x2048 .f32) : FVec Ideal S8x8x2048x2048 .f32 :=
  select before (Host.exp (addf (logSig z) (after (select before (subf (logSig z) z) zerosId)))) zerosId

/-- The weighted sums of the values, head by head, laid out in rows. -/
def out (v : FVec Ideal S8x2048x8x64 .f32) (w : FVec Ideal S8x8x2048x2048 .f32) : FVec Ideal S16384x512 .f32 :=
  shapeCast _ (transpose S8x2048x8x64 [0, 3, 1, 2] (Host.dotGeneral dot_S8x2048x8x64_S8x8x2048x2048_S8x8x64x2048_1_3_3_2_02_01 none v w)
    transposes_S8x8x64x2048_S8x2048x8x64_0_3_1_2) shapeCasts_S8x2048x8x64_S16384x512

/-- The reference's result is its stages composed. -/
theorem res_eq (m : (ℓ : Loc nD τ sig) → Buf (Elt Ideal) ℓ) (c : Dev nD) :
    res_main_v56 (F := Ideal) m c =
      out (xv (m ((c.tc : Thread nD τ).loc main_arg0)))
        (weights (scores (norm (xq (m ((c.tc : Thread nD τ).loc main_arg0))) (m ((c.tc : Thread nD τ).loc main_arg1)))
          (norm (xk (m ((c.tc : Thread nD τ).loc main_arg0))) (m ((c.tc : Thread nD τ).loc main_arg2))))) := by
  unfold res_main_v56 out weights after suffix scores norm logSig softplus xq xk xv rows before zeros zerosId fn_main_v50
  rfl

/-! ## The stages at an index -/

theorem xq_at (X : FVec Ideal S16384x1536 .f32) (b : Fin 8) (t : Fin 2048) (h : Fin 8) (d : Fin 64) :
    xq X (ix4 b t h d) = X (ix2 ⟨b.val * 2048 + t.val, by omega⟩ ⟨h.val * 64 + d.val, by omega⟩) := by
  pointwise [xq, rows]

theorem xk_at (X : FVec Ideal S16384x1536 .f32) (b : Fin 8) (t : Fin 2048) (h : Fin 8) (d : Fin 64) :
    xk X (ix4 b t h d) = X (ix2 ⟨b.val * 2048 + t.val, by omega⟩ ⟨512 + (h.val * 64 + d.val), by omega⟩) := by
  pointwise [xk, rows]

theorem xv_at (X : FVec Ideal S16384x1536 .f32) (b : Fin 8) (t : Fin 2048) (h : Fin 8) (d : Fin 64) :
    xv X (ix4 b t h d) = X (ix2 ⟨b.val * 2048 + t.val, by omega⟩ ⟨1024 + (h.val * 64 + d.val), by omega⟩) := by
  pointwise [xv, rows]

theorem norm_at (x : FVec Ideal S8x2048x8x64 .f32) (g : FVec Ideal S64 .f32) (b : Fin 8) (t : Fin 2048) (h : Fin 8) (d : Fin 64) :
    norm x g (ix4 b t h d)
      = x (ix4 b t h d) * Ideal.rsqrt ((∑ e : Fin 64, x (ix4 b t h e) * x (ix4 b t h e)) * ((1 / 64 : ℝ) : EReal) + eps) * g (ix1 d) := by
  pointwise [norm]
  have h64 : Ideal.ofBits FTy.f32 1115684864#32 = ((64 : ℝ) : EReal) := by
    simp [Ideal.ofBits, Ideal.ieee]
    rw [← EReal.coe_mul]
    norm_num
  rw [h64, Ideal.div_coe (by norm_num)]
  rfl

theorem scores_at (q k : FVec Ideal S8x2048x8x64 .f32) (b h : Fin 8) (t s : Fin 2048) :
    scores q k (ix4 b h t s) = (∑ d : Fin 64, q (ix4 b t h d) * k (ix4 b s h d)) * ((1 / 8 : ℝ) : EReal) := by
  pointwise [scores]
  have h8 : Ideal.ofBits FTy.f32 1040187392#32 = ((1 / 8 : ℝ) : EReal) := by
    simp [Ideal.ofBits, Ideal.ieee]
    rw [← EReal.coe_mul]
    norm_num
  rw [h8]

theorem logSig_at (z : FVec Ideal S8x8x2048x2048 .f32) (b h : Fin 8) (t s : Fin 2048) :
    logSig z (ix4 b h t s) = lsig (z (ix4 b h t s)) := by
  pointwise [logSig, softplus, zeros]
  simp [lsig, Ideal.absf_def]

theorem before_at (b h : Fin 8) (t s : Fin 2048) : before (ix4 b h t s) = BitVec.ofBool (decide (s.val < t.val)) := by
  pointwise [before]
  have hs := s.isLt
  have ht := t.isLt
  simp only [IntOp.cmpi, BitVec.slt]
  have e : ∀ n : ℕ, n < 2048 → (BitVec.ofNat 32 n).toInt = n := fun n hn => by
    rw [BitVec.toInt_eq_toNat_of_lt (by rw [BitVec.toNat_ofNat]; omega), BitVec.toNat_ofNat]
    omega
  rw [e _ hs, e _ ht]
  simp

theorem after_at (x : FVec Ideal S8x8x2048x2048 .f32) (b h : Fin 8) (t s : Fin 2048) :
    after x (ix4 b h t s) = if hs : s.val + 1 < 2048 then suffix x (ix4 b h t ⟨s.val + 1, hs⟩) else 0 := by
  pointwise [after, fn_main_v50]
  by_cases hs : s.val < 2047
  · rw [dif_pos hs, dif_pos (by omega)]
    congr 2
    exact Fin.ext (Nat.add_comm _ _)
  · rw [dif_neg hs, dif_neg (by omega)]

theorem out_at (v : FVec Ideal S8x2048x8x64 .f32) (w : FVec Ideal S8x8x2048x2048 .f32) (b : Fin 8) (t : Fin 2048) (h : Fin 8) (d : Fin 64) :
    out v w (ix2 ⟨b.val * 2048 + t.val, by omega⟩ ⟨h.val * 64 + d.val, by omega⟩) = ∑ s : Fin 2048, w (ix4 b h t s) * v (ix4 b s h d) := by
  pointwise [out]
  exact Finset.sum_congr rfl fun _ _ => mul_comm _ _

theorem foldl_add_eq {ι : Type} (f : ι → EReal) : ∀ (l : List ι) (v : EReal), l.foldl (fun r n => r + f n) v = v + (l.map f).sum
  | [], v => by simp
  | a :: l, v => by rw [List.foldl_cons, foldl_add_eq f l, List.map_cons, List.sum_cons, add_assoc]

/-- The window of one axis of 2048: its indices are the axis's. -/
def windowEquiv : Fin 2048 ≃ (⟨4, ![1, 1, 1, 2048]⟩ : Shape).Idx where
  toFun u := ix4 (0 : Fin 1) (0 : Fin 1) (0 : Fin 1) u
  invFun w := w 3
  left_inv u := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A windowed sum as the sum over the window's indices. -/
theorem reduceWindowAdd_eq {s t u : Shape} (window strides lo hi : Fin s.rank → ℕ) (x : FVec Ideal s .f32) (init : FVec Ideal u .f32)
    (h : s.ReduceWindows window strides lo hi t) (hu : 0 < u.numel) (j : t.Idx) :
    Host.reduceWindowAdd (F := Ideal) (φ := .f32) window strides lo hi x init h hu j
      = init (Shape.Idx.first hu) + ∑ w : (⟨s.rank, window⟩ : Shape).Idx,
        if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else init (Shape.Idx.first hu) := by
  rw [← Equiv.sum_comp (⟨s.rank, window⟩ : Shape).rowMajor.symm, Fin.sum_univ_def, ← foldl_add_eq]
  show Host.reduceWindow (· + ·) window strides lo hi x (fun _ : (⟨0, ![]⟩ : Shape).Idx => init (Shape.Idx.first hu)) h (by decide) j = _
  unfold Host.reduceWindow
  congr! 4
  split <;> rfl

theorem suffix_at (x : FVec Ideal S8x8x2048x2048 .f32) (b h : Fin 8) (t s : Fin 2048) :
    suffix x (ix4 b h t s) = ∑ u : Fin 2048, if hu : s.val + u.val < 2048 then x (ix4 b h t ⟨s.val + u.val, hu⟩) else 0 := by
  unfold suffix
  rw [reduceWindowAdd_eq, ← Equiv.sum_comp windowEquiv]
  have h0 : (broadcastInDim S_ ![] bcast_S_S_ (constant (F := Ideal) S_ .f32 0x00000000#32)) (Shape.Idx.first h_S_) = (0 : EReal) :=
    Ideal.ofBits_zero_f32
  rw [h0, zero_add]
  refine Finset.sum_congr rfl fun u _ => ?_
  by_cases hu : s.val + u.val < 2048
  · rw [dif_pos hu, dif_pos]
    · congr 1
      funext a
      match a with
      | ⟨0, _⟩ => exact Fin.ext (by show b.val * 1 + 0 - 0 = b.val; omega)
      | ⟨1, _⟩ => exact Fin.ext (by show h.val * 1 + 0 - 0 = h.val; omega)
      | ⟨2, _⟩ => exact Fin.ext (by show t.val * 1 + 0 - 0 = t.val; omega)
      | ⟨3, _⟩ => exact Fin.ext (by show s.val * 1 + u.val - 0 = s.val + u.val; omega)
    · intro a
      match a with
      | ⟨0, _⟩ => exact ⟨Nat.zero_le _, by show b.val * 1 + 0 - 0 < 8; omega⟩
      | ⟨1, _⟩ => exact ⟨Nat.zero_le _, by show h.val * 1 + 0 - 0 < 8; omega⟩
      | ⟨2, _⟩ => exact ⟨Nat.zero_le _, by show t.val * 1 + 0 - 0 < 2048; omega⟩
      | ⟨3, _⟩ => exact ⟨Nat.zero_le _, by show s.val * 1 + u.val - 0 < 2048; omega⟩
  · rw [dif_neg hu, dif_neg]
    intro hin
    have : s.val * 1 + u.val - 0 < 2048 := (hin 3).2
    omega

/-! ## The result at an index -/

theorem normQ_at (X : FVec Ideal S16384x1536 .f32) (g : FVec Ideal S64 .f32) (b : Fin 8) (t : Fin 2048) (h : Fin 8) (d : Fin 64) :
    norm (xq X) g (ix4 b t h d) = head X (at1 g) 0 b h t d := by
  have e : ∀ e : Fin 64, at2 X (b.val * 2048 + t.val) (0 + (h.val * 64 + e.val)) = xq X (ix4 b t h e) := fun e => by
    rw [xq_at, at2_eq X (by omega) (by omega)]
    congr 2
    exact Fin.ext (Nat.zero_add _)
  rw [norm_at, head, nrm, Finset.sum_range, at1_eq g d.isLt]
  simp only [e]

theorem normK_at (X : FVec Ideal S16384x1536 .f32) (g : FVec Ideal S64 .f32) (b : Fin 8) (t : Fin 2048) (h : Fin 8) (d : Fin 64) :
    norm (xk X) g (ix4 b t h d) = head X (at1 g) 512 b h t d := by
  have e : ∀ e : Fin 64, at2 X (b.val * 2048 + t.val) (512 + (h.val * 64 + e.val)) = xk X (ix4 b t h e) := fun e => by
    rw [xk_at, at2_eq X (by omega) (by omega)]
  rw [norm_at, head, nrm, Finset.sum_range, at1_eq g d.isLt]
  simp only [e]

theorem sum_from (f : ℕ → EReal) {s : ℕ} (hs : s ≤ 2048) :
    (∑ u : Fin 2048, if s + u.val < 2048 then f (s + u.val) else 0) = ∑ u ∈ Finset.Ico s 2048, f u := by
  rw [← Finset.sum_range (fun u => if s + u < 2048 then f (s + u) else 0), Finset.sum_Ico_eq_sum_range]
  have e : ∑ u ∈ Finset.range 2048, (if s + u < 2048 then f (s + u) else 0)
      = ∑ u ∈ Finset.range (2048 - s), if s + u < 2048 then f (s + u) else 0 :=
    (Finset.sum_subset (Finset.range_mono (Nat.sub_le _ _)) fun u _ hu => by
      rw [Finset.mem_range] at hu; exact if_neg (by omega)).symm
  rw [e]
  exact Finset.sum_congr rfl fun u hu => by rw [Finset.mem_range] at hu; exact if_pos (by omega)

theorem weights_at (z : FVec Ideal S8x8x2048x2048 .f32) (Z : ℕ → ℕ → EReal) (b h : Fin 8)
    (hz : ∀ t s : Fin 2048, z (ix4 b h t s) = Z t s) (t s : Fin 2048) : weights z (ix4 b h t s) = ratt Z t s := by
  have hl : ∀ u : Fin 2048, select before (subf (logSig z) z) zerosId (ix4 b h t u) = rl1 Z t u := fun u => by
    show (if before (ix4 b h t u) = 1#1 then logSig z (ix4 b h t u) - z (ix4 b h t u) else Ideal.ofBits .f32 0x00000000#32) = _
    rw [before_at, logSig_at, hz, Ideal.ofBits_zero_f32, rl1]
    by_cases hu : u.val < t.val <;> simp [hu]
  have ha : after (select before (subf (logSig z) z) zerosId) (ix4 b h t s) = ∑ u ∈ Finset.Ico (s.val + 1) 2048, rl1 Z t u := by
    rw [after_at]
    by_cases hs : s.val + 1 < 2048
    · rw [dif_pos hs, suffix_at, ← sum_from _ hs.le]
      exact Finset.sum_congr rfl fun u _ => by
        split
        · rw [hl]
        · rfl
    · rw [dif_neg hs, Finset.Ico_eq_empty (by omega), Finset.sum_empty]
  show (if before (ix4 b h t s) = 1#1 then Ideal.exp (logSig z (ix4 b h t s) + after (select before (subf (logSig z) z) zerosId) (ix4 b h t s))
    else Ideal.ofBits .f32 0x00000000#32) = _
  rw [before_at, logSig_at, hz, Ideal.ofBits_zero_f32, ratt, ha]
  by_cases hu : s.val < t.val <;> simp [hu]

/-- The reference's first result, at batch element `b`, query `t`, head `h` and component `d`. -/
theorem res_at (m : (ℓ : Loc nD τ sig) → Buf (Elt Ideal) ℓ) (c : Dev nD) (b : Fin 8) (t : Fin 2048) (h : Fin 8) (d : Fin 64) :
    res_main_v56 (F := Ideal) m c (ix2 ⟨b.val * 2048 + t.val, by omega⟩ ⟨h.val * 64 + d.val, by omega⟩)
      = attn (m ((c.tc : Thread nD τ).loc main_arg0)) (m ((c.tc : Thread nD τ).loc main_arg1)) (m ((c.tc : Thread nD τ).loc main_arg2)) b h t d := by
  rw [res_eq, attn, rout, Finset.sum_range]
  refine (out_at _ _ b t h d).trans ?_
  refine Finset.sum_congr rfl fun (s : Fin 2048) _ => ?_
  rw [xv_at, at2_eq _ (by omega) (by omega)]
  congr 1
  refine weights_at _ _ b h (fun t s => ?_) t s
  rw [scores_at, score, Finset.sum_range]
  simp only [normQ_at, normK_at]

end Cert.ReferenceIdeal.RefValue

end
-- ==== Proof.Layout.lean ====
/-
  The kernel's vector operations read at an index: the layout operations, the products, and the contents of a buffer
  after a list of stores. Nothing here depends on a printed program.
-/
module

public import proofs.«01_k».proof.Proof.Stick
public import Idealize.ShloMosaic.Lib.WritesUnit
public import Idealize.ShloMosaic.Lib.MatmulPlain
public import Idealize.ShloMosaic.Lib.Pipeline.Value
public import Idealize.ShloMosaic.Lib.Pointwise

@[expose] public section

noncomputable section

namespace Cert.Layout

open Idealize.ShloMosaic Idealize.ShloMosaic.TcCoe Idealize.SL.Sem
open Cert.Stick
open scoped BigOperators

abbrev D2 (a b : ℕ) : Shape := ⟨2, ![a, b]⟩
abbrev D3 (a b c : ℕ) : Shape := ⟨3, ![a, b, c]⟩
abbrev D4 (a b c d : ℕ) : Shape := ⟨4, ![a, b, c, d]⟩

/-! ## Layout operations -/

section Casts

variable {α : Type} {n c : ℕ}

theorem cast_add1 (x : (D2 n c).Idx → α) (h : (D2 n c).ShapeCasts (D3 1 n c)) (y : (D3 1 n c).Idx) :
    shapeCast (D3 1 n c) x h y = x (ix2 (n0 := n) (n1 := c) (y 1) (y 2)) := by
  refine Idealize.ShloMosaic.shapeCast_apply x h y _ ?_
  have h0 : (y 0).val = 0 := Nat.lt_one_iff.mp (y 0).isLt
  rw [Shape.rowMajor_val_two, Shape.rowMajor_val_three, h0, Nat.zero_mul, Nat.zero_add]
  rfl

theorem cast_drop1 (x : (D3 1 n c).Idx → α) (h : (D3 1 n c).ShapeCasts (D2 n c)) (y : (D2 n c).Idx) :
    shapeCast (D2 n c) x h y = x (ix3 (n0 := 1) (n1 := n) (n2 := c) 0 (y 0) (y 1)) := by
  refine Idealize.ShloMosaic.shapeCast_apply x h y _ ?_
  rw [Shape.rowMajor_val_two, Shape.rowMajor_val_three]
  show (0 * n + (y 0).val) * c + (y 1).val = (y 0).val * c + (y 1).val
  rw [Nat.zero_mul, Nat.zero_add]

theorem cast_add2 (x : (D2 n c).Idx → α) (h : (D2 n c).ShapeCasts (D4 1 1 n c)) (y : (D4 1 1 n c).Idx) :
    shapeCast (D4 1 1 n c) x h y = x (ix2 (n0 := n) (n1 := c) (y 2) (y 3)) := by
  refine Idealize.ShloMosaic.shapeCast_apply x h y _ ?_
  have h0 : (y 0).val = 0 := Nat.lt_one_iff.mp (y 0).isLt
  have h1 : (y 1).val = 0 := Nat.lt_one_iff.mp (y 1).isLt
  rw [Shape.rowMajor_val_two, Shape.rowMajor_val_four, h0, h1]
  show (y 2).val * c + (y 3).val = ((0 * 1 + 0) * n + (y 2).val) * c + (y 3).val
  simp

theorem cast_drop2 (x : (D4 1 1 n c).Idx → α) (h : (D4 1 1 n c).ShapeCasts (D2 n c)) (y : (D2 n c).Idx) :
    shapeCast (D2 n c) x h y = x (ix4 (n0 := 1) (n1 := 1) (n2 := n) (n3 := c) 0 0 (y 0) (y 1)) := by
  refine Idealize.ShloMosaic.shapeCast_apply x h y _ ?_
  rw [Shape.rowMajor_val_two, Shape.rowMajor_val_four]
  show ((0 * 1 + 0) * n + (y 0).val) * c + (y 1).val = (y 0).val * c + (y 1).val
  simp

theorem slice_at {n' c' a b : ℕ} (x : (D2 n c).Idx → α) (h : (D2 n c).Slices ![a, b] (D2 n' c')) (y : (D2 n' c').Idx)
    (k : (D2 n c).Idx) (h0 : (k 0).val = a + (y 0).val) (h1 : (k 1).val = b + (y 1).val) :
    extractStridedSlice (D2 n' c') ![a, b] x h y = x k :=
  extractStridedSlice_apply _ x h y k fun ax => by
    match ax with
    | ⟨0, _⟩ => exact h0
    | ⟨1, _⟩ => exact h1

theorem idx2_ext {a b : ℕ} {x y : (D2 a b).Idx} (h0 : (x 0).val = (y 0).val) (h1 : (x 1).val = (y 1).val) : x = y :=
  funext fun ax => match ax with
    | ⟨0, _⟩ => Fin.ext h0
    | ⟨1, _⟩ => Fin.ext h1

end Casts

/-! ## Products -/

theorem mm_at {P K N : ℕ} {φ₁ φ₂ : FTy} (a : FVec Ideal (D2 P K) φ₁) (b : FVec Ideal (D2 K N) φ₂) (y : (D2 P N).Idx) :
    FloatOps.matmul (DotDims.plain P K N) none a b (constant (D2 P N) .f32 0x00000000#32) y
      = ∑ k : Fin K, (a (ix2 (n0 := P) (n1 := K) (y 0) k) : EReal) * b (ix2 (n0 := K) (n1 := N) k (y 1)) := by
  obtain ⟨r, q, rfl⟩ : ∃ (r : Fin P) (q : Fin N), y = ValueIdx.ix2 r q := ⟨y 0, y 1, idx2_ext rfl rfl⟩
  refine (Ideal.matmul_plain_apply _ _ _ _ _ _).trans ?_
  have hz : (constant (F := Ideal) (D2 P N) .f32 0x00000000#32) (ValueIdx.ix2 r q) = (0 : EReal) := Ideal.ofBits_zero_f32
  refine (congrArg (· + _) hz).trans ((zero_add _).trans ?_)
  refine Finset.sum_congr rfl fun k _ => ?_
  have e1 : (ValueIdx.ix2 (n0 := P) (n1 := K) r k) = ix2 (n0 := P) (n1 := K) r k := idx2_ext rfl rfl
  have e2 : (ValueIdx.ix2 (n0 := K) (n1 := N) k q) = ix2 (n0 := K) (n1 := N) k q := idx2_ext rfl rfl
  rw [e1, e2]
  rfl

/-- A sum over two halves in which only half `h` counts. -/
theorem sum_half {N h : ℕ} (hN : 0 < N) (hh : h < 2) (f g : ℕ → EReal) :
    ∑ k ∈ Finset.range (N + N), f k * (if k / N = h then g k else 0) = ∑ d ∈ Finset.range N, f (N * h + d) * g (N * h + d) := by
  rw [Finset.sum_range_add]
  have lo : ∀ d ∈ Finset.range N, d / N = 0 := fun d hd => Nat.div_eq_of_lt (Finset.mem_range.mp hd)
  have hi : ∀ d ∈ Finset.range N, (N + d) / N = 1 := fun d hd => by
    rw [Nat.add_div_left _ hN, Nat.div_eq_of_lt (Finset.mem_range.mp hd)]
  obtain rfl | rfl : h = 0 ∨ h = 1 := by omega
  · have z : ∑ d ∈ Finset.range N, f (N + d) * (if (N + d) / N = 0 then g (N + d) else 0) = 0 :=
      Finset.sum_eq_zero fun d hd => by rw [hi d hd, if_neg (by decide), mul_zero]
    rw [z, add_zero]
    exact Finset.sum_congr rfl fun d hd => by rw [if_pos (lo d hd), Nat.mul_zero, Nat.zero_add]
  · have z : ∑ d ∈ Finset.range N, f d * (if d / N = 1 then g d else 0) = 0 :=
      Finset.sum_eq_zero fun d hd => by rw [lo d hd, if_neg (by decide), mul_zero]
    rw [z, zero_add]
    exact Finset.sum_congr rfl fun d hd => by rw [if_pos (hi d hd), Nat.mul_one]

/-! ## A buffer after a list of stores -/

section Read

variable {sig : RefSig} {κ : Kind} {sp : Space} {s : Shape} {e : EltTy}

/-- What the buffer seen through `v` holds after the stores `L` (newest first). -/
def rd (v : View sig κ sp s e) (L : List (View.Piece (Elt Ideal) s e)) (y : s.Idx) : Elt Ideal e :=
  v.read (Elt Ideal) (v.writes (Elt Ideal) v.junk L) y

theorem rd_hit (v : View sig κ sp s e) {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    rd v (⟨Rect.unit off size inb, w⟩ :: L) y = w x :=
  View.read_writes_cons_unit_of_mem v _ inb w L y x rfl hx

theorem rd_miss (v : View sig κ sp s e) {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    rd v (⟨Rect.unit off size inb, w⟩ :: L) y = rd v L y :=
  View.read_writes_cons_unit_of_not_mem v _ inb w L y rfl a ha

theorem cov_at (v : View sig κ sp s e) (L : List (View.Piece (Elt Ideal) s e)) (B : LoadRect s) (x : B.shape.Idx) :
    v.readCov L B x = rd v L (B.idx x) := rfl

theorem hit2 {a b o0 o1 n0 n1 : ℕ} (v : View sig κ sp (D2 a b) e) (inb : ∀ i : Fin 2, (![o0, o1] : Fin 2 → ℕ) i + (![n0, n1] : Fin 2 → ℕ) i ≤ (D2 a b).size i)
    (w : (D2 n0 n1).Idx → Elt Ideal e) (L : List (View.Piece (Elt Ideal) (D2 a b) e)) (y : (D2 a b).Idx) (x : (D2 n0 n1).Idx)
    (h0 : (y 0).val = o0 + (x 0).val) (h1 : (y 1).val = o1 + (x 1).val) :
    rd v (⟨Rect.unit (s := D2 a b) ![o0, o1] ![n0, n1] inb, w⟩ :: L) y = w x :=
  rd_hit v inb w L y x fun ax => match ax with
    | ⟨0, _⟩ => h0
    | ⟨1, _⟩ => h1

theorem hit3 {a b c o0 o1 o2 n0 n1 n2 : ℕ} (v : View sig κ sp (D3 a b c) e)
    (inb : ∀ i : Fin 3, (![o0, o1, o2] : Fin 3 → ℕ) i + (![n0, n1, n2] : Fin 3 → ℕ) i ≤ (D3 a b c).size i)
    (w : (D3 n0 n1 n2).Idx → Elt Ideal e) (L : List (View.Piece (Elt Ideal) (D3 a b c) e)) (y : (D3 a b c).Idx) (x : (D3 n0 n1 n2).Idx)
    (h0 : (y 0).val = o0 + (x 0).val) (h1 : (y 1).val = o1 + (x 1).val) (h2 : (y 2).val = o2 + (x 2).val) :
    rd v (⟨Rect.unit (s := D3 a b c) ![o0, o1, o2] ![n0, n1, n2] inb, w⟩ :: L) y = w x :=
  rd_hit v inb w L y x fun ax => match ax with
    | ⟨0, _⟩ => h0
    | ⟨1, _⟩ => h1
    | ⟨2, _⟩ => h2

theorem hit4 {a b c d o0 o1 o2 o3 n0 n1 n2 n3 : ℕ} (v : View sig κ sp (D4 a b c d) e)
    (inb : ∀ i : Fin 4, (![o0, o1, o2, o3] : Fin 4 → ℕ) i + (![n0, n1, n2, n3] : Fin 4 → ℕ) i ≤ (D4 a b c d).size i)
    (w : (D4 n0 n1 n2 n3).Idx → Elt Ideal e) (L : List (View.Piece (Elt Ideal) (D4 a b c d) e)) (y : (D4 a b c d).Idx) (x : (D4 n0 n1 n2 n3).Idx)
    (h0 : (y 0).val = o0 + (x 0).val) (h1 : (y 1).val = o1 + (x 1).val) (h2 : (y 2).val = o2 + (x 2).val) (h3 : (y 3).val = o3 + (x 3).val) :
    rd v (⟨Rect.unit (s := D4 a b c d) ![o0, o1, o2, o3] ![n0, n1, n2, n3] inb, w⟩ :: L) y = w x :=
  rd_hit v inb w L y x fun ax => match ax with
    | ⟨0, _⟩ => h0
    | ⟨1, _⟩ => h1
    | ⟨2, _⟩ => h2
    | ⟨3, _⟩ => h3

end Read

end Cert.Layout

end
-- ==== Proof.Tile.lean ====
/-
  One tile of the attention kernel at any number of rows: what each stage leaves in its buffer, given what the stage
  before left. The rows are those of a block of 512 queries starting at `t0`; `j` numbers the tiles of 128 keys.
-/
module

public import proofs.«01_k».proof.Proof.Layout
public import proofs.«01_k».proof.KernelIdeal

@[expose] public section

set_option maxRecDepth 8192

noncomputable section

namespace Cert.KernelIdeal.Tile

open Idealize.ShloMosaic Idealize.ShloMosaic.TcCoe Idealize.SL.Sem
open Cert.Stick Cert.Layout
open scoped BigOperators

/-! ## Constants and elementwise stages -/

theorem one_f32 : Ideal.ofBits .f32 0x3F800000#32 = (1 : EReal) := by
  have : Ideal.ofBits .f32 0x3F800000#32 = ((1 : ℝ) : EReal) := by
    simp [Ideal.ofBits, Ideal.ieee]; rw [← EReal.coe_mul]; norm_num
  exact this

theorem log2e_eq : Named.named (F := Ideal) Cert.KernelIdeal.κ "log2e" (φ := .f32) 0x3FB8AA3B#32 = (lg : EReal) :=
  IdealRules.named_const.ideal_named_scalar _ _ _ _ rfl

section Elementwise

variable {n : ℕ}

/-- The logarithm of the sigmoid of a block of base-two scores. -/
abbrev lsV (x : FVec Ideal (D2 n 256) .f32) : FVec Ideal (D2 n 256) .f32 :=
  subf (minimumf x (broadcast (D2 n 256) (Scalar.ofBits (F := Ideal) .f32 0x00000000#32)))
    (mulf (log (addf (broadcast (D2 n 256) (Scalar.ofBits (F := Ideal) .f32 0x3F800000#32))
        (exp2 (subf (broadcast (D2 n 256) (Scalar.ofBits (F := Ideal) .f32 0x00000000#32)) (absf x)))))
      (broadcast (D2 n 256) (Named.named (F := Ideal) Cert.KernelIdeal.κ "log2e" (φ := .f32) 0x3FB8AA3B#32)))

theorem lsV_at (x : FVec Ideal (D2 n 256) .f32) (y : (D2 n 256).Idx) : (lsV x y : EReal) = lsig2 (x y) := by
  show min (x y) (Ideal.ofBits .f32 0x00000000#32)
    - Ideal.log (Ideal.ofBits .f32 0x3F800000#32 + Ideal.exp2 (Ideal.ofBits .f32 0x00000000#32 - max (x y) (-(x y))))
      * Named.named (F := Ideal) Cert.KernelIdeal.κ "log2e" (φ := .f32) 0x3FB8AA3B#32 = _
  rw [log2e_eq, one_f32, Ideal.ofBits_zero_f32, zero_sub]
  rfl

end Elementwise

/-- The mask of the diagonal: key strictly before query. -/
def MaskOk (mk : IVec (D2 128 256) 1) : Prop := ∀ y, mk y = if (y 1).val % 128 < (y 0).val then 1#1 else 0#1

abbrev zeros (s : Shape) : FVec Ideal s .f32 := broadcast s (Scalar.ofBits (F := Ideal) .f32 0x00000000#32)

theorem sel_at {mk : IVec (D2 128 256) 1} (hm : MaskOk mk) (a : FVec Ideal (D2 128 256) .f32) (y : (D2 128 256).Idx) :
    (select mk a (zeros (D2 128 256)) y : EReal) = if (y 1).val % 128 < (y 0).val then a y else 0 := by
  show (if mk y = 1#1 then a y else (Ideal.ofBits .f32 0x00000000#32 : EReal)) = _
  rw [hm y, Ideal.ofBits_zero_f32]
  split <;> simp

/-! ## What the buffers hold -/

section Stages

variable {sig : RefSig} {κ : Kind} {sp : Space}

/-- Slot `s` of a pair of blocks holds `G` from row `r0` on. -/
def B3 (v : View sig κ sp (D3 2 512 256) .f32) (L : List (View.Piece (Elt Ideal) (D3 2 512 256) .f32)) (s r0 : ℕ)
    (G : ℕ → ℕ → EReal) : Prop :=
  ∀ y : (D3 2 512 256).Idx, (y 0).val = s → r0 ≤ (y 1).val → (rd v L y : EReal) = G (y 1).val (y 2).val

/-- The same for the buffer that keeps the two heads apart. -/
def B4 (v : View sig κ sp (D4 2 2 512 128) .bf16) (L : List (View.Piece (Elt Ideal) (D4 2 2 512 128) .bf16)) (s r0 : ℕ)
    (G : ℕ → ℕ → ℕ → EReal) : Prop :=
  ∀ y : (D4 2 2 512 128).Idx, (y 0).val = s → r0 ≤ (y 2).val → (rd v L y : EReal) = G (y 1).val (y 2).val (y 3).val

variable {n s r0 : ℕ} {v : View sig κ sp (D3 2 512 256) .f32} {L : List (View.Piece (Elt Ideal) (D3 2 512 256) .f32)}
  {G : ℕ → ℕ → EReal} {v4 : View sig κ sp (D4 2 2 512 128) .bf16} {L4 : List (View.Piece (Elt Ideal) (D4 2 2 512 128) .bf16)}
  {G4 : ℕ → ℕ → ℕ → EReal}

theorem single3 {inb} {w : (D3 1 n 256).Idx → EReal} (hw : ∀ x, w x = G (r0 + (x 1).val) (x 2).val) (hn : r0 + n = 512) :
    B3 v (⟨Rect.unit (s := D3 2 512 256) ![s, r0, 0] ![1, n, 256] inb, w⟩ :: L) s r0 G := by
  intro y h0 h1
  have b1 : (y 1).val < 512 := (y 1).isLt
  have b2 : (y 2).val < 256 := (y 2).isLt
  refine (hit3 v inb w L y (ix3 (n0 := 1) (n1 := n) (n2 := 256) 0 ⟨(y 1).val - r0, by omega⟩ ⟨(y 2).val, b2⟩) ?_ ?_ ?_).trans
    ((hw _).trans ?_)
  · show (y 0).val = s + 0
    omega
  · show (y 1).val = r0 + ((y 1).val - r0)
    omega
  · show (y 2).val = 0 + (y 2).val
    omega
  · show G (r0 + ((y 1).val - r0)) (y 2).val = _
    rw [Nat.add_sub_cancel' h1]

theorem pair3 {inb inb'} {w1 w0 : (D3 1 n 128).Idx → EReal} (hw1 : ∀ x, w1 x = G (r0 + (x 1).val) (128 + (x 2).val))
    (hw0 : ∀ x, w0 x = G (r0 + (x 1).val) (0 + (x 2).val)) (hn : r0 + n = 512) :
    B3 v (⟨Rect.unit (s := D3 2 512 256) ![s, r0, 128] ![1, n, 128] inb, w1⟩
      :: ⟨Rect.unit (s := D3 2 512 256) ![s, r0, 0] ![1, n, 128] inb', w0⟩ :: L) s r0 G := by
  intro y h0 h1
  have b1 : (y 1).val < 512 := (y 1).isLt
  have b2 : (y 2).val < 256 := (y 2).isLt
  by_cases hc : (y 2).val < 128
  · refine (rd_miss v inb w1 _ y 2 (Or.inl hc)).trans ?_
    refine (hit3 v inb' w0 L y (ix3 (n0 := 1) (n1 := n) (n2 := 128) 0 ⟨(y 1).val - r0, by omega⟩ ⟨(y 2).val, hc⟩) ?_ ?_ ?_).trans
      ((hw0 _).trans ?_)
    · show (y 0).val = s + 0
      omega
    · show (y 1).val = r0 + ((y 1).val - r0)
      omega
    · show (y 2).val = 0 + (y 2).val
      omega
    · show G (r0 + ((y 1).val - r0)) (0 + (y 2).val) = _
      rw [Nat.add_sub_cancel' h1, Nat.zero_add]
  · refine (hit3 v inb w1 _ y (ix3 (n0 := 1) (n1 := n) (n2 := 128) 0 ⟨(y 1).val - r0, by omega⟩ ⟨(y 2).val - 128, by omega⟩)
      ?_ ?_ ?_).trans ((hw1 _).trans ?_)
    · show (y 0).val = s + 0
      omega
    · show (y 1).val = r0 + ((y 1).val - r0)
      omega
    · show (y 2).val = 128 + ((y 2).val - 128)
      omega
    · show G (r0 + ((y 1).val - r0)) (128 + ((y 2).val - 128)) = _
      rw [Nat.add_sub_cancel' h1, Nat.add_sub_cancel' (by omega)]

theorem pair4 {inb inb'} {w1 w0 : (D4 1 1 n 128).Idx → EReal} (hw1 : ∀ x, w1 x = G4 1 (r0 + (x 2).val) (x 3).val)
    (hw0 : ∀ x, w0 x = G4 0 (r0 + (x 2).val) (x 3).val) (hn : r0 + n = 512) :
    B4 v4 (⟨Rect.unit (s := D4 2 2 512 128) ![s, 1, r0, 0] ![1, 1, n, 128] inb, w1⟩
      :: ⟨Rect.unit (s := D4 2 2 512 128) ![s, 0, r0, 0] ![1, 1, n, 128] inb', w0⟩ :: L4) s r0 G4 := by
  intro y h0 h1
  have b1 : (y 1).val < 2 := (y 1).isLt
  have b2 : (y 2).val < 512 := (y 2).isLt
  have b3 : (y 3).val < 128 := (y 3).isLt
  by_cases hc : (y 1).val < 1
  · have e1 : (y 1).val = 0 := by omega
    refine (rd_miss v4 inb w1 _ y 1 (Or.inl hc)).trans ?_
    refine (hit4 v4 inb' w0 L4 y (ix4 (n0 := 1) (n1 := 1) (n2 := n) (n3 := 128) 0 0 ⟨(y 2).val - r0, by omega⟩ ⟨(y 3).val, b3⟩)
      ?_ ?_ ?_ ?_).trans ((hw0 _).trans ?_)
    · show (y 0).val = s + 0
      omega
    · show (y 1).val = 0 + 0
      omega
    · show (y 2).val = r0 + ((y 2).val - r0)
      omega
    · show (y 3).val = 0 + (y 3).val
      omega
    · show G4 0 (r0 + ((y 2).val - r0)) (y 3).val = _
      rw [Nat.add_sub_cancel' h1, e1]
  · have e1 : (y 1).val = 1 := by omega
    refine (hit4 v4 inb w1 _ y (ix4 (n0 := 1) (n1 := 1) (n2 := n) (n3 := 128) 0 0 ⟨(y 2).val - r0, by omega⟩ ⟨(y 3).val, b3⟩)
      ?_ ?_ ?_ ?_).trans ((hw1 _).trans ?_)
    · show (y 0).val = s + 0
      omega
    · show (y 1).val = 1 + 0
      omega
    · show (y 2).val = r0 + ((y 2).val - r0)
      omega
    · show (y 3).val = 0 + (y 3).val
      omega
    · show G4 1 (r0 + ((y 2).val - r0)) (y 3).val = _
      rw [Nat.add_sub_cancel' h1, e1]

/-! ### Loads -/

theorem ld3 (hL : B3 v L s r0 G) {r n' c0 c' : ℕ} (hr : r0 ≤ r) {inb} (h : (D3 1 n' c').ShapeCasts (D2 n' c')) (y : (D2 n' c').Idx) :
    (shapeCast (D2 n' c') (v.readCov L (Rect.unit (s := D3 2 512 256) ![s, r, c0] ![1, n', c'] inb).toLoadRect) h y : EReal)
      = G (r + (y 0).val) (c0 + (y 1).val) := by
  refine (cast_drop1 _ h y).trans ?_
  refine (hL _ ?_ ?_).trans ?_
  · show s + 1 * 0 = s
    omega
  · show r0 ≤ r + 1 * (y 0).val
    omega
  · show G (r + 1 * (y 0).val) (c0 + 1 * (y 1).val) = _
    rw [Nat.one_mul, Nat.one_mul]

theorem ld4 (hL : B4 v4 L4 s r0 G4) {r n' h : ℕ} (hr : r0 ≤ r) {inb} (hc : (D4 1 1 n' 128).ShapeCasts (D2 n' 128)) (y : (D2 n' 128).Idx) :
    (shapeCast (D2 n' 128) (v4.readCov L4 (Rect.unit (s := D4 2 2 512 128) ![s, h, r, 0] ![1, 1, n', 128] inb).toLoadRect) hc y : EReal)
      = G4 h (r + (y 0).val) (y 1).val := by
  refine (cast_drop2 _ hc y).trans ?_
  refine (hL _ ?_ ?_).trans ?_
  · show s + 1 * 0 = s
    omega
  · show r0 ≤ r + 1 * (y 0).val
    omega
  · show G4 (h + 1 * 0) (r + 1 * (y 0).val) (0 + 1 * (y 1).val) = _
    simp only [Nat.one_mul, Nat.zero_add, Nat.add_zero]

theorem ldW (hL : B3 v L s r0 G) {r n' : ℕ} (hr : r0 ≤ r) {inb inb' p q hw}
    (hR : (Rect.unit (s := D2 512 256) ![r, 0] ![n', 256] inb').toLoadRect.shape.numel
      = ((Rect.unit (s := D3 2 512 256) ![s, 0, 0] ![1, 512, 256] inb).withinL
          ((Rect.unit (s := D2 512 256) ![r, 0] ![n', 256] inb').toLoadRect.consLift ![1, 512, 256] p q) hw).shape.numel)
    (y : (D2 n' 256).Idx) :
    (LoadRect.valAlong (lr := (Rect.unit (s := D2 512 256) ![r, 0] ![n', 256] inb').toLoadRect) hR
      (v.readCov L ((Rect.unit (s := D3 2 512 256) ![s, 0, 0] ![1, 512, 256] inb).withinL
          ((Rect.unit (s := D2 512 256) ![r, 0] ![n', 256] inb').toLoadRect.consLift ![1, 512, 256] p q) hw)) y : EReal)
      = G (r + (y 0).val) (y 1).val := by
  have e : Shape.reshapeEquiv hR y = Fin.cons ⟨0, Nat.one_pos⟩ y := Shape.reshapeEquiv_cons_one (d := ![n', 256]) _ _
  show (rd v L (LoadRect.idx _ (Shape.reshapeEquiv hR y)) : EReal) = _
  rw [e]
  refine (hL _ ?_ ?_).trans ?_
  · show s + 0 + 1 * 0 = s
    omega
  · show r0 ≤ 0 + r + 1 * (y 0).val
    omega
  · show G (0 + r + 1 * (y 0).val) (0 + 0 + 1 * (y 1).val) = _
    simp only [Nat.one_mul, Nat.zero_add]

/-! ### The stages -/

/-- The scores of a block: a row `r` of the block against the key in lane `c`, the two heads side by side. -/
def zG (Z : ℕ → ℕ → ℕ → EReal) (t0 j r c : ℕ) : EReal := Z (c / 128) (t0 + r) (128 * j + c % 128)

def lG (Z : ℕ → ℕ → ℕ → EReal) (t0 j r c : ℕ) : EReal := lsig2 (Z (c / 128) (t0 + r) (128 * j + c % 128))

def tG (Z : ℕ → ℕ → ℕ → EReal) (t0 j h r c : ℕ) : EReal := kl1 (Z h) (t0 + r) (128 * j + c)

/-- The logarithm of the sigmoid and the breaks of the later keys of the tile. -/
def pG (Z : ℕ → ℕ → ℕ → EReal) (t0 j r c : ℕ) : EReal :=
  lsig2 (Z (c / 128) (t0 + r) (128 * j + c % 128))
    + ∑ e ∈ Finset.range 128, if c % 128 < e then kl1 (Z (c / 128)) (t0 + r) (128 * j + e) else 0

/-- The breaks of all keys of the tile. -/
def sG (Z : ℕ → ℕ → ℕ → EReal) (t0 j r c : ℕ) : EReal := ∑ e ∈ Finset.range 128, kl1 (Z (c / 128)) (t0 + r) (128 * j + e)

def QOk (v : View sig κ sp (D2 2048 128) .bf16) (L : List (View.Piece (Elt Ideal) (D2 2048 128) .bf16)) (Qn : ℕ → ℕ → EReal) : Prop :=
  ∀ y : (D2 2048 128).Idx, (rd v L y : EReal) = Qn (y 0).val (y 1).val

/-- The keys of a tile, transposed, one head per half of the lanes and zero off the diagonal blocks. -/
def KOk (v : View sig κ sp (D3 16 128 256) .bf16) (L : List (View.Piece (Elt Ideal) (D3 16 128 256) .bf16)) (Kn : ℕ → ℕ → EReal) : Prop :=
  ∀ y : (D3 16 128 256).Idx, (rd v L y : EReal)
    = if (y 1).val / 64 = (y 2).val / 128 then Kn (128 * (y 0).val + (y 2).val % 128) (y 1).val else 0

/-- The values of a tile, one head per half of the rows and zero off the diagonal blocks. -/
def VOk (v : View sig κ sp (D3 16 256 128) .bf16) (L : List (View.Piece (Elt Ideal) (D3 16 256 128) .bf16)) (V : ℕ → ℕ → EReal) : Prop :=
  ∀ y : (D3 16 256 128).Idx, (rd v L y : EReal)
    = if (y 1).val / 128 = (y 2).val / 64 then V (128 * (y 0).val + (y 1).val % 128) (y 2).val else 0

/-- The base-two scores of a head. -/
def zOf (Qn Kn : ℕ → ℕ → EReal) (h t s : ℕ) : EReal := ∑ d ∈ Finset.range 64, Qn t (64 * h + d) * Kn s (64 * h + d)

/-- Ones where a later key breaks before the lane's key, and in the second half everywhere. -/
def TriOk (w : FVec Ideal (D2 128 256) .bf16) : Prop :=
  ∀ y : (D2 128 256).Idx, (w y : EReal) = if 128 ≤ (y 1).val ∨ (y 1).val < (y 0).val then 1 else 0

variable {Z : ℕ → ℕ → ℕ → EReal} {t0 j : ℕ}

theorem qk_at {vQ : View sig κ sp (D2 2048 128) .bf16} {LQ Qn} (hQ : QOk vQ LQ Qn)
    {vK : View sig κ sp (D3 16 128 256) .bf16} {LK Kn} (hK : KOk vK LK Kn) {q0 : ℕ} (hq : q0 = t0 + r0) {inb inb' h h'}
    (x : (D3 1 n 256).Idx) :
    (shapeCast (D3 1 n 256) (FloatOps.matmul (F := Ideal) (φ₁ := .bf16) (φ₂ := .bf16) (DotDims.plain n 128 256) none
        (vQ.readCov LQ (Rect.unit (s := D2 2048 128) ![q0, 0] ![n, 128] inb).toLoadRect)
        (shapeCast (D2 128 256) (vK.readCov LK (Rect.unit (s := D3 16 128 256) ![j, 0, 0] ![1, 128, 256] inb').toLoadRect) h)
        (constant (D2 n 256) .f32 0x00000000#32)) h' x : EReal)
      = zG (zOf Qn Kn) t0 j (r0 + (x 1).val) (x 2).val := by
  have b2 : (x 2).val < 256 := (x 2).isLt
  refine (cast_add1 _ h' x).trans ((mm_at _ _ _).trans ?_)
  refine Eq.trans (b := ∑ k : Fin 128, Qn (q0 + (x 1).val) k.val
    * (if k.val / 64 = (x 2).val / 128 then Kn (128 * j + (x 2).val % 128) k.val else 0)) (Finset.sum_congr rfl fun k _ => ?_) ?_
  · refine congrArg₂ (· * ·)
      ((hQ ((Rect.unit (s := D2 2048 128) ![q0, 0] ![n, 128] inb).toLoadRect.idx (ix2 (n0 := n) (n1 := 128) (x 1) k))).trans ?_)
      ((cast_drop1 _ h (ix2 (n0 := 128) (n1 := 256) k (x 2))).trans
        ((hK ((Rect.unit (s := D3 16 128 256) ![j, 0, 0] ![1, 128, 256] inb').toLoadRect.idx
            (ix3 (n0 := 1) (n1 := 128) (n2 := 256) 0 k (x 2)))).trans ?_))
    · show Qn (q0 + 1 * (x 1).val) (0 + 1 * k.val) = _
      rw [Nat.one_mul, Nat.one_mul, Nat.zero_add]
    · show (if (0 + 1 * k.val) / 64 = (0 + 1 * (x 2).val) / 128
        then Kn (128 * (j + 1 * 0) + (0 + 1 * (x 2).val) % 128) (0 + 1 * k.val) else 0) = _
      simp only [Nat.one_mul, Nat.zero_add, Nat.mul_zero, Nat.add_zero]
  refine (Finset.sum_range (fun k => Qn (q0 + (x 1).val) k
    * (if k / 64 = (x 2).val / 128 then Kn (128 * j + (x 2).val % 128) k else 0))).symm.trans ?_
  refine (sum_half (N := 64) (by omega) (by omega) (fun k => Qn (q0 + (x 1).val) k) (fun k => Kn (128 * j + (x 2).val % 128) k)).trans ?_
  rw [hq, Nat.add_assoc]
  rfl

theorem ls_at (hZ : B3 v L s r0 (zG Z t0 j)) {inb h h'} (x : (D3 1 n 256).Idx) :
    (shapeCast (D3 1 n 256) (lsV (shapeCast (D2 n 256)
      (v.readCov L (Rect.unit (s := D3 2 512 256) ![s, r0, 0] ![1, n, 256] inb).toLoadRect) h)) h' x : EReal)
      = lG Z t0 j (r0 + (x 1).val) (x 2).val := by
  refine (cast_add1 _ h' x).trans ((lsV_at _ _).trans (congrArg lsig2 ((ld3 hZ le_rfl h _).trans ?_)))
  show zG Z t0 j (r0 + (x 1).val) (0 + (x 2).val) = _
  rw [Nat.zero_add]
  rfl

/-- The scores read back, and the logarithm of what their breaks leave. -/
abbrev l1V (x : FVec Ideal (D2 n 256) .f32) : FVec Ideal (D2 n 256) .f32 := subf (lsV x) x

theorem l1V_at (hZ : B3 v L s r0 (zG Z t0 j)) {inb h} (x : (D2 n 256).Idx) :
    (l1V (shapeCast (D2 n 256) (v.readCov L (Rect.unit (s := D3 2 512 256) ![s, r0, 0] ![1, n, 256] inb).toLoadRect) h) x : EReal)
      = lsig2 (Z ((x 1).val / 128) (t0 + (r0 + (x 0).val)) (128 * j + (x 1).val % 128))
        - Z ((x 1).val / 128) (t0 + (r0 + (x 0).val)) (128 * j + (x 1).val % 128) := by
  refine congrArg₂ (· - ·) ((lsV_at _ _).trans (congrArg lsig2 ((ld3 hZ le_rfl h _).trans ?_))) ((ld3 hZ le_rfl h _).trans ?_) <;>
  · show zG Z t0 j (r0 + (x 0).val) (0 + (x 1).val) = _
    rw [Nat.zero_add]
    rfl

/-- `u` holds the logarithms of what the breaks leave, rows from `r0` on. -/
def KlOk (u : FVec Ideal (D2 n 256) .f32) (Z : ℕ → ℕ → ℕ → EReal) (t0 r0 j : ℕ) : Prop :=
  ∀ y : (D2 n 256).Idx, (u y : EReal) = kl1 (Z ((y 1).val / 128)) (t0 + (r0 + (y 0).val)) (128 * j + (y 1).val % 128)

theorem half_at {u : FVec Ideal (D2 n 256) .f32} {hh : ℕ} (hb : hh < 2) {c0 : ℕ} (hc : c0 = 128 * hh)
    (hu : KlOk u Z t0 r0 j)
    {h h' ht} (x : (D4 1 1 n 128).Idx) :
    (shapeCast (D4 1 1 n 128) (extractStridedSlice (D2 n 128) ![0, c0] (truncf (F := Ideal) .bf16 u ht) h) h' x : EReal)
      = tG Z t0 j hh (r0 + (x 2).val) (x 3).val := by
  have b3 : (x 3).val < 128 := (x 3).isLt
  subst hc
  refine (cast_add2 _ h' x).trans ((slice_at _ h _ (ix2 (n0 := n) (n1 := 256) (x 2) ⟨128 * hh + (x 3).val, by omega⟩) ?_ ?_).trans
    ((hu _).trans ?_))
  · show (x 2).val = 0 + (x 2).val
    omega
  · rfl
  · show kl1 (Z ((128 * hh + (x 3).val) / 128)) (t0 + (r0 + (x 2).val)) (128 * j + (128 * hh + (x 3).val) % 128) = _
    rw [show (128 * hh + (x 3).val) / 128 = hh by omega, show (128 * hh + (x 3).val) % 128 = (x 3).val by omega]
    rfl

/-- A tile wholly before the block of queries. -/
theorem l1_off (hZ : B3 v L s r0 (zG Z t0 j)) (hd : 128 * (j + 1) ≤ t0) {inb h} :
    KlOk (l1V (shapeCast (D2 n 256) (v.readCov L (Rect.unit (s := D3 2 512 256) ![s, r0, 0] ![1, n, 256] inb).toLoadRect) h)) Z t0 r0 j := by
  intro y
  rw [l1V_at hZ, kl1, if_pos (by omega)]

/-- The tile of the diagonal, its rows only. -/
theorem l1_diag128 (hZ : B3 v L s r0 (zG Z t0 j)) {mk} (hm : MaskOk mk) (hd : 128 * j = t0 + r0) {inb h} :
    KlOk (select mk (l1V (shapeCast (D2 128 256) (v.readCov L (Rect.unit (s := D3 2 512 256) ![s, r0, 0] ![1, 128, 256] inb).toLoadRect) h))
        (zeros (D2 128 256))) Z t0 r0 j := by
  intro y
  rw [sel_at hm, l1V_at hZ, kl1]
  refine if_congr ?_ rfl rfl
  omega

theorem cat_at {n' : ℕ} (hn : 128 + n' = n) {a : FVec Ideal (D2 128 256) .f32} {b : FVec Ideal (D2 n' 256) .f32} {h}
    {f : ℕ → ℕ → EReal} (ha : ∀ y, (a y : EReal) = f (y 0).val (y 1).val) (hb : ∀ y, (b y : EReal) = f (128 + (y 0).val) (y 1).val)
    (y : (D2 n 256).Idx) :
    (concatenate (D2 n 256) 0 [⟨D2 128 256, a⟩, ⟨D2 n' 256, b⟩] h y : EReal) = f (y 0).val (y 1).val := by
  have b0 : (y 0).val < n := (y 0).isLt
  by_cases hc : (y 0).val < 128
  · refine (concatenate_pair_apply_left 0 _ _ h y rfl (ix2 (n0 := 128) (n1 := 256) ⟨(y 0).val, hc⟩ (y 1)) fun ax => ?_).trans (ha _)
    match ax with
    | ⟨0, _⟩ => rfl
    | ⟨1, _⟩ => rfl
  · refine (concatenate_pair_apply_right 0 _ _ h y rfl rfl (ix2 (n0 := n') (n1 := 256) ⟨(y 0).val - 128, by omega⟩ (y 1))
      (fun ax hx => ?_) ?_).trans ((hb _).trans ?_)
    · match ax with
      | ⟨0, _⟩ => exact absurd rfl hx
      | ⟨1, _⟩ => rfl
    · show (y 0).val - 128 + 128 = (y 0).val
      omega
    · show f (128 + ((y 0).val - 128)) (y 1).val = _
      rw [Nat.add_sub_cancel' (by omega)]

/-- The tile of the diagonal and the rows after it. -/
theorem l1_diag {n' : ℕ} (hn : 128 + n' = n) (hZ : B3 v L s r0 (zG Z t0 j)) {mk} (hm : MaskOk mk) (hd : 128 * j = t0 + r0)
    {inb h h0 h1 hc} :
    KlOk (concatenate (D2 n 256) 0 [⟨D2 128 256, select mk (extractStridedSlice (D2 128 256) ![0, 0]
          (l1V (shapeCast (D2 n 256) (v.readCov L (Rect.unit (s := D3 2 512 256) ![s, r0, 0] ![1, n, 256] inb).toLoadRect) h)) h0)
          (zeros (D2 128 256))⟩,
        ⟨D2 n' 256, extractStridedSlice (D2 n' 256) ![128, 0]
          (l1V (shapeCast (D2 n 256) (v.readCov L (Rect.unit (s := D3 2 512 256) ![s, r0, 0] ![1, n, 256] inb).toLoadRect) h)) h1⟩] hc) Z t0 r0 j := by
  intro y
  refine cat_at hn (f := fun a b => kl1 (Z (b / 128)) (t0 + (r0 + a)) (128 * j + b % 128)) (fun x => ?_) (fun x => ?_) y
  · have b0 : (x 0).val < 128 := (x 0).isLt
    refine (sel_at hm _ x).trans ?_
    rw [slice_at _ h0 x (ix2 (n0 := n) (n1 := 256) ⟨(x 0).val, by omega⟩ (x 1)) (Nat.zero_add _).symm (Nat.zero_add _).symm,
      l1V_at hZ, kl1]
    refine if_congr ?_ rfl rfl
    omega
  · have b0 : (x 0).val < n' := (x 0).isLt
    rw [slice_at _ h1 x (ix2 (n0 := n) (n1 := 256) ⟨128 + (x 0).val, by omega⟩ (x 1)) rfl (Nat.zero_add _).symm,
      l1V_at hZ, kl1, if_pos]
    · rfl
    · show 128 * j + (x 1).val % 128 < t0 + (r0 + (128 + (x 0).val))
      omega

section Cum

variable {vT : View sig κ sp (D4 2 2 512 128) .bf16} {LT : List (View.Piece (Elt Ideal) (D4 2 2 512 128) .bf16)}
  {w : FVec Ideal (D2 128 256) .bf16} {hh : ℕ}

theorem cum_at (hT : B4 vT LT s r0 (tG Z t0 j)) (hw : TriOk w) {inb h} (y : (D2 n 256).Idx) :
    (FloatOps.matmul (F := Ideal) (φ₁ := .bf16) (φ₂ := .bf16) (DotDims.plain n 128 256) none
        (shapeCast (D2 n 128) (vT.readCov LT (Rect.unit (s := D4 2 2 512 128) ![s, hh, r0, 0] ![1, 1, n, 128] inb).toLoadRect) h)
        w (constant (D2 n 256) .f32 0x00000000#32) y : EReal)
      = ∑ e ∈ Finset.range 128, if 128 ≤ (y 1).val ∨ (y 1).val < e then kl1 (Z hh) (t0 + (r0 + (y 0).val)) (128 * j + e) else 0 := by
  refine (mm_at _ _ _).trans ?_
  refine Eq.trans ?_ (Finset.sum_range (fun e => if 128 ≤ (y 1).val ∨ (y 1).val < e
    then kl1 (Z hh) (t0 + (r0 + (y 0).val)) (128 * j + e) else 0)).symm
  refine Finset.sum_congr rfl fun k _ => ?_
  refine (congrArg₂ (· * ·) (ld4 hT le_rfl h (ix2 (n0 := n) (n1 := 128) (y 0) k)) (hw (ix2 (n0 := 128) (n1 := 256) k (y 1)))).trans ?_
  show tG Z t0 j hh (r0 + (y 0).val) k.val * (if 128 ≤ (y 1).val ∨ (y 1).val < k.val then 1 else 0) = _
  split
  · rw [mul_one]
    rfl
  · rw [mul_zero]

theorem pre_at (hh2 : hh < 2) {c0 : ℕ} (hc : c0 = 128 * hh) (hT : B4 vT LT s r0 (tG Z t0 j)) (hL : B3 v L s r0 (lG Z t0 j)) (hw : TriOk w)
    {inb inb' h h' h0 hx} (x : (D3 1 n 128).Idx) :
    (shapeCast (D3 1 n 128) (addf
        (shapeCast (D2 n 128) (v.readCov L (Rect.unit (s := D3 2 512 256) ![s, r0, c0] ![1, n, 128] inb').toLoadRect) h')
        (extractStridedSlice (D2 n 128) ![0, 0] (FloatOps.matmul (F := Ideal) (φ₁ := .bf16) (φ₂ := .bf16) (DotDims.plain n 128 256) none
          (shapeCast (D2 n 128) (vT.readCov LT (Rect.unit (s := D4 2 2 512 128) ![s, hh, r0, 0] ![1, 1, n, 128] inb).toLoadRect) h)
          w (constant (D2 n 256) .f32 0x00000000#32)) h0)) hx x : EReal)
      = pG Z t0 j (r0 + (x 1).val) (c0 + (x 2).val) := by
  have b2 : (x 2).val < 128 := (x 2).isLt
  subst hc
  refine (cast_add1 _ hx x).trans ?_
  refine (congrArg₂ (· + ·) (ld3 hL le_rfl h' _) ((slice_at _ h0 _ (ix2 (n0 := n) (n1 := 256) (x 1) ⟨(x 2).val, by omega⟩)
    (Nat.zero_add _).symm (Nat.zero_add _).symm).trans (cum_at hT hw _))).trans ?_
  refine congrArg₂ (· + ·) rfl (Finset.sum_congr rfl fun e _ => ?_)
  show (if 128 ≤ (x 2).val ∨ (x 2).val < e then kl1 (Z hh) (t0 + (r0 + (x 1).val)) (128 * j + e) else 0)
    = if (128 * hh + (x 2).val) % 128 < e then kl1 (Z ((128 * hh + (x 2).val) / 128)) (t0 + (r0 + (x 1).val)) (128 * j + e) else 0
  rw [show (128 * hh + (x 2).val) / 128 = hh by omega, show (128 * hh + (x 2).val) % 128 = (x 2).val by omega]
  refine if_congr ?_ rfl rfl
  omega

theorem tot_at (hh2 : hh < 2) {c0 : ℕ} (hc : c0 = 128 * hh) (hT : B4 vT LT s r0 (tG Z t0 j)) (hw : TriOk w)
    {inb h h0 hx} (x : (D3 1 n 128).Idx) :
    (shapeCast (D3 1 n 128)
        (extractStridedSlice (D2 n 128) ![0, 128] (FloatOps.matmul (F := Ideal) (φ₁ := .bf16) (φ₂ := .bf16) (DotDims.plain n 128 256) none
          (shapeCast (D2 n 128) (vT.readCov LT (Rect.unit (s := D4 2 2 512 128) ![s, hh, r0, 0] ![1, 1, n, 128] inb).toLoadRect) h)
          w (constant (D2 n 256) .f32 0x00000000#32)) h0) hx x : EReal)
      = sG Z t0 j (r0 + (x 1).val) (c0 + (x 2).val) := by
  have b2 : (x 2).val < 128 := (x 2).isLt
  subst hc
  refine (cast_add1 _ hx x).trans ((slice_at _ h0 _ (ix2 (n0 := n) (n1 := 256) (x 1) ⟨128 + (x 2).val, by omega⟩)
    (Nat.zero_add _).symm rfl).trans ((cum_at hT hw _).trans ?_))
  show (∑ e ∈ Finset.range 128, if 128 ≤ 128 + (x 2).val ∨ 128 + (x 2).val < e
      then kl1 (Z hh) (t0 + (r0 + (x 1).val)) (128 * j + e) else 0)
    = ∑ e ∈ Finset.range 128, kl1 (Z ((128 * hh + (x 2).val) / 128)) (t0 + (r0 + (x 1).val)) (128 * j + e)
  rw [show (128 * hh + (x 2).val) / 128 = hh by omega]
  exact Finset.sum_congr rfl fun e _ => if_pos (Or.inl (by omega))

end Cum

/-! ### The weights, the running breaks and the running sum -/

/-- The running sum of the tiles from `j` on, in the rows that have keys there. -/
def Ac (vA : View sig κ sp (D2 512 128) .f32) (LA : List (View.Piece (Elt Ideal) (D2 512 128) .f32)) (t0 j : ℕ)
    (Z : ℕ → ℕ → ℕ → EReal) (V : ℕ → ℕ → EReal) : Prop :=
  ∀ y : (D2 512 128).Idx, 128 * j ≤ t0 + (y 0).val
    → (rd vA LA y : EReal) = accAt (Z ((y 1).val / 64)) (fun s => V s (y 1).val) (t0 + (y 0).val) j

/-- The running breaks as well. -/
def St (vC : View sig κ sp (D2 512 256) .f32) (LC : List (View.Piece (Elt Ideal) (D2 512 256) .f32))
    (vA : View sig κ sp (D2 512 128) .f32) (LA : List (View.Piece (Elt Ideal) (D2 512 128) .f32)) (t0 j : ℕ)
    (Z : ℕ → ℕ → ℕ → EReal) (V : ℕ → ℕ → EReal) : Prop :=
  (∀ y : (D2 512 256).Idx, 128 * j ≤ t0 + (y 0).val → (rd vC LC y : EReal) = carryAt (Z ((y 1).val / 128)) (t0 + (y 0).val) j)
    ∧ Ac vA LA t0 j Z V

theorem a_rest (hj : j < 16) {ρ : ℕ} (hd : 128 * (j + 1) ≤ t0 + ρ) {p c : FVec Ideal (D2 n 256) .f32}
    (hp : ∀ y, (p y : EReal) = pG Z t0 j (ρ + (y 0).val) (y 1).val)
    (hc : ∀ y, (c y : EReal) = carryAt (Z ((y 1).val / 128)) (t0 + (ρ + (y 0).val)) (j + 1)) (y : (D2 n 256).Idx) :
    (exp2 (addf p c) y : EReal) = katt (Z ((y 1).val / 128)) (t0 + (ρ + (y 0).val)) (128 * j + (y 1).val % 128) := by
  rw [katt_tile _ _ hj (Nat.mod_lt _ (by omega)), if_pos (by omega)]
  exact congrArg Ideal.exp2 (congrArg₂ (· + ·) (hp y) (hc y))

theorem a_diag (hj : j < 16) {mk} (hm : MaskOk mk) (hd : 128 * j = t0 + r0) {p : FVec Ideal (D2 128 256) .f32}
    (hp : ∀ y, (p y : EReal) = pG Z t0 j (r0 + (y 0).val) (y 1).val) (y : (D2 128 256).Idx) :
    (select mk (exp2 p) (zeros (D2 128 256)) y : EReal)
      = katt (Z ((y 1).val / 128)) (t0 + (r0 + (y 0).val)) (128 * j + (y 1).val % 128) := by
  have b0 : (y 0).val < 128 := (y 0).isLt
  rw [katt_tile _ _ hj (Nat.mod_lt _ (by omega)), carryAt_of_le _ (by omega), add_zero, sel_at hm]
  refine if_congr (by omega) (congrArg Ideal.exp2 (hp y)) rfl

variable {vV : View sig κ sp (D3 16 256 128) .bf16} {LV : List (View.Piece (Elt Ideal) (D3 16 256 128) .bf16)} {V : ℕ → ℕ → EReal}

theorem av_at (hV : VOk vV LV V) {T : ℕ} {a : FVec Ideal (D2 n 256) .f32}
    (ha : ∀ y, (a y : EReal) = katt (Z ((y 1).val / 128)) (t0 + (T + (y 0).val)) (128 * j + (y 1).val % 128)) {inb h ht} (y : (D2 n 128).Idx) :
    (FloatOps.matmul (F := Ideal) (φ₁ := .bf16) (φ₂ := .bf16) (DotDims.plain n 256 128) none (truncf (F := Ideal) .bf16 a ht)
        (shapeCast (D2 256 128) (vV.readCov LV (Rect.unit (s := D3 16 256 128) ![j, 0, 0] ![1, 256, 128] inb).toLoadRect) h)
        (constant (D2 n 128) .f32 0x00000000#32) y : EReal)
      = ∑ c ∈ Finset.range 128, katt (Z ((y 1).val / 64)) (t0 + (T + (y 0).val)) (128 * j + c) * V (128 * j + c) (y 1).val := by
  have b1 : (y 1).val < 128 := (y 1).isLt
  refine (mm_at _ _ _).trans ?_
  refine Eq.trans (b := ∑ k : Fin 256, katt (Z (k.val / 128)) (t0 + (T + (y 0).val)) (128 * j + k.val % 128)
    * (if k.val / 128 = (y 1).val / 64 then V (128 * j + k.val % 128) (y 1).val else 0)) (Finset.sum_congr rfl fun k _ => ?_) ?_
  · refine congrArg₂ (· * ·) (ha (ix2 (n0 := n) (n1 := 256) (y 0) k))
      ((cast_drop1 _ h (ix2 (n0 := 256) (n1 := 128) k (y 1))).trans
        ((hV ((Rect.unit (s := D3 16 256 128) ![j, 0, 0] ![1, 256, 128] inb).toLoadRect.idx
            (ix3 (n0 := 1) (n1 := 256) (n2 := 128) 0 k (y 1)))).trans ?_))
    show (if (0 + 1 * k.val) / 128 = (0 + 1 * (y 1).val) / 64
      then V (128 * (j + 1 * 0) + (0 + 1 * k.val) % 128) (0 + 1 * (y 1).val) else 0) = _
    simp only [Nat.one_mul, Nat.zero_add, Nat.mul_zero, Nat.add_zero]
  refine (Finset.sum_range (fun k => katt (Z (k / 128)) (t0 + (T + (y 0).val)) (128 * j + k % 128)
      * (if k / 128 = (y 1).val / 64 then V (128 * j + k % 128) (y 1).val else 0))).symm.trans ?_
  refine (sum_half (N := 128) (by omega) (h := (y 1).val / 64) (by omega)
    (fun k => katt (Z (k / 128)) (t0 + (T + (y 0).val)) (128 * j + k % 128)) (fun k => V (128 * j + k % 128) (y 1).val)).trans ?_
  refine Finset.sum_congr rfl fun c hc => ?_
  have hc' := Finset.mem_range.mp hc
  show katt (Z ((128 * ((y 1).val / 64) + c) / 128)) _ (128 * j + (128 * ((y 1).val / 64) + c) % 128)
    * V (128 * j + (128 * ((y 1).val / 64) + c) % 128) _ = _
  rw [show (128 * ((y 1).val / 64) + c) / 128 = (y 1).val / 64 by omega, show (128 * ((y 1).val / 64) + c) % 128 = c by omega]

/-! Each step of the state puts its new values into the pieces it stores and leaves the other rows alone. -/

theorem full2 {e : EltTy} {c : ℕ} {v : View sig κ sp (D2 512 c) e} {L : List (View.Piece (Elt Ideal) (D2 512 c) e)} {inb}
    {w : (D2 512 c).Idx → Elt Ideal e} {h : (D2 512 c).ShapeCasts (D2 512 c)} (y : (D2 512 c).Idx) :
    rd v (⟨Rect.unit (s := D2 512 c) ![0, 0] ![512, c] inb, shapeCast (D2 512 c) w h⟩ :: L) y = w y := by
  rw [shapeCast_self]
  exact hit2 v inb w L y y (Nat.zero_add _).symm (Nat.zero_add _).symm

theorem rows2 {e : EltTy} {c r m : ℕ} {v : View sig κ sp (D2 512 c) e} {L : List (View.Piece (Elt Ideal) (D2 512 c) e)} {inb}
    {w : (D2 m c).Idx → Elt Ideal e} {h : (D2 m c).ShapeCasts (D2 m c)} (y : (D2 512 c).Idx) (h0 : r ≤ (y 0).val) (h1 : (y 0).val < r + m) :
    rd v (⟨Rect.unit (s := D2 512 c) ![r, 0] ![m, c] inb, shapeCast (D2 m c) w h⟩ :: L) y
      = w (ix2 (n0 := m) (n1 := c) ⟨(y 0).val - r, by omega⟩ (y 1)) := by
  rw [shapeCast_self]
  exact hit2 v inb w L y _ (by show (y 0).val = r + ((y 0).val - r); omega) (Nat.zero_add _).symm

theorem skip2 {e : EltTy} {c r m : ℕ} {v : View sig κ sp (D2 512 c) e} {L : List (View.Piece (Elt Ideal) (D2 512 c) e)} {inb}
    {w : (D2 m c).Idx → Elt Ideal e} (y : (D2 512 c).Idx) (h0 : (y 0).val < r ∨ r + m ≤ (y 0).val) :
    rd v (⟨Rect.unit (s := D2 512 c) ![r, 0] ![m, c] inb, w⟩ :: L) y = rd v L y :=
  rd_miss v inb w L y 0 h0

variable {vC : View sig κ sp (D2 512 256) .f32} {LC : List (View.Piece (Elt Ideal) (D2 512 256) .f32)}
  {vA : View sig κ sp (D2 512 128) .f32} {LA : List (View.Piece (Elt Ideal) (D2 512 128) .f32)}
  {vP vS : View sig κ sp (D3 2 512 256) .f32} {LP LS : List (View.Piece (Elt Ideal) (D3 2 512 256) .f32)}

/-- A load of rows from `r` on, of a buffer of 512 rows. -/
theorem ld2 {e : EltTy} {c r m : ℕ} {v : View sig κ sp (D2 512 c) e} {L : List (View.Piece (Elt Ideal) (D2 512 c) e)} {inb} (y : (D2 m c).Idx)
    (k : (D2 512 c).Idx) (h0 : (k 0).val = r + (y 0).val) (h1 : (k 1).val = (y 1).val) :
    v.readCov L (Rect.unit (s := D2 512 c) ![r, 0] ![m, c] inb).toLoadRect y = rd v L k :=
  congrArg (rd v L) (idx2_ext (by show r + 1 * (y 0).val = (k 0).val; omega) (by show 0 + 1 * (y 1).val = (k 1).val; omega))

theorem ac_off (hj : j < 16) (hd : 128 * (j + 1) ≤ t0) (hV : VOk vV LV V) (hP : B3 vP LP s 0 (pG Z t0 j))
    (hst : St vC LC vA LA t0 (j + 1) Z V) {inb' inb3 inb4 inb5 inb6 h' h2 h3 ht} :
    Ac vA (⟨Rect.unit (s := D2 512 128) ![0, 0] ![512, 128] inb', shapeCast (D2 512 128)
          (addf (F := Ideal) (φ := .f32) (vA.readCov LA (Rect.unit (s := D2 512 128) ![0, 0] ![512, 128] inb3).toLoadRect)
            (FloatOps.matmul (F := Ideal) (φ₁ := .bf16) (φ₂ := .bf16) (DotDims.plain 512 256 128) none
              (truncf (F := Ideal) .bf16 (exp2 (addf (F := Ideal) (φ := .f32)
                (shapeCast (D2 512 256) (vP.readCov LP (Rect.unit (s := D3 2 512 256) ![s, 0, 0] ![1, 512, 256] inb4).toLoadRect) h2)
                (vC.readCov LC (Rect.unit (s := D2 512 256) ![0, 0] ![512, 256] inb5).toLoadRect))) ht)
              (shapeCast (D2 256 128) (vV.readCov LV (Rect.unit (s := D3 16 256 128) ![j, 0, 0] ![1, 256, 128] inb6).toLoadRect) h3)
              (constant (D2 512 128) .f32 0x00000000#32))) h'⟩ :: LA) t0 j Z V := by
  intro y _
  refine full2 y |>.trans ?_
  rw [accAt_succ _ _ _ hj]
  refine congrArg₂ (· + ·) ((ld2 y y (Nat.zero_add _).symm rfl).trans (hst.2 y (by omega)))
    ((av_at hV (T := 0) (a_rest hj (ρ := 0) hd (fun x => (ld3 hP le_rfl h2 x).trans (by rw [Nat.zero_add (x 1).val]))
      fun x => (ld2 x x (Nat.zero_add _).symm rfl).trans ((hst.1 x (by omega)).trans (by rw [Nat.zero_add]))) y).trans ?_)
  rw [Nat.zero_add]

theorem st_off (hj : j < 16) (hd : 128 * (j + 1) ≤ t0) (hV : VOk vV LV V) (hP : B3 vP LP s 0 (pG Z t0 j)) (hS : B3 vS LS s 0 (sG Z t0 j))
    (hst : St vC LC vA LA t0 (j + 1) Z V) {inb inb' inb1 inb2 inb3 inb4 inb5 inb6 h h' h1 h2 h3 ht} :
    St vC (⟨Rect.unit (s := D2 512 256) ![0, 0] ![512, 256] inb, shapeCast (D2 512 256)
          (addf (F := Ideal) (φ := .f32) (vC.readCov LC (Rect.unit (s := D2 512 256) ![0, 0] ![512, 256] inb1).toLoadRect)
            (shapeCast (D2 512 256) (vS.readCov LS (Rect.unit (s := D3 2 512 256) ![s, 0, 0] ![1, 512, 256] inb2).toLoadRect) h1)) h⟩ :: LC)
      vA (⟨Rect.unit (s := D2 512 128) ![0, 0] ![512, 128] inb', shapeCast (D2 512 128)
          (addf (F := Ideal) (φ := .f32) (vA.readCov LA (Rect.unit (s := D2 512 128) ![0, 0] ![512, 128] inb3).toLoadRect)
            (FloatOps.matmul (F := Ideal) (φ₁ := .bf16) (φ₂ := .bf16) (DotDims.plain 512 256 128) none
              (truncf (F := Ideal) .bf16 (exp2 (addf (F := Ideal) (φ := .f32)
                (shapeCast (D2 512 256) (vP.readCov LP (Rect.unit (s := D3 2 512 256) ![s, 0, 0] ![1, 512, 256] inb4).toLoadRect) h2)
                (vC.readCov LC (Rect.unit (s := D2 512 256) ![0, 0] ![512, 256] inb5).toLoadRect))) ht)
              (shapeCast (D2 256 128) (vV.readCov LV (Rect.unit (s := D3 16 256 128) ![j, 0, 0] ![1, 256, 128] inb6).toLoadRect) h3)
              (constant (D2 512 128) .f32 0x00000000#32))) h'⟩ :: LA) t0 j Z V := by
  refine ⟨fun y _ => ?_, ac_off hj hd hV hP hst⟩
  refine full2 y |>.trans ?_
  rw [carryAt_succ _ _ hj]
  refine congrArg₂ (· + ·) ((ld2 y y (Nat.zero_add _).symm rfl).trans (hst.1 y (by omega))) ((ld3 hS le_rfl h1 y).trans ?_)
  rw [Nat.zero_add, Nat.zero_add]
  rfl

theorem st_first (hj : j < 16) (hd : 128 * j = t0 + 384) {mk} (hm : MaskOk mk) (hV : VOk vV LV V) (hP : B3 vP LP s 384 (pG Z t0 j))
    (hS : B3 vS LS s 384 (sG Z t0 j))
    {inb inb' inb1 inb2 inb3 inb4 inb5 p p' q q' hw hw' hR hR' h h' h3 ht} :
    St vC (⟨Rect.unit (s := D2 512 256) ![384, 0] ![128, 256] inb, shapeCast (D2 128 256)
          (LoadRect.valAlong (lr := (Rect.unit (s := D2 512 256) ![384, 0] ![128, 256] inb1).toLoadRect) hR
            (vS.readCov LS ((Rect.unit (s := D3 2 512 256) ![s, 0, 0] ![1, 512, 256] inb2).withinL
              ((Rect.unit (s := D2 512 256) ![384, 0] ![128, 256] inb1).toLoadRect.consLift ![1, 512, 256] p q) hw))) h⟩ :: LC)
      vA (⟨Rect.unit (s := D2 512 128) ![384, 0] ![128, 128] inb', shapeCast (D2 128 128)
            (FloatOps.matmul (F := Ideal) (φ₁ := .bf16) (φ₂ := .bf16) (DotDims.plain 128 256 128) none
              (truncf (F := Ideal) .bf16 (select mk (exp2 (F := Ideal) (φ := .f32)
                (LoadRect.valAlong (lr := (Rect.unit (s := D2 512 256) ![384, 0] ![128, 256] inb3).toLoadRect) hR'
                  (vP.readCov LP ((Rect.unit (s := D3 2 512 256) ![s, 0, 0] ![1, 512, 256] inb4).withinL
                    ((Rect.unit (s := D2 512 256) ![384, 0] ![128, 256] inb3).toLoadRect.consLift ![1, 512, 256] p' q') hw'))))
                (zeros (D2 128 256))) ht)
              (shapeCast (D2 256 128) (vV.readCov LV (Rect.unit (s := D3 16 256 128) ![j, 0, 0] ![1, 256, 128] inb5).toLoadRect) h3)
              (constant (D2 128 128) .f32 0x00000000#32)) h'⟩ :: LA) t0 j Z V := by
  refine ⟨fun y hy => ?_, fun y hy => ?_⟩
  · have b0 : (y 0).val < 512 := (y 0).isLt
    refine (rows2 y (by omega) (by omega)).trans ((ldW hS le_rfl hR _).trans ?_)
    rw [carryAt_succ _ _ hj, carryAt_of_le _ (by omega), zero_add]
    show sG Z t0 j (384 + ((y 0).val - 384)) (y 1).val = _
    rw [Nat.add_sub_cancel' (by omega)]
    rfl
  · have b0 : (y 0).val < 512 := (y 0).isLt
    refine (rows2 y (by omega) (by omega)).trans ((av_at hV (T := 384) (a_diag hj hm hd fun x => ldW hP le_rfl hR' x) _).trans ?_)
    rw [accAt_succ _ _ _ hj, accAt_of_le _ _ (by omega), zero_add]
    show (∑ c ∈ Finset.range 128, katt (Z ((y 1).val / 64)) (t0 + (384 + ((y 0).val - 384))) (128 * j + c) * V (128 * j + c) (y 1).val) = _
    rw [Nat.add_sub_cancel' (by omega)]

theorem ac_diag {n' r1 : ℕ} (hj : j < 16) (hd : 128 * j = t0 + r0) (hr1 : r1 = r0 + 128) (hn : 128 + n' = n) (hrn : r0 + n = 512)
    {mk} (hm : MaskOk mk) (hV : VOk vV LV V) {wC : (D2 128 256).Idx → EReal} {wA : (D2 128 128).Idx → EReal} {av : FVec Ideal (D2 n 128) .f32}
    {inb inb' inb3 inb4 inb5 inb6 inb7 inb8 inb13 inb14 p1 p2 q1 q2 hw1 hw2 hR1 hR2 h' h2 h3 ht hc hs0 hs1}
    (hav : av = FloatOps.matmul (F := Ideal) (φ₁ := .bf16) (φ₂ := .bf16) (DotDims.plain n 256 128) none
              (truncf (F := Ideal) .bf16 (concatenate (D2 n 256) 0
                [⟨D2 128 256, select mk (exp2 (F := Ideal) (φ := .f32)
                    (LoadRect.valAlong (lr := (Rect.unit (s := D2 512 256) ![r0, 0] ![128, 256] inb3).toLoadRect) hR1
                      (vP.readCov LP ((Rect.unit (s := D3 2 512 256) ![s, 0, 0] ![1, 512, 256] inb4).withinL
                        ((Rect.unit (s := D2 512 256) ![r0, 0] ![128, 256] inb3).toLoadRect.consLift ![1, 512, 256] p1 q1) hw1))))
                    (zeros (D2 128 256))⟩,
                  ⟨D2 n' 256, exp2 (addf (F := Ideal) (φ := .f32)
                    (LoadRect.valAlong (lr := (Rect.unit (s := D2 512 256) ![r1, 0] ![n', 256] inb5).toLoadRect) hR2
                      (vP.readCov LP ((Rect.unit (s := D3 2 512 256) ![s, 0, 0] ![1, 512, 256] inb6).withinL
                        ((Rect.unit (s := D2 512 256) ![r1, 0] ![n', 256] inb5).toLoadRect.consLift ![1, 512, 256] p2 q2) hw2)))
                    (vC.readCov (⟨Rect.unit (s := D2 512 256) ![r0, 0] ![128, 256] inb, wC⟩ :: LC) (Rect.unit (s := D2 512 256) ![r1, 0] ![n', 256] inb7).toLoadRect))⟩] hc) ht)
              (shapeCast (D2 256 128) (vV.readCov LV (Rect.unit (s := D3 16 256 128) ![j, 0, 0] ![1, 256, 128] inb8).toLoadRect) h3)
              (constant (D2 n 128) .f32 0x00000000#32))
    (hwA : wA = shapeCast (D2 128 128) (extractStridedSlice (D2 128 128) ![0, 0] av hs0) h')
    (hP : B3 vP LP s r0 (pG Z t0 j)) (hst : St vC LC vA LA t0 (j + 1) Z V) :
    Ac vA (⟨Rect.unit (s := D2 512 128) ![r1, 0] ![n', 128] inb13, shapeCast (D2 n' 128)
          (addf (F := Ideal) (φ := .f32) (vA.readCov (⟨Rect.unit (s := D2 512 128) ![r0, 0] ![128, 128] inb', wA⟩ :: LA) (Rect.unit (s := D2 512 128) ![r1, 0] ![n', 128] inb14).toLoadRect)
            (extractStridedSlice (D2 n' 128) ![128, 0] av hs1)) h2⟩
        :: ⟨Rect.unit (s := D2 512 128) ![r0, 0] ![128, 128] inb', wA⟩ :: LA) t0 j Z V := by
  subst hr1
  have hcr : ∀ x : (D2 n' 256).Idx, (vC.readCov (⟨Rect.unit (s := D2 512 256) ![r0, 0] ![128, 256] inb, wC⟩ :: LC) (Rect.unit (s := D2 512 256) ![r0 + 128, 0] ![n', 256] inb7).toLoadRect x : EReal)
      = carryAt (Z ((x 1).val / 128)) (t0 + (r0 + 128 + (x 0).val)) (j + 1) := fun x => by
    have b0 : (x 0).val < n' := (x 0).isLt
    exact (ld2 x (ix2 (n0 := 512) (n1 := 256) ⟨r0 + 128 + (x 0).val, by omega⟩ (x 1)) rfl rfl).trans ((skip2 _ (Or.inr (Nat.le_add_right _ _))).trans (hst.1 _ (by
      show 128 * (j + 1) ≤ t0 + (r0 + 128 + (x 0).val)
      omega)))
  have hav' : ∀ y : (D2 n 128).Idx, (av y : EReal)
      = ∑ c ∈ Finset.range 128, katt (Z ((y 1).val / 64)) (t0 + (r0 + (y 0).val)) (128 * j + c) * V (128 * j + c) (y 1).val := fun y => by
    rw [hav]
    refine av_at hV (T := r0) (cat_at hn (f := fun a b => katt (Z (b / 128)) (t0 + (r0 + a)) (128 * j + b % 128))
      (a_diag hj hm hd fun x => ldW hP le_rfl hR1 x) (fun x => ?_)) y
    refine (a_rest hj (ρ := r0 + 128) (by omega) (fun x => ldW hP (by omega) hR2 x) hcr x).trans ?_
    rw [Nat.add_assoc r0 128]
  intro y hy
  have b0 : (y 0).val < 512 := (y 0).isLt
  rw [accAt_succ _ _ _ hj]
  by_cases hc : r0 + 128 ≤ (y 0).val
  · refine (rows2 y hc (by omega)).trans (congrArg₂ (· + ·) ?_
      ((slice_at _ hs1 _ (ix2 (n0 := n) (n1 := 128) ⟨(y 0).val - r0, by omega⟩ (y 1)) ?_ (Nat.zero_add _).symm).trans ((hav' _).trans ?_)))
    · refine (ld2 (ix2 (n0 := n') (n1 := 128) ⟨(y 0).val - (r0 + 128), by omega⟩ (y 1)) y ?_ rfl).trans ((skip2 y (by omega)).trans (hst.2 y (by omega)))
      show (y 0).val = r0 + 128 + ((y 0).val - (r0 + 128))
      omega
    · show (y 0).val - r0 = 128 + ((y 0).val - (r0 + 128))
      omega
    · show (∑ c ∈ Finset.range 128, katt (Z ((y 1).val / 64)) (t0 + (r0 + ((y 0).val - r0))) (128 * j + c) * V (128 * j + c) (y 1).val) = _
      rw [Nat.add_sub_cancel' (by omega)]
  · refine (skip2 y (by omega)).trans ?_
    rw [hwA]
    refine (rows2 y (by omega) (by omega)).trans ((slice_at _ hs0 _ (ix2 (n0 := n) (n1 := 128) ⟨(y 0).val - r0, by omega⟩ (y 1))
      (Nat.zero_add _).symm (Nat.zero_add _).symm).trans ((hav' _).trans ?_))
    rw [accAt_of_le _ _ (by omega), zero_add]
    show (∑ c ∈ Finset.range 128, katt (Z ((y 1).val / 64)) (t0 + (r0 + ((y 0).val - r0))) (128 * j + c) * V (128 * j + c) (y 1).val) = _
    rw [Nat.add_sub_cancel' (by omega)]

theorem st_diag {n' r1 : ℕ} (hj : j < 16) (hd : 128 * j = t0 + r0) (hr1 : r1 = r0 + 128) (hn : 128 + n' = n) (hrn : r0 + n = 512)
    {mk} (hm : MaskOk mk) (hV : VOk vV LV V) {wC : (D2 128 256).Idx → EReal} {wA : (D2 128 128).Idx → EReal} {av : FVec Ideal (D2 n 128) .f32}
    {inb inb' inb1 inb2 inb3 inb4 inb5 inb6 inb7 inb8 inb9 inb10 inb11 inb12 inb13 inb14 p p1 p2 p3 q q1 q2 q3 hw hw1 hw2 hw3 hR hR1 hR2 hR3
      h h' h1 h2 h3 ht hc hs0 hs1}
    (hwC : wC = shapeCast (D2 128 256) (LoadRect.valAlong (lr := (Rect.unit (s := D2 512 256) ![r0, 0] ![128, 256] inb1).toLoadRect) hR
            (vS.readCov LS ((Rect.unit (s := D3 2 512 256) ![s, 0, 0] ![1, 512, 256] inb2).withinL
              ((Rect.unit (s := D2 512 256) ![r0, 0] ![128, 256] inb1).toLoadRect.consLift ![1, 512, 256] p q) hw))) h)
    (hav : av = FloatOps.matmul (F := Ideal) (φ₁ := .bf16) (φ₂ := .bf16) (DotDims.plain n 256 128) none
              (truncf (F := Ideal) .bf16 (concatenate (D2 n 256) 0
                [⟨D2 128 256, select mk (exp2 (F := Ideal) (φ := .f32)
                    (LoadRect.valAlong (lr := (Rect.unit (s := D2 512 256) ![r0, 0] ![128, 256] inb3).toLoadRect) hR1
                      (vP.readCov LP ((Rect.unit (s := D3 2 512 256) ![s, 0, 0] ![1, 512, 256] inb4).withinL
                        ((Rect.unit (s := D2 512 256) ![r0, 0] ![128, 256] inb3).toLoadRect.consLift ![1, 512, 256] p1 q1) hw1))))
                    (zeros (D2 128 256))⟩,
                  ⟨D2 n' 256, exp2 (addf (F := Ideal) (φ := .f32)
                    (LoadRect.valAlong (lr := (Rect.unit (s := D2 512 256) ![r1, 0] ![n', 256] inb5).toLoadRect) hR2
                      (vP.readCov LP ((Rect.unit (s := D3 2 512 256) ![s, 0, 0] ![1, 512, 256] inb6).withinL
                        ((Rect.unit (s := D2 512 256) ![r1, 0] ![n', 256] inb5).toLoadRect.consLift ![1, 512, 256] p2 q2) hw2)))
                    (vC.readCov (⟨Rect.unit (s := D2 512 256) ![r0, 0] ![128, 256] inb, wC⟩ :: LC) (Rect.unit (s := D2 512 256) ![r1, 0] ![n', 256] inb7).toLoadRect))⟩] hc) ht)
              (shapeCast (D2 256 128) (vV.readCov LV (Rect.unit (s := D3 16 256 128) ![j, 0, 0] ![1, 256, 128] inb8).toLoadRect) h3)
              (constant (D2 n 128) .f32 0x00000000#32))
    (hwA : wA = shapeCast (D2 128 128) (extractStridedSlice (D2 128 128) ![0, 0] av hs0) h')
    (hP : B3 vP LP s r0 (pG Z t0 j)) (hS : B3 vS LS s r0 (sG Z t0 j)) (hst : St vC LC vA LA t0 (j + 1) Z V) :
    St vC (⟨Rect.unit (s := D2 512 256) ![r1, 0] ![n', 256] inb9, shapeCast (D2 n' 256)
          (addf (F := Ideal) (φ := .f32) (vC.readCov (⟨Rect.unit (s := D2 512 256) ![r0, 0] ![128, 256] inb, wC⟩ :: LC) (Rect.unit (s := D2 512 256) ![r1, 0] ![n', 256] inb10).toLoadRect)
            (LoadRect.valAlong (lr := (Rect.unit (s := D2 512 256) ![r1, 0] ![n', 256] inb11).toLoadRect) hR3
              (vS.readCov LS ((Rect.unit (s := D3 2 512 256) ![s, 0, 0] ![1, 512, 256] inb12).withinL
                ((Rect.unit (s := D2 512 256) ![r1, 0] ![n', 256] inb11).toLoadRect.consLift ![1, 512, 256] p3 q3) hw3)))) h1⟩
        :: ⟨Rect.unit (s := D2 512 256) ![r0, 0] ![128, 256] inb, wC⟩ :: LC)
      vA (⟨Rect.unit (s := D2 512 128) ![r1, 0] ![n', 128] inb13, shapeCast (D2 n' 128)
          (addf (F := Ideal) (φ := .f32) (vA.readCov (⟨Rect.unit (s := D2 512 128) ![r0, 0] ![128, 128] inb', wA⟩ :: LA) (Rect.unit (s := D2 512 128) ![r1, 0] ![n', 128] inb14).toLoadRect)
            (extractStridedSlice (D2 n' 128) ![128, 0] av hs1)) h2⟩
        :: ⟨Rect.unit (s := D2 512 128) ![r0, 0] ![128, 128] inb', wA⟩ :: LA) t0 j Z V := by
  refine ⟨fun y hy => ?_, ac_diag hj hd hr1 hn hrn hm hV hav hwA hP hst⟩
  subst hr1
  have b0 : (y 0).val < 512 := (y 0).isLt
  rw [carryAt_succ _ _ hj]
  by_cases hc : r0 + 128 ≤ (y 0).val
  · refine (rows2 y hc (by omega)).trans (congrArg₂ (· + ·) ?_ ((ldW hS (by omega) hR3 _).trans ?_))
    · refine (ld2 (ix2 (n0 := n') (n1 := 256) ⟨(y 0).val - (r0 + 128), by omega⟩ (y 1)) y ?_ rfl).trans ((skip2 y (by omega)).trans (hst.1 y (by omega)))
      show (y 0).val = r0 + 128 + ((y 0).val - (r0 + 128))
      omega
    · show sG Z t0 j (r0 + 128 + ((y 0).val - (r0 + 128))) (y 1).val = _
      rw [Nat.add_sub_cancel' hc]
      rfl
  · refine (skip2 y (by omega)).trans ?_
    rw [hwC]
    refine (rows2 y (by omega) (by omega)).trans ((ldW hS le_rfl hR _).trans ?_)
    rw [carryAt_of_le _ (by omega), zero_add]
    show sG Z t0 j (r0 + ((y 0).val - r0)) (y 1).val = _
    rw [Nat.add_sub_cancel' (by omega)]
    rfl

/-! ### The buffers between the stages -/

variable {vZ vL : View sig κ sp (D3 2 512 256) .f32} {LZ LZ' LL LL' LP' LS' : List (View.Piece (Elt Ideal) (D3 2 512 256) .f32)}
  {vT : View sig κ sp (D4 2 2 512 128) .bf16} {LT LT' : List (View.Piece (Elt Ideal) (D4 2 2 512 128) .bf16)}
  {w : FVec Ideal (D2 128 256) .bf16}

theorem qk_ok {vQ : View sig κ sp (D2 2048 128) .bf16} {LQ Qn} {vK : View sig κ sp (D3 16 128 256) .bf16} {LK Kn} {q0 : ℕ} {inb inb' inb2 h h'}
    (e : LZ = ⟨Rect.unit (s := D3 2 512 256) ![s, r0, 0] ![1, n, 256] inb2, shapeCast (D3 1 n 256)
      (FloatOps.matmul (F := Ideal) (φ₁ := .bf16) (φ₂ := .bf16) (DotDims.plain n 128 256) none
        (vQ.readCov LQ (Rect.unit (s := D2 2048 128) ![q0, 0] ![n, 128] inb).toLoadRect)
        (shapeCast (D2 128 256) (vK.readCov LK (Rect.unit (s := D3 16 128 256) ![j, 0, 0] ![1, 128, 256] inb').toLoadRect) h)
        (constant (D2 n 256) .f32 0x00000000#32)) h'⟩ :: LZ')
    (hQ : QOk vQ LQ Qn) (hK : KOk vK LK Kn) (hq : q0 = t0 + r0) (hn : r0 + n = 512) : B3 vZ LZ s r0 (zG (zOf Qn Kn) t0 j) := by
  rw [e]
  exact single3 (qk_at hQ hK hq) hn

theorem lb_ok {inb inb' h h'} (e : LL = ⟨Rect.unit (s := D3 2 512 256) ![s, r0, 0] ![1, n, 256] inb', shapeCast (D3 1 n 256) (lsV (shapeCast (D2 n 256)
      (vZ.readCov LZ (Rect.unit (s := D3 2 512 256) ![s, r0, 0] ![1, n, 256] inb).toLoadRect) h)) h'⟩ :: LL')
    (hZ : B3 vZ LZ s r0 (zG Z t0 j)) (hn : r0 + n = 512) : B3 vL LL s r0 (lG Z t0 j) := by
  rw [e]
  exact single3 (ls_at hZ) hn

/-- The two heads of `u` cast to half precision and stored apart. -/
theorem halves_ok {u : FVec Ideal (D2 n 256) .f32} {inb inb' h0 h1 h0' h1' ht ht'}
    (e : LT = ⟨Rect.unit (s := D4 2 2 512 128) ![s, 1, r0, 0] ![1, 1, n, 128] inb,
          shapeCast (D4 1 1 n 128) (extractStridedSlice (D2 n 128) ![0, 128] (truncf (F := Ideal) .bf16 u ht) h1) h1'⟩
      :: ⟨Rect.unit (s := D4 2 2 512 128) ![s, 0, r0, 0] ![1, 1, n, 128] inb',
          shapeCast (D4 1 1 n 128) (extractStridedSlice (D2 n 128) ![0, 0] (truncf (F := Ideal) .bf16 u ht') h0) h0'⟩ :: LT')
    (hu : KlOk u Z t0 r0 j)
    (hn : r0 + n = 512) : B4 vT LT s r0 (tG Z t0 j) := by
  rw [e]
  exact pair4 (half_at (hh := 1) (by omega) rfl hu) (half_at (hh := 0) (by omega) rfl hu) hn

theorem pre_ok {inb inb' inb1 inb1' inb2 inb2' h h' h0 hx g g' g0 gx}
    (e : LP = ⟨Rect.unit (s := D3 2 512 256) ![s, r0, 128] ![1, n, 128] inb, shapeCast (D3 1 n 128) (addf
          (shapeCast (D2 n 128) (vL.readCov LL (Rect.unit (s := D3 2 512 256) ![s, r0, 128] ![1, n, 128] inb1).toLoadRect) h')
          (extractStridedSlice (D2 n 128) ![0, 0] (FloatOps.matmul (F := Ideal) (φ₁ := .bf16) (φ₂ := .bf16) (DotDims.plain n 128 256) none
            (shapeCast (D2 n 128) (vT.readCov LT (Rect.unit (s := D4 2 2 512 128) ![s, 1, r0, 0] ![1, 1, n, 128] inb2).toLoadRect) h)
            w (constant (D2 n 256) .f32 0x00000000#32)) h0)) hx⟩
      :: ⟨Rect.unit (s := D3 2 512 256) ![s, r0, 0] ![1, n, 128] inb', shapeCast (D3 1 n 128) (addf
          (shapeCast (D2 n 128) (vL.readCov LL (Rect.unit (s := D3 2 512 256) ![s, r0, 0] ![1, n, 128] inb1').toLoadRect) g')
          (extractStridedSlice (D2 n 128) ![0, 0] (FloatOps.matmul (F := Ideal) (φ₁ := .bf16) (φ₂ := .bf16) (DotDims.plain n 128 256) none
            (shapeCast (D2 n 128) (vT.readCov LT (Rect.unit (s := D4 2 2 512 128) ![s, 0, r0, 0] ![1, 1, n, 128] inb2').toLoadRect) g)
            w (constant (D2 n 256) .f32 0x00000000#32)) g0)) gx⟩ :: LP')
    (hT : B4 vT LT s r0 (tG Z t0 j)) (hL : B3 vL LL s r0 (lG Z t0 j)) (hw : TriOk w) (hn : r0 + n = 512) : B3 vP LP s r0 (pG Z t0 j) := by
  rw [e]
  exact pair3 (pre_at (hh := 1) (by omega) rfl hT hL hw) (pre_at (hh := 0) (by omega) rfl hT hL hw) hn

theorem tot_ok {inb inb' inb2 inb2' h h0 hx g g0 gx}
    (e : LS = ⟨Rect.unit (s := D3 2 512 256) ![s, r0, 128] ![1, n, 128] inb, shapeCast (D3 1 n 128)
          (extractStridedSlice (D2 n 128) ![0, 128] (FloatOps.matmul (F := Ideal) (φ₁ := .bf16) (φ₂ := .bf16) (DotDims.plain n 128 256) none
            (shapeCast (D2 n 128) (vT.readCov LT (Rect.unit (s := D4 2 2 512 128) ![s, 1, r0, 0] ![1, 1, n, 128] inb2).toLoadRect) h)
            w (constant (D2 n 256) .f32 0x00000000#32)) h0) hx⟩
      :: ⟨Rect.unit (s := D3 2 512 256) ![s, r0, 0] ![1, n, 128] inb', shapeCast (D3 1 n 128)
          (extractStridedSlice (D2 n 128) ![0, 128] (FloatOps.matmul (F := Ideal) (φ₁ := .bf16) (φ₂ := .bf16) (DotDims.plain n 128 256) none
            (shapeCast (D2 n 128) (vT.readCov LT (Rect.unit (s := D4 2 2 512 128) ![s, 0, r0, 0] ![1, 1, n, 128] inb2').toLoadRect) g)
            w (constant (D2 n 256) .f32 0x00000000#32)) g0) gx⟩ :: LS')
    (hT : B4 vT LT s r0 (tG Z t0 j)) (hw : TriOk w) (hn : r0 + n = 512) : B3 vS LS s r0 (sG Z t0 j) := by
  rw [e]
  exact pair3 (tot_at (hh := 1) (by omega) rfl hT hw) (tot_at (hh := 0) (by omega) rfl hT hw) hn

end Stages

end Cert.KernelIdeal.Tile

end
-- ==== Proof.Chain.lean ====
/-
  The kernel's run, tile by tile.
-/
module

public import proofs.«01_k».proof.Proof.Tile
public import proofs.«01_k».proof.Proof.Gen.KernelIdeal.Frame.RunA

@[expose] public section

set_option maxRecDepth 16384

noncomputable section

namespace Cert.KernelIdeal.Chain

open Cert.KernelIdeal Cert.KernelIdeal.Gen Cert.KernelIdeal.Gen.kernelRun0_A.sl
open Idealize.ShloMosaic Idealize.ShloMosaic.TcCoe Idealize.SL.Sem
open Cert.Stick Cert.Layout Cert.KernelIdeal.Tile
open scoped BigOperators

variable {c : Dev nD} {arg2 : Memref sig .tc .vmem S2048x128 .f32} {harg2 : arg2.IsWhole} {arg3 : Memref sig .tc .vmem S2048x128 .f32}
  {harg3 : arg3.IsWhole} {arg4 : Memref sig .tc .vmem S2048x128 .f32} {harg4 : arg4.IsWhole} {arg5 : Memref sig .tc .vmem S1x128 .f32}
  {harg5 : arg5.IsWhole} {arg6 : Memref sig .tc .vmem S1x128 .f32} {harg6 : arg6.IsWhole} {arg7 : Memref sig .tc .vmem S128x256 .bf16}
  {harg7 : arg7.IsWhole} {arg8 : Memref sig .tc .vmem S128x128 .bf16} {harg8 : arg8.IsWhole}
  {arg16 : Memref sig .tc .vmem S16x128x256 .bf16} {arg17 : Memref sig .tc .vmem S16x256x128 .bf16} {arg18 : Memref sig .tc .vmem S2048x128 .bf16}
  {arg19 : Memref sig .tc .vmem S512x128 .f32} {arg20 : Memref sig .tc .vmem S512x256 .f32} {arg21 arg22 : Memref sig .tc .vmem S2x512x256 .f32}
  {arg23 : Memref sig .tc .vmem S2x2x512x128 .bf16} {arg24 arg25 : Memref sig .tc .vmem S2x512x256 .f32}
  {x0 x1 x2 : Vec Ideal S2048x128 .f32} {x3 x4 : Vec Ideal S1x128 .f32} {x5 : Vec Ideal S128x256 .bf16} {x6 : Vec Ideal S128x128 .bf16}
  {Qn Kn V : ℕ → ℕ → EReal}

/-- After the four key tiles of the first 512 queries, the accumulator holds the sums from key 0 on. -/
theorem acc0
    (hQ : QOk arg18.view (HS2_16 (F := Ideal) c arg2 harg2 arg5 harg5 arg8 harg8 x0 x3 x6) Qn)
    (hK : KOk arg16.view (HS0_32 (F := Ideal) c arg3 harg3 arg6 harg6 arg8 harg8 x1 x4 x6) Kn)
    (hV : VOk arg17.view (HS1_32 (F := Ideal) c arg4 harg4 x2) V) (hm : MaskOk v19)
    (hw : TriOk (View.readAt (Elt Ideal) arg7.view (Rect.unit ![0, 0] S128x256.size inb_S128x256_S128x256_0_0).toLoadRect (harg7.unread x5))) :
    Ac arg19.view (HS3_7 (F := Ideal) c arg2 harg2 arg3 harg3 arg4 harg4 arg5 harg5 arg6 harg6 arg7 harg7 arg8 harg8 arg16 arg17 arg18 arg19 arg20 arg21 arg22 arg23 arg24 arg25 x0 x1 x2 x3 x4 x5 x6) 0 0 (zOf Qn Kn) V := by
  refine ac_diag (r0 := 0) (by decide) (by decide) rfl rfl rfl hm hV rfl rfl (pre_ok (h0 := by decide) (g0 := by decide) rfl (halves_ok (h0 := by decide) (h1 := by decide) rfl (l1_diag (h0 := by decide) (h1 := by decide) (hc := by simp only [List.map]; decide) (by decide) (qk_ok rfl hQ hK rfl rfl) hm (by decide)) rfl)
                        (lb_ok rfl (qk_ok rfl hQ hK rfl rfl) rfl) hw rfl) ?_
  iterate 2 (refine st_diag (by decide) (by decide) rfl rfl rfl hm hV rfl rfl rfl (pre_ok (h0 := by decide) (g0 := by decide) rfl (halves_ok (h0 := by decide) (h1 := by decide) rfl (l1_diag (h0 := by decide) (h1 := by decide) (hc := by simp only [List.map]; decide) (by decide) (qk_ok rfl hQ hK rfl rfl) hm (by decide)) rfl)
                        (lb_ok rfl (qk_ok rfl hQ hK rfl rfl) rfl) hw rfl)
                        (tot_ok (h0 := by decide) (g0 := by decide) rfl (halves_ok (h0 := by decide) (h1 := by decide) rfl (l1_diag (h0 := by decide) (h1 := by decide) (hc := by simp only [List.map]; decide) (by decide) (qk_ok rfl hQ hK rfl rfl) hm (by decide)) rfl) hw rfl) ?_)
  exact st_first (by decide) (by decide) hm hV (pre_ok (h0 := by decide) (g0 := by decide) rfl (halves_ok (h0 := by decide) (h1 := by decide) rfl (l1_diag128 (qk_ok rfl hQ hK rfl rfl) hm (by decide)) rfl)
                        (lb_ok rfl (qk_ok rfl hQ hK rfl rfl) rfl) hw rfl)
                        (tot_ok (h0 := by decide) (g0 := by decide) rfl (halves_ok (h0 := by decide) (h1 := by decide) rfl (l1_diag128 (qk_ok rfl hQ hK rfl rfl) hm (by decide)) rfl) hw rfl)

/-- After the 8 key tiles of the second 512 queries, the accumulator holds the sums from key 0 on. -/
theorem acc1
    (hQ : QOk arg18.view (HS2_16 (F := Ideal) c arg2 harg2 arg5 harg5 arg8 harg8 x0 x3 x6) Qn)
    (hK : KOk arg16.view (HS0_32 (F := Ideal) c arg3 harg3 arg6 harg6 arg8 harg8 x1 x4 x6) Kn)
    (hV : VOk arg17.view (HS1_32 (F := Ideal) c arg4 harg4 x2) V) (hm : MaskOk v19)
    (hw : TriOk (View.readAt (Elt Ideal) arg7.view (Rect.unit ![0, 0] S128x256.size inb_S128x256_S128x256_0_0).toLoadRect (harg7.unread x5))) :
    Ac arg19.view (HS3_18 (F := Ideal) c arg2 harg2 arg3 harg3 arg4 harg4 arg5 harg5 arg6 harg6 arg7 harg7 arg8 harg8 arg16 arg17 arg18 arg19 arg20 arg21 arg22 arg23 arg24 arg25 x0 x1 x2 x3 x4 x5 x6) 512 0 (zOf Qn Kn) V := by
  refine ac_off (by decide) (by decide) hV (pre_ok (h0 := by decide) (g0 := by decide) rfl (halves_ok (h0 := by decide) (h1 := by decide) rfl (l1_off (qk_ok rfl hQ hK rfl rfl) (by decide)) rfl)
                        (lb_ok rfl (qk_ok rfl hQ hK rfl rfl) rfl) hw rfl) ?_
  iterate 3 (refine st_off (by decide) (by decide) hV (pre_ok (h0 := by decide) (g0 := by decide) rfl (halves_ok (h0 := by decide) (h1 := by decide) rfl (l1_off (qk_ok rfl hQ hK rfl rfl) (by decide)) rfl)
                        (lb_ok rfl (qk_ok rfl hQ hK rfl rfl) rfl) hw rfl)
                        (tot_ok (h0 := by decide) (g0 := by decide) rfl (halves_ok (h0 := by decide) (h1 := by decide) rfl (l1_off (qk_ok rfl hQ hK rfl rfl) (by decide)) rfl) hw rfl) ?_)
  iterate 3 (refine st_diag (by decide) (by decide) rfl rfl rfl hm hV rfl rfl rfl (pre_ok (h0 := by decide) (g0 := by decide) rfl (halves_ok (h0 := by decide) (h1 := by decide) rfl (l1_diag (h0 := by decide) (h1 := by decide) (hc := by simp only [List.map]; decide) (by decide) (qk_ok rfl hQ hK rfl rfl) hm (by decide)) rfl)
                        (lb_ok rfl (qk_ok rfl hQ hK rfl rfl) rfl) hw rfl)
                        (tot_ok (h0 := by decide) (g0 := by decide) rfl (halves_ok (h0 := by decide) (h1 := by decide) rfl (l1_diag (h0 := by decide) (h1 := by decide) (hc := by simp only [List.map]; decide) (by decide) (qk_ok rfl hQ hK rfl rfl) hm (by decide)) rfl) hw rfl) ?_)
  exact st_first (by decide) (by decide) hm hV (pre_ok (h0 := by decide) (g0 := by decide) rfl (halves_ok (h0 := by decide) (h1 := by decide) rfl (l1_diag128 (qk_ok rfl hQ hK rfl rfl) hm (by decide)) rfl)
                        (lb_ok rfl (qk_ok rfl hQ hK rfl rfl) rfl) hw rfl)
                        (tot_ok (h0 := by decide) (g0 := by decide) rfl (halves_ok (h0 := by decide) (h1 := by decide) rfl (l1_diag128 (qk_ok rfl hQ hK rfl rfl) hm (by decide)) rfl) hw rfl)

/-- After the 12 key tiles of the third 512 queries, the accumulator holds the sums from key 0 on. -/
theorem acc2
    (hQ : QOk arg18.view (HS2_16 (F := Ideal) c arg2 harg2 arg5 harg5 arg8 harg8 x0 x3 x6) Qn)
    (hK : KOk arg16.view (HS0_32 (F := Ideal) c arg3 harg3 arg6 harg6 arg8 harg8 x1 x4 x6) Kn)
    (hV : VOk arg17.view (HS1_32 (F := Ideal) c arg4 harg4 x2) V) (hm : MaskOk v19)
    (hw : TriOk (View.readAt (Elt Ideal) arg7.view (Rect.unit ![0, 0] S128x256.size inb_S128x256_S128x256_0_0).toLoadRect (harg7.unread x5))) :
    Ac arg19.view (HS3_33 (F := Ideal) c arg2 harg2 arg3 harg3 arg4 harg4 arg5 harg5 arg6 harg6 arg7 harg7 arg8 harg8 arg16 arg17 arg18 arg19 arg20 arg21 arg22 arg23 arg24 arg25 x0 x1 x2 x3 x4 x5 x6) 1024 0 (zOf Qn Kn) V := by
  refine ac_off (by decide) (by decide) hV (pre_ok (h0 := by decide) (g0 := by decide) rfl (halves_ok (h0 := by decide) (h1 := by decide) rfl (l1_off (qk_ok rfl hQ hK rfl rfl) (by decide)) rfl)
                        (lb_ok rfl (qk_ok rfl hQ hK rfl rfl) rfl) hw rfl) ?_
  iterate 7 (refine st_off (by decide) (by decide) hV (pre_ok (h0 := by decide) (g0 := by decide) rfl (halves_ok (h0 := by decide) (h1 := by decide) rfl (l1_off (qk_ok rfl hQ hK rfl rfl) (by decide)) rfl)
                        (lb_ok rfl (qk_ok rfl hQ hK rfl rfl) rfl) hw rfl)
                        (tot_ok (h0 := by decide) (g0 := by decide) rfl (halves_ok (h0 := by decide) (h1 := by decide) rfl (l1_off (qk_ok rfl hQ hK rfl rfl) (by decide)) rfl) hw rfl) ?_)
  iterate 3 (refine st_diag (by decide) (by decide) rfl rfl rfl hm hV rfl rfl rfl (pre_ok (h0 := by decide) (g0 := by decide) rfl (halves_ok (h0 := by decide) (h1 := by decide) rfl (l1_diag (h0 := by decide) (h1 := by decide) (hc := by simp only [List.map]; decide) (by decide) (qk_ok rfl hQ hK rfl rfl) hm (by decide)) rfl)
                        (lb_ok rfl (qk_ok rfl hQ hK rfl rfl) rfl) hw rfl)
                        (tot_ok (h0 := by decide) (g0 := by decide) rfl (halves_ok (h0 := by decide) (h1 := by decide) rfl (l1_diag (h0 := by decide) (h1 := by decide) (hc := by simp only [List.map]; decide) (by decide) (qk_ok rfl hQ hK rfl rfl) hm (by decide)) rfl) hw rfl) ?_)
  exact st_first (by decide) (by decide) hm hV (pre_ok (h0 := by decide) (g0 := by decide) rfl (halves_ok (h0 := by decide) (h1 := by decide) rfl (l1_diag128 (qk_ok rfl hQ hK rfl rfl) hm (by decide)) rfl)
                        (lb_ok rfl (qk_ok rfl hQ hK rfl rfl) rfl) hw rfl)
                        (tot_ok (h0 := by decide) (g0 := by decide) rfl (halves_ok (h0 := by decide) (h1 := by decide) rfl (l1_diag128 (qk_ok rfl hQ hK rfl rfl) hm (by decide)) rfl) hw rfl)

/-- After the 16 key tiles of the last 512 queries, the accumulator holds the sums from key 0 on. -/
theorem acc3
    (hQ : QOk arg18.view (HS2_16 (F := Ideal) c arg2 harg2 arg5 harg5 arg8 harg8 x0 x3 x6) Qn)
    (hK : KOk arg16.view (HS0_32 (F := Ideal) c arg3 harg3 arg6 harg6 arg8 harg8 x1 x4 x6) Kn)
    (hV : VOk arg17.view (HS1_32 (F := Ideal) c arg4 harg4 x2) V) (hm : MaskOk v19)
    (hw : TriOk (View.readAt (Elt Ideal) arg7.view (Rect.unit ![0, 0] S128x256.size inb_S128x256_S128x256_0_0).toLoadRect (harg7.unread x5))) :
    Ac arg19.view (HS3_52 (F := Ideal) c arg2 harg2 arg3 harg3 arg4 harg4 arg5 harg5 arg6 harg6 arg7 harg7 arg8 harg8 arg16 arg17 arg18 arg19 arg20 arg21 arg22 arg23 arg24 arg25 x0 x1 x2 x3 x4 x5 x6) 1536 0 (zOf Qn Kn) V := by
  refine ac_off (by decide) (by decide) hV (pre_ok (h0 := by decide) (g0 := by decide) rfl (halves_ok (h0 := by decide) (h1 := by decide) rfl (l1_off (qk_ok rfl hQ hK rfl rfl) (by decide)) rfl)
                        (lb_ok rfl (qk_ok rfl hQ hK rfl rfl) rfl) hw rfl) ?_
  iterate 11 (refine st_off (by decide) (by decide) hV (pre_ok (h0 := by decide) (g0 := by decide) rfl (halves_ok (h0 := by decide) (h1 := by decide) rfl (l1_off (qk_ok rfl hQ hK rfl rfl) (by decide)) rfl)
                        (lb_ok rfl (qk_ok rfl hQ hK rfl rfl) rfl) hw rfl)
                        (tot_ok (h0 := by decide) (g0 := by decide) rfl (halves_ok (h0 := by decide) (h1 := by decide) rfl (l1_off (qk_ok rfl hQ hK rfl rfl) (by decide)) rfl) hw rfl) ?_)
  iterate 3 (refine st_diag (by decide) (by decide) rfl rfl rfl hm hV rfl rfl rfl (pre_ok (h0 := by decide) (g0 := by decide) rfl (halves_ok (h0 := by decide) (h1 := by decide) rfl (l1_diag (h0 := by decide) (h1 := by decide) (hc := by simp only [List.map]; decide) (by decide) (qk_ok rfl hQ hK rfl rfl) hm (by decide)) rfl)
                        (lb_ok rfl (qk_ok rfl hQ hK rfl rfl) rfl) hw rfl)
                        (tot_ok (h0 := by decide) (g0 := by decide) rfl (halves_ok (h0 := by decide) (h1 := by decide) rfl (l1_diag (h0 := by decide) (h1 := by decide) (hc := by simp only [List.map]; decide) (by decide) (qk_ok rfl hQ hK rfl rfl) hm (by decide)) rfl) hw rfl) ?_)
  exact st_first (by decide) (by decide) hm hV (pre_ok (h0 := by decide) (g0 := by decide) rfl (halves_ok (h0 := by decide) (h1 := by decide) rfl (l1_diag128 (qk_ok rfl hQ hK rfl rfl) hm (by decide)) rfl)
                        (lb_ok rfl (qk_ok rfl hQ hK rfl rfl) rfl) hw rfl)
                        (tot_ok (h0 := by decide) (g0 := by decide) rfl (halves_ok (h0 := by decide) (h1 := by decide) rfl (l1_diag128 (qk_ok rfl hQ hK rfl rfl) hm (by decide)) rfl) hw rfl)

end Cert.KernelIdeal.Chain

end
-- ==== Proof.Prep.lean ====
/-
  What the first loop of the attention kernel leaves in its buffers: the normalised queries, the normalised keys and the
  values, the keys and the values split by head. Each lemma adds one tile of 128 rows to what the tiles before left.
-/
module

public import proofs.«01_k».proof.Proof.Tile

@[expose] public section

set_option maxRecDepth 8192

noncomputable section

namespace Cert.KernelIdeal.Prep

open Idealize.ShloMosaic Idealize.ShloMosaic.TcCoe Idealize.SL.Sem
open Cert.Stick Cert.Layout Cert.KernelIdeal.Tile
open scoped BigOperators

variable {sig : RefSig} {κ : Kind} {sp : Space}

/-- A load of a whole block that holds `x`. -/
theorem ld_blk {R C n m o p : ℕ} {e : EltTy} {M : Memref sig κ sp (D2 R C) e} (hM : M.IsWhole) (x : (D2 R C).Idx → Elt Ideal e) {inb}
    (y : (D2 n m).Idx) (k : (D2 R C).Idx) (h0 : (k 0).val = o + (y 0).val) (h1 : (k 1).val = p + (y 1).val) :
    View.readAt (Elt Ideal) M.view (Rect.unit (s := D2 R C) ![o, p] ![n, m] inb).toLoadRect (hM.unread x) y = x k := by
  refine (congrFun (hM.read_unread (Val := Elt Ideal) x) ((Rect.unit (s := D2 R C) ![o, p] ![n, m] inb).toLoadRect.idx y)).trans ?_
  refine congrArg x (idx2_ext ?_ ?_)
  · show o + 1 * (y 0).val = (k 0).val
    omega
  · show p + 1 * (y 1).val = (k 1).val
    omega

theorem ld_rows {R n o : ℕ} {M : Memref sig κ sp (D2 R 128) .f32} (hM : M.IsWhole) (x : (D2 R 128).Idx → EReal) {inb}
    (ho : o + n ≤ R) (y : (D2 n 128).Idx) :
    (View.readAt (Elt Ideal) M.view (Rect.unit (s := D2 R 128) ![o, 0] ![n, 128] inb).toLoadRect (hM.unread x) y : EReal)
      = at2 x (o + (y 0).val) (y 1).val := by
  have b0 : (y 0).val < n := (y 0).isLt
  rw [at2_eq x (by omega) (y 1).isLt]
  exact ld_blk hM x y _ rfl (Nat.zero_add _).symm

/-- The table that sums the lanes of each head. -/
def SumOk (hs : FVec Ideal (D2 128 128) .bf16) : Prop :=
  ∀ y : (D2 128 128).Idx, (hs y : EReal) = if (y 0).val / 64 = (y 1).val / 64 then 1 else 0

/-- The root mean square normalisation of a tile, per head, as the kernel computes it. -/
abbrev normV (x : FVec Ideal (D2 128 128) .f32) (hs : FVec Ideal (D2 128 128) .bf16) (g : FVec Ideal (D2 1 128) .f32)
    (ht : FTy.bf16.bits < FTy.f32.bits) (hb : (D2 1 128).Broadcasts (D2 128 128)) : FVec Ideal (D2 128 128) .f32 :=
  mulf (F := Ideal) (φ := .f32) (mulf (F := Ideal) (φ := .f32) x (rsqrt (addf (F := Ideal) (φ := .f32) (mulf (F := Ideal) (φ := .f32)
      (FloatOps.matmul (F := Ideal) (φ₁ := .bf16) (φ₂ := .bf16) (DotDims.plain 128 128 128) none
        (truncf (F := Ideal) .bf16 (mulf (F := Ideal) (φ := .f32) x x) ht) hs (constant (D2 128 128) .f32 0x00000000#32))
      (broadcast (D2 128 128) (Scalar.ofBits (F := Ideal) .f32 0x3C800000#32)))
    (broadcast (D2 128 128) (Scalar.ofBits (F := Ideal) .f32 0x358637BD#32)))))
    (broadcastTo (D2 128 128) g hb)

theorem sixtyfourth : Ideal.ofBits .f32 0x3C800000#32 = ((1 / 64 : ℝ) : EReal) := by
  simp [Ideal.ofBits, Ideal.ieee]; rw [← EReal.coe_mul]; norm_num

/-- The normalised entry at row `t` and lane `l`, for rows `X` and gains `G` by lane. -/
def nl (X : ℕ → ℕ → EReal) (G : ℕ → EReal) (t l : ℕ) : EReal :=
  nrm (fun d => X t (64 * (l / 64) + d)) (fun d => G (64 * (l / 64) + d)) (l % 64)

theorem norm_at {x : FVec Ideal (D2 128 128) .f32} {hs : FVec Ideal (D2 128 128) .bf16} {g : FVec Ideal (D2 1 128) .f32} {ht hb}
    {X : ℕ → ℕ → EReal} {G : ℕ → EReal} {o : ℕ} (hx : ∀ y : (D2 128 128).Idx, (x y : EReal) = X (o + (y 0).val) (y 1).val) (hH : SumOk hs)
    (hg : ∀ y : (D2 1 128).Idx, (g y : EReal) = G (y 1).val) (y : (D2 128 128).Idx) :
    (normV x hs g ht hb y : EReal) = nl X G (o + (y 0).val) (y 1).val := by
  have b1 : (y 1).val < 128 := (y 1).isLt
  have e1 : 64 * ((y 1).val / 64) + (y 1).val % 64 = (y 1).val := Nat.div_add_mod _ _
  have hsum : (FloatOps.matmul (F := Ideal) (φ₁ := .bf16) (φ₂ := .bf16) (DotDims.plain 128 128 128) none
        (truncf (F := Ideal) .bf16 (mulf (F := Ideal) (φ := .f32) x x) ht) hs (constant (D2 128 128) .f32 0x00000000#32) y : EReal)
      = ∑ d ∈ Finset.range 64, X (o + (y 0).val) (64 * ((y 1).val / 64) + d) * X (o + (y 0).val) (64 * ((y 1).val / 64) + d) := by
    refine (mm_at _ _ _).trans ?_
    refine Eq.trans (b := ∑ k : Fin 128, (X (o + (y 0).val) k.val * X (o + (y 0).val) k.val)
      * (if k.val / 64 = (y 1).val / 64 then (fun _ => (1 : EReal)) k.val else 0)) (Finset.sum_congr rfl fun k _ => ?_) ?_
    · refine congrArg₂ (· * ·) ?_ (hH (ix2 (n0 := 128) (n1 := 128) k (y 1)))
      show (x (ix2 (n0 := 128) (n1 := 128) (y 0) k) : EReal) * x (ix2 (n0 := 128) (n1 := 128) (y 0) k) = _
      rw [hx]
      rfl
    refine (Finset.sum_range (fun k => (X (o + (y 0).val) k * X (o + (y 0).val) k)
      * (if k / 64 = (y 1).val / 64 then (fun _ => (1 : EReal)) k else 0))).symm.trans ?_
    refine (sum_half (N := 64) (by omega) (by omega) (fun k => X (o + (y 0).val) k * X (o + (y 0).val) k) (fun _ => 1)).trans ?_
    exact Finset.sum_congr rfl fun d _ => mul_one _
  have hG : (broadcastTo (D2 128 128) g hb y : EReal) = G (y 1).val := by
    refine (broadcastTo_apply g hb y (ix2 (n0 := 1) (n1 := 128) 0 (y 1)) fun a => ?_).trans (hg _)
    match a with
    | ⟨0, _⟩ => rfl
    | ⟨1, _⟩ => rfl
  refine Eq.trans (b := X (o + (y 0).val) (y 1).val * Ideal.rsqrt ((∑ d ∈ Finset.range 64,
      X (o + (y 0).val) (64 * ((y 1).val / 64) + d) * X (o + (y 0).val) (64 * ((y 1).val / 64) + d)) * ((1 / 64 : ℝ) : EReal) + eps)
      * G (y 1).val) ?_ ?_
  · refine congrArg₂ (· * ·) (congrArg₂ (· * ·) (hx y) (congrArg Ideal.rsqrt (congrArg₂ (· + ·) (congrArg₂ (· * ·) hsum sixtyfourth) rfl))) hG
  · unfold nl nrm
    simp only [e1]

/-- The mask of the first head. -/
def LoOk (mk : IVec (D2 128 128) 1) (ax : Fin 2) : Prop := ∀ y : (D2 128 128).Idx, mk y = if (y ax).val < 64 then 1#1 else 0#1

theorem lo_at {mk : IVec (D2 128 128) 1} {ax} (hm : LoOk mk ax) (a : FVec Ideal (D2 128 128) .f32) (y : (D2 128 128).Idx) :
    (select mk a (zeros (D2 128 128)) y : EReal) = if (y ax).val < 64 then a y else 0 := by
  show (if mk y = 1#1 then a y else (Ideal.ofBits .f32 0x00000000#32 : EReal)) = _
  rw [hm y, Ideal.ofBits_zero_f32]
  split <;> simp

theorem hi_at {mk : IVec (D2 128 128) 1} {ax} (hm : LoOk mk ax) (a : FVec Ideal (D2 128 128) .f32) (y : (D2 128 128).Idx) :
    (select mk (zeros (D2 128 128)) a y : EReal) = if (y ax).val < 64 then 0 else a y := by
  show (if mk y = 1#1 then (Ideal.ofBits .f32 0x00000000#32 : EReal) else a y) = _
  rw [hm y, Ideal.ofBits_zero_f32]
  split <;> simp

/-! ## The queries -/

/-- The first `i` tiles of the queries hold their normalised rows. -/
def QTo (v : View sig κ sp (D2 2048 128) .bf16) (L : List (View.Piece (Elt Ideal) (D2 2048 128) .bf16)) (Qn : ℕ → ℕ → EReal) (o : ℕ) : Prop :=
  ∀ y : (D2 2048 128).Idx, (y 0).val < o → (rd v L y : EReal) = Qn (y 0).val (y 1).val

theorem q_nil {v : View sig κ sp (D2 2048 128) .bf16} {L Qn} : QTo v L Qn 0 := fun y h => absurd h (Nat.not_lt_zero _)

theorem q_cons {v : View sig κ sp (D2 2048 128) .bf16} {L} {w : (D2 128 128).Idx → EReal} {x : FVec Ideal (D2 128 128) .f32} {hs}
    {g : FVec Ideal (D2 1 128) .f32} {X : ℕ → ℕ → EReal} {G : ℕ → EReal} {o o' : ℕ} {inb ht hb ht' h}
    (e : w = shapeCast (D2 128 128) (truncf (F := Ideal) .bf16 (normV x hs g ht hb) ht') h)
    (hx : ∀ y : (D2 128 128).Idx, (x y : EReal) = X (o + (y 0).val) (y 1).val) (hH : SumOk hs)
    (hg : ∀ y : (D2 1 128).Idx, (g y : EReal) = G (y 1).val) (ho : o' = o + 128) (hL : QTo v L (nl X G) o) :
    QTo v (⟨Rect.unit (s := D2 2048 128) ![o, 0] ![128, 128] inb, w⟩ :: L) (nl X G) o' := by
  intro y hy
  have b1 : (y 1).val < 128 := (y 1).isLt
  by_cases c : o ≤ (y 0).val
  · refine (hit2 v inb w L y (ix2 (n0 := 128) (n1 := 128) ⟨(y 0).val - o, by omega⟩ (y 1)) (by show _ = o + ((y 0).val - o); omega)
      (Nat.zero_add _).symm).trans ?_
    rw [e, shapeCast_self]
    refine (norm_at hx hH hg _).trans ?_
    show nl X G (o + ((y 0).val - o)) (y 1).val = _
    rw [Nat.add_sub_cancel' c]
  · refine (rd_miss v inb w L y 0 (Or.inl (by show _ < o; omega))).trans (hL y (by omega))

/-! ## The keys -/

def KTo (v : View sig κ sp (D3 16 128 256) .bf16) (L : List (View.Piece (Elt Ideal) (D3 16 128 256) .bf16)) (Kn : ℕ → ℕ → EReal) (i : ℕ) : Prop :=
  ∀ y : (D3 16 128 256).Idx, (y 0).val < i → (rd v L y : EReal)
    = if (y 1).val / 64 = (y 2).val / 128 then Kn (128 * (y 0).val + (y 2).val % 128) (y 1).val else 0

theorem k_nil {v : View sig κ sp (D3 16 128 256) .bf16} {L Kn} : KTo v L Kn 0 := fun y h => absurd h (Nat.not_lt_zero _)

theorem tr_at {a : FVec Ideal (D2 128 128) .f32} {hp} (y : (D2 128 128).Idx) :
    (transpose (D2 128 128) [1, 0] a hp y : EReal) = a (ix2 (n0 := 128) (n1 := 128) (y 1) (y 0)) :=
  transpose_apply _ a hp y _ fun b => by
    match b with
    | ⟨0, _⟩ => rfl
    | ⟨1, _⟩ => rfl

theorem k_cons {v : View sig κ sp (D3 16 128 256) .bf16} {L} {w w' : (D3 1 128 128).Idx → EReal} {mk mk' : IVec (D2 128 128) 1}
    {x : FVec Ideal (D2 128 128) .f32} {hs} {g : FVec Ideal (D2 1 128) .f32} {X : ℕ → ℕ → EReal} {G : ℕ → EReal} {i : ℕ}
    {inb inb' ht hb ht' ht'' h h' hp}
    (e : w = shapeCast (D3 1 128 128) (truncf (F := Ideal) .bf16
      (select mk (transpose (D2 128 128) [1, 0] (normV x hs g ht hb) hp) (zeros (D2 128 128))) ht') h)
    (e' : w' = shapeCast (D3 1 128 128) (truncf (F := Ideal) .bf16
      (select mk' (zeros (D2 128 128)) (transpose (D2 128 128) [1, 0] (normV x hs g ht hb) hp)) ht'') h')
    (hm : LoOk mk 0) (hm' : LoOk mk' 0)
    (hx : ∀ y : (D2 128 128).Idx, (x y : EReal) = X (128 * i + (y 0).val) (y 1).val) (hH : SumOk hs)
    (hg : ∀ y : (D2 1 128).Idx, (g y : EReal) = G (y 1).val) (hL : KTo v L (nl X G) i) :
    KTo v (⟨Rect.unit (s := D3 16 128 256) ![i, 0, 128] ![1, 128, 128] inb', w'⟩
      :: ⟨Rect.unit (s := D3 16 128 256) ![i, 0, 0] ![1, 128, 128] inb, w⟩ :: L) (nl X G) (i + 1) := by
  intro y hy
  have b1 : (y 1).val < 128 := (y 1).isLt
  have b2 : (y 2).val < 256 := (y 2).isLt
  by_cases c : (y 0).val = i
  · by_cases d : (y 2).val < 128
    · refine (rd_miss v inb' w' _ y 2 (Or.inl d)).trans ?_
      refine (hit3 v inb w L y (ix3 (n0 := 1) (n1 := 128) (n2 := 128) 0 (y 1) ⟨(y 2).val, d⟩) c
        (Nat.zero_add _).symm (Nat.zero_add _).symm).trans ?_
      rw [e]
      refine (cast_add1 _ h _).trans ((lo_at hm _ _).trans ?_)
      have q : (y 2).val / 128 = 0 := by omega
      rw [q, Nat.mod_eq_of_lt d, c]
      refine if_congr (show (y 1).val < 64 ↔ _ by omega) ((tr_at _).trans (norm_at hx hH hg _)) rfl
    · refine (hit3 v inb' w' _ y (ix3 (n0 := 1) (n1 := 128) (n2 := 128) 0 (y 1) ⟨(y 2).val - 128, by omega⟩) c
        (Nat.zero_add _).symm (by show _ = 128 + ((y 2).val - 128); omega)).trans ?_
      rw [e']
      refine (cast_add1 _ h' _).trans ((hi_at hm' _ _).trans ?_)
      have q : (y 2).val / 128 = 1 := by omega
      have r : (y 2).val % 128 = (y 2).val - 128 := by omega
      rw [q, r, c, ← ite_not]
      refine if_congr (show ¬ (y 1).val < 64 ↔ _ by omega) ((tr_at _).trans (norm_at hx hH hg _)) rfl
  · refine (rd_miss v inb' w' _ y 0 ?_).trans ((rd_miss v inb w L y 0 ?_).trans (hL y (by omega)))
    · exact Or.inl (by show _ < i; omega)
    · exact Or.inl (by show _ < i; omega)

/-! ## The values -/

def VTo (v : View sig κ sp (D3 16 256 128) .bf16) (L : List (View.Piece (Elt Ideal) (D3 16 256 128) .bf16)) (V : ℕ → ℕ → EReal) (i : ℕ) : Prop :=
  ∀ y : (D3 16 256 128).Idx, (y 0).val < i → (rd v L y : EReal)
    = if (y 1).val / 128 = (y 2).val / 64 then V (128 * (y 0).val + (y 1).val % 128) (y 2).val else 0

theorem v_nil {v : View sig κ sp (D3 16 256 128) .bf16} {L V} : VTo v L V 0 := fun y h => absurd h (Nat.not_lt_zero _)

theorem v_cons {v : View sig κ sp (D3 16 256 128) .bf16} {L} {w w' : (D3 1 128 128).Idx → EReal} {mk mk' : IVec (D2 128 128) 1}
    {x : FVec Ideal (D2 128 128) .f32} {V : ℕ → ℕ → EReal} {i : ℕ} {inb inb' ht' ht'' h h'}
    (e : w = shapeCast (D3 1 128 128) (truncf (F := Ideal) .bf16 (select mk x (zeros (D2 128 128))) ht') h)
    (e' : w' = shapeCast (D3 1 128 128) (truncf (F := Ideal) .bf16 (select mk' (zeros (D2 128 128)) x) ht'') h')
    (hm : LoOk mk 1) (hm' : LoOk mk' 1)
    (hx : ∀ y : (D2 128 128).Idx, (x y : EReal) = V (128 * i + (y 0).val) (y 1).val) (hL : VTo v L V i) :
    VTo v (⟨Rect.unit (s := D3 16 256 128) ![i, 128, 0] ![1, 128, 128] inb', w'⟩
      :: ⟨Rect.unit (s := D3 16 256 128) ![i, 0, 0] ![1, 128, 128] inb, w⟩ :: L) V (i + 1) := by
  intro y hy
  have b1 : (y 1).val < 256 := (y 1).isLt
  have b2 : (y 2).val < 128 := (y 2).isLt
  by_cases c : (y 0).val = i
  · by_cases d : (y 1).val < 128
    · refine (rd_miss v inb' w' _ y 1 (Or.inl d)).trans ?_
      refine (hit3 v inb w L y (ix3 (n0 := 1) (n1 := 128) (n2 := 128) 0 ⟨(y 1).val, d⟩ (y 2)) c
        (Nat.zero_add _).symm (Nat.zero_add _).symm).trans ?_
      rw [e]
      refine (cast_add1 _ h _).trans ((lo_at hm _ _).trans ?_)
      have q : (y 1).val / 128 = 0 := by omega
      rw [q, Nat.mod_eq_of_lt d, c]
      refine if_congr (show (y 2).val < 64 ↔ _ by omega) (hx _) rfl
    · refine (hit3 v inb' w' _ y (ix3 (n0 := 1) (n1 := 128) (n2 := 128) 0 ⟨(y 1).val - 128, by omega⟩ (y 2)) c
        (by show _ = 128 + ((y 1).val - 128); omega) (Nat.zero_add _).symm).trans ?_
      rw [e']
      refine (cast_add1 _ h' _).trans ((hi_at hm' _ _).trans ?_)
      have q : (y 1).val / 128 = 1 := by omega
      have r : (y 1).val % 128 = (y 1).val - 128 := by omega
      rw [q, r, c, ← ite_not]
      refine if_congr (show ¬ (y 2).val < 64 ↔ _ by omega) (hx _) rfl
  · refine (rd_miss v inb' w' _ y 0 ?_).trans ((rd_miss v inb w L y 0 ?_).trans (hL y (by omega)))
    · exact Or.inl (by show _ < i; omega)
    · exact Or.inl (by show _ < i; omega)

end Cert.KernelIdeal.Prep

end
-- ==== Proof.PrepRun.lean ====
/-
  The first loop of the kernel's run: what it leaves in the buffers of the queries, the keys and the values.
-/
module

public import proofs.«01_k».proof.Proof.Prep
public import proofs.«01_k».proof.Proof.Gen.KernelIdeal.Frame.RunA

@[expose] public section

set_option maxRecDepth 16384

noncomputable section

namespace Cert.KernelIdeal.PrepRun

open Cert.KernelIdeal Cert.KernelIdeal.Gen Cert.KernelIdeal.Gen.kernelRun0_A.sl
open Idealize.ShloMosaic Idealize.ShloMosaic.TcCoe Idealize.SL.Sem
open Cert.Stick Cert.Layout Cert.KernelIdeal.Tile Cert.KernelIdeal.Prep
open scoped BigOperators

variable {c : Dev nD} {arg2 : Memref sig .tc .vmem S2048x128 .f32} {harg2 : arg2.IsWhole} {arg3 : Memref sig .tc .vmem S2048x128 .f32}
  {harg3 : arg3.IsWhole} {arg4 : Memref sig .tc .vmem S2048x128 .f32} {harg4 : arg4.IsWhole} {arg5 : Memref sig .tc .vmem S1x128 .f32}
  {harg5 : arg5.IsWhole} {arg6 : Memref sig .tc .vmem S1x128 .f32} {harg6 : arg6.IsWhole} {arg7 : Memref sig .tc .vmem S128x256 .bf16}
  {harg7 : arg7.IsWhole} {arg8 : Memref sig .tc .vmem S128x128 .bf16} {harg8 : arg8.IsWhole}
  {arg16 : Memref sig .tc .vmem S16x128x256 .bf16} {arg17 : Memref sig .tc .vmem S16x256x128 .bf16} {arg18 : Memref sig .tc .vmem S2048x128 .bf16}
  {arg19 : Memref sig .tc .vmem S512x128 .f32} {arg20 : Memref sig .tc .vmem S512x256 .f32} {arg21 arg22 : Memref sig .tc .vmem S2x512x256 .f32}
  {arg23 : Memref sig .tc .vmem S2x2x512x128 .bf16} {arg24 arg25 : Memref sig .tc .vmem S2x512x256 .f32}
  {x0 x1 x2 : Vec Ideal S2048x128 .f32} {x3 x4 : Vec Ideal S1x128 .f32} {x5 : Vec Ideal S128x256 .bf16} {x6 : Vec Ideal S128x128 .bf16}

/-! ## The masks -/

theorem slt_lo : ∀ a : Fin 128, BitVec.ofBool (BitVec.slt (BitVec.ofNat 32 a.val) 64#32) = if a.val < 64 then 1#1 else 0#1 := by
  decide +kernel

theorem slt_tri : ∀ (a : Fin 128) (b : Fin 256),
    BitVec.ofBool (BitVec.slt (BitVec.ofNat 32 b.val &&& 127#32) (BitVec.ofNat 32 a.val)) = if b.val % 128 < a.val then 1#1 else 0#1 := by
  decide +kernel

theorem mask_ok : MaskOk v19 := fun y => by
  simpa [v19, v16, v15, v17, iota, cmpi, andi, IntOp.cmpi, IntOp.andi, broadcast] using slt_tri (y 0) (y 1)

theorem lo_row : LoOk (cmpi .slt v12 v10) 0 := fun y => by
  simpa [v12, v10, iota, cmpi, IntOp.cmpi, broadcast] using slt_lo (y 0)

theorem lo_lane : LoOk (cmpi .slt v9 v10) 1 := fun y => by
  simpa [v9, v10, iota, cmpi, IntOp.cmpi, broadcast] using slt_lo (y 1)

/-! ## The buffers -/

theorem v_ok : VOk arg17.view (HS1_32 (F := Ideal) c arg4 harg4 x2) (at2 (R := 2048) (C := 128) x2) := by
  have : VTo arg17.view (HS1_32 (F := Ideal) c arg4 harg4 x2) (at2 (R := 2048) (C := 128) x2) 16 := by
    iterate 16 refine v_cons rfl rfl lo_lane lo_lane (ld_rows harg4 x2 (by decide)) ?_
    exact v_nil
  exact fun y => this y (y 0).isLt

/-- The gains of the keys, by lane. -/
theorem gain_at {M : Memref sig .tc .vmem S1x128 .f32} (hM : M.IsWhole) (x : Vec Ideal S1x128 .f32) {inb h} (y : (D2 1 128).Idx) :
    (shapeCast S1x128 (View.readAt (Elt Ideal) M.view (Rect.unit (s := S1x128) ![0, 0] S1x128.size inb).toLoadRect (hM.unread x)) h y : EReal)
      = at2 (R := 1) (C := 128) x 0 (y 1).val := by
  have b0 : (y 0).val = 0 := Nat.lt_one_iff.mp (y 0).isLt
  refine (congrFun (shapeCast_self _ h) y).trans ((ld_rows hM x (by decide) y).trans ?_)
  rw [b0]

/-- The number the name "qscale" stands for: `log2 e / 8`. -/
theorem qscale_eq : Named.named (F := Ideal) Cert.KernelIdeal.κ "qscale" (φ := .f32) 0x3E38AA3B#32 = (((1 / 8) * lg : ℝ) : EReal) :=
  IdealRules.named_const.ideal_named_scalar _ _ _ _ rfl

/-- The gains of the queries, by lane, times the scale of the scores. -/
theorem qgain_at {M : Memref sig .tc .vmem S1x128 .f32} (hM : M.IsWhole) (x : Vec Ideal S1x128 .f32) {inb h} (y : (D2 1 128).Idx) :
    (mulf (F := Ideal) (φ := .f32) (shapeCast S1x128 (View.readAt (Elt Ideal) M.view (Rect.unit (s := S1x128) ![0, 0] S1x128.size inb).toLoadRect (hM.unread x)) h)
        (broadcast S1x128 (Named.named (F := Ideal) Cert.KernelIdeal.κ "qscale" (φ := .f32) 0x3E38AA3B#32)) y : EReal)
      = at2 (R := 1) (C := 128) x 0 (y 1).val * (((1 / 8) * lg : ℝ) : EReal) :=
  congrArg₂ (· * ·) (gain_at hM x y) qscale_eq

theorem k_ok (hH : SumOk (View.readAt (Elt Ideal) arg8.view (Rect.unit ![0, 0] S128x128.size inb_S128x128_S128x128_0_0).toLoadRect (harg8.unread x6))) :
    KOk arg16.view (HS0_32 (F := Ideal) c arg3 harg3 arg6 harg6 arg8 harg8 x1 x4 x6)
      (nl (at2 (R := 2048) (C := 128) x1) (at2 (R := 1) (C := 128) x4 0)) := by
  have : KTo arg16.view (HS0_32 (F := Ideal) c arg3 harg3 arg6 harg6 arg8 harg8 x1 x4 x6)
      (nl (at2 (R := 2048) (C := 128) x1) (at2 (R := 1) (C := 128) x4 0)) 16 := by
    iterate 16 refine k_cons rfl rfl lo_row lo_row (ld_rows harg3 x1 (by decide)) hH (gain_at harg6 x4) ?_
    exact k_nil
  exact fun y => this y (y 0).isLt

theorem q_ok (hH : SumOk (View.readAt (Elt Ideal) arg8.view (Rect.unit ![0, 0] S128x128.size inb_S128x128_S128x128_0_0).toLoadRect (harg8.unread x6))) :
    QOk arg18.view (HS2_16 (F := Ideal) c arg2 harg2 arg5 harg5 arg8 harg8 x0 x3 x6)
      (nl (at2 (R := 2048) (C := 128) x0) fun l => at2 (R := 1) (C := 128) x3 0 l * (((1 / 8) * lg : ℝ) : EReal)) := by
  have : QTo arg18.view (HS2_16 (F := Ideal) c arg2 harg2 arg5 harg5 arg8 harg8 x0 x3 x6)
      (nl (at2 (R := 2048) (C := 128) x0) fun l => at2 (R := 1) (C := 128) x3 0 l * (((1 / 8) * lg : ℝ) : EReal)) 2048 := by
    iterate 16 refine q_cons rfl (ld_rows harg2 x0 (by decide)) hH (qgain_at harg5 x3) rfl ?_
    exact q_nil
  exact fun y => this y (y 0).isLt

end Cert.KernelIdeal.PrepRun

end
-- ==== Proof.Assemble.lean ====
/-
  One grid point of the kernel: two heads of one batch element. What the point's output block holds, from its input
  blocks, is the attention of the two heads.
-/
module

public import proofs.«01_k».proof.Proof.Chain
public import proofs.«01_k».proof.Proof.PrepRun
public import proofs.«01_k».proof.Proof.Gen.KernelIdeal.Frame

@[expose] public section

set_option maxRecDepth 16384

noncomputable section

namespace Cert.KernelIdeal.Assemble

open Cert.KernelIdeal Cert.KernelIdeal.Gen Cert.KernelIdeal.Gen.kernelRun0_A.sl
open Idealize.ShloMosaic Idealize.ShloMosaic.TcCoe Idealize.SL.Sem
open Cert.Stick Cert.Layout Cert.KernelIdeal.Tile Cert.KernelIdeal.Prep
open scoped BigOperators

/-! ## The scores of a head -/

theorem nrm_scale (x g : ℕ → EReal) (a : EReal) (d : ℕ) : nrm x (fun e => g e * a) d = nrm x g d * a :=
  (mul_assoc _ _ _).symm

/-- With the scale `log2 e / 8` in the gains of the queries, the products are the base-two scores. -/
theorem zOf_nl (X Y : ℕ → ℕ → EReal) (G H : ℕ → EReal) (h : ℕ) :
    zOf (nl X fun l => G l * (((1 / 8) * lg : ℝ) : EReal)) (nl Y H) h
      = fun t s => (lg : EReal) * score (fun t => nrm (fun d => X t (64 * h + d)) (fun d => G (64 * h + d)))
          (fun s => nrm (fun d => Y s (64 * h + d)) (fun d => H (64 * h + d))) t s := by
  funext t s
  have hc : (0 : ℝ) < (1 / 8) * lg := mul_pos (by norm_num) lg_pos
  unfold zOf score
  refine Eq.trans (b := ∑ d ∈ Finset.range 64, (((1 / 8) * lg : ℝ) : EReal)
      * (nrm (fun d => X t (64 * h + d)) (fun d => G (64 * h + d)) d * nrm (fun d => Y s (64 * h + d)) (fun d => H (64 * h + d)) d))
    (Finset.sum_congr rfl fun d hd => ?_) ?_
  · have bd : d < 64 := Finset.mem_range.mp hd
    have e1 : (64 * h + d) / 64 = h := by omega
    have e2 : (64 * h + d) % 64 = d := by omega
    unfold nl
    rw [e1, e2, nrm_scale, mul_comm (nrm _ _ _) (((1 / 8) * lg : ℝ) : EReal), mul_assoc]
  · rw [← coe_mul_sum hc, mul_comm (1 / 8 : ℝ) lg, EReal.coe_mul, mul_assoc, mul_comm ((1 / 8 : ℝ) : EReal)]

/-! ## The output block -/

section Out

variable {sig : RefSig} {κ κ' : Kind} {sp sp' : Space}

/-- Four blocks of 512 rows, each a copy of the accumulator. -/
theorem out4 {v : View sig κ sp (D2 2048 128) .f32} {va : View sig κ' sp' (D2 512 128) .f32} {L L0 L1 L2 L3} {Z : ℕ → ℕ → ℕ → EReal} {V : ℕ → ℕ → EReal}
    {inb0 inb1 inb2 inb3 ja jb jc jd}
    (e : L = [⟨Rect.unit (s := D2 2048 128) ![1536, 0] ![512, 128] inb3, va.readCov L3 (Rect.unit (s := D2 512 128) ![0, 0] ![512, 128] jd).toLoadRect⟩,
      ⟨Rect.unit (s := D2 2048 128) ![1024, 0] ![512, 128] inb2, va.readCov L2 (Rect.unit (s := D2 512 128) ![0, 0] ![512, 128] jc).toLoadRect⟩,
      ⟨Rect.unit (s := D2 2048 128) ![512, 0] ![512, 128] inb1, va.readCov L1 (Rect.unit (s := D2 512 128) ![0, 0] ![512, 128] jb).toLoadRect⟩,
      ⟨Rect.unit (s := D2 2048 128) ![0, 0] ![512, 128] inb0, va.readCov L0 (Rect.unit (s := D2 512 128) ![0, 0] ![512, 128] ja).toLoadRect⟩])
    (h0 : Ac va L0 0 0 Z V) (h1 : Ac va L1 512 0 Z V) (h2 : Ac va L2 1024 0 Z V) (h3 : Ac va L3 1536 0 Z V) (y : (D2 2048 128).Idx) :
    (rd v L y : EReal) = accAt (Z ((y 1).val / 64)) (fun s => V s (y 1).val) (y 0).val 0 := by
  have b0 : (y 0).val < 2048 := (y 0).isLt
  have b1 : (y 1).val < 128 := (y 1).isLt
  have blk : ∀ {t0 : ℕ} {LA inb} (hA : Ac va LA t0 0 Z V) (h : t0 ≤ (y 0).val) (h' : (y 0).val < t0 + 512),
      (va.readCov LA (Rect.unit (s := D2 512 128) ![0, 0] ![512, 128] inb).toLoadRect
        (ix2 (n0 := 512) (n1 := 128) ⟨(y 0).val - t0, by omega⟩ (y 1)) : EReal)
        = accAt (Z ((y 1).val / 64)) (fun s => V s (y 1).val) (y 0).val 0 := by
    intro t0 LA inb hA h h'
    refine (ld2 _ (ix2 (n0 := 512) (n1 := 128) ⟨(y 0).val - t0, by omega⟩ (y 1)) (Nat.zero_add _).symm rfl).trans ((hA _ (by omega)).trans ?_)
    show accAt _ _ (t0 + ((y 0).val - t0)) 0 = _
    rw [Nat.add_sub_cancel' h]
    rfl
  rw [e]
  by_cases c3 : 1536 ≤ (y 0).val
  · exact (hit2 v inb3 _ _ y (ix2 (n0 := 512) (n1 := 128) ⟨(y 0).val - 1536, by omega⟩ (y 1))
      (by show _ = 1536 + ((y 0).val - 1536); omega) (Nat.zero_add _).symm).trans (blk h3 c3 (by omega))
  refine (rd_miss v inb3 _ _ y 0 (Or.inl (by show _ < 1536; omega))).trans ?_
  by_cases c2 : 1024 ≤ (y 0).val
  · exact (hit2 v inb2 _ _ y (ix2 (n0 := 512) (n1 := 128) ⟨(y 0).val - 1024, by omega⟩ (y 1))
      (by show _ = 1024 + ((y 0).val - 1024); omega) (Nat.zero_add _).symm).trans (blk h2 c2 (by omega))
  refine (rd_miss v inb2 _ _ y 0 (Or.inl (by show _ < 1024; omega))).trans ?_
  by_cases c1 : 512 ≤ (y 0).val
  · exact (hit2 v inb1 _ _ y (ix2 (n0 := 512) (n1 := 128) ⟨(y 0).val - 512, by omega⟩ (y 1))
      (by show _ = 512 + ((y 0).val - 512); omega) (Nat.zero_add _).symm).trans (blk h1 c1 (by omega))
  refine (rd_miss v inb1 _ _ y 0 (Or.inl (by show _ < 512; omega))).trans ?_
  exact (hit2 v inb0 _ _ y (ix2 (n0 := 512) (n1 := 128) ⟨(y 0).val - 0, by omega⟩ (y 1))
    (by show _ = 0 + ((y 0).val - 0); omega) (Nat.zero_add _).symm).trans (blk h0 (Nat.zero_le _) (by omega))

end Out

variable {c : Dev nD} {i : grid0.Coords}
  {arg2 : Memref sig .tc .vmem S2048x128 .f32} {harg2 : arg2.IsWhole} {arg3 : Memref sig .tc .vmem S2048x128 .f32} {harg3 : arg3.IsWhole}
  {arg4 : Memref sig .tc .vmem S2048x128 .f32} {harg4 : arg4.IsWhole} {arg5 : Memref sig .tc .vmem S1x128 .f32} {harg5 : arg5.IsWhole}
  {arg6 : Memref sig .tc .vmem S1x128 .f32} {harg6 : arg6.IsWhole} {arg7 : Memref sig .tc .vmem S128x256 .bf16} {harg7 : arg7.IsWhole}
  {arg8 : Memref sig .tc .vmem S128x128 .bf16} {harg8 : arg8.IsWhole} {arg9 : Memref sig .tc .vmem S32x1024 .f32} {harg9 : arg9.IsWhole}
  {arg10 : Memref sig .tc .vmem S32x4096 .f32} {harg10 : arg10.IsWhole} {arg11 : Memref sig .tc .vmem S128x1024 .f32}
  {harg11 : arg11.IsWhole} {arg12 : Memref sig .tc .vmem S2048x128 .f32} {harg12 : arg12.IsWhole}
  {arg13 : Memref sig .tc .vmem S32x1024 .bf16} {harg13 : arg13.IsWhole} {arg14 : Memref sig .tc .vmem S32x4096 .bf16}
  {harg14 : arg14.IsWhole} {arg15 : Memref sig .tc .vmem S128x1024 .bf16} {harg15 : arg15.IsWhole}
  {arg16 : Memref sig .tc .vmem S16x128x256 .bf16} {harg16 : arg16.IsWhole} {arg17 : Memref sig .tc .vmem S16x256x128 .bf16}
  {harg17 : arg17.IsWhole} {arg18 : Memref sig .tc .vmem S2048x128 .bf16} {harg18 : arg18.IsWhole}
  {arg19 : Memref sig .tc .vmem S512x128 .f32} {harg19 : arg19.IsWhole} {arg20 : Memref sig .tc .vmem S512x256 .f32}
  {harg20 : arg20.IsWhole} {arg21 : Memref sig .tc .vmem S2x512x256 .f32} {harg21 : arg21.IsWhole}
  {arg22 : Memref sig .tc .vmem S2x512x256 .f32} {harg22 : arg22.IsWhole} {arg23 : Memref sig .tc .vmem S2x2x512x128 .bf16}
  {harg23 : arg23.IsWhole} {arg24 : Memref sig .tc .vmem S2x512x256 .f32} {harg24 : arg24.IsWhole}
  {arg25 : Memref sig .tc .vmem S2x512x256 .f32} {harg25 : arg25.IsWhole}
  {x0 : Vec Ideal S2048x128 .f32} {x1 : Vec Ideal S2048x128 .f32} {x2 : Vec Ideal S2048x128 .f32} {x3 : Vec Ideal S1x128 .f32} {x4 : Vec Ideal S1x128 .f32}
  {x5 : Vec Ideal S128x256 .bf16} {x6 : Vec Ideal S128x128 .bf16} {x7 : Vec Ideal S32x1024 .f32} {x8 : Vec Ideal S32x4096 .f32} {x9 : Vec Ideal S128x1024 .f32}

/-- The output block of a point, from its blocks of queries, keys, values and gains. -/
theorem point (hH : SumOk (View.readAt (Elt Ideal) arg8.view (Rect.unit ![0, 0] S128x128.size inb_S128x128_S128x128_0_0).toLoadRect (harg8.unread x6)))
    (hw : TriOk (View.readAt (Elt Ideal) arg7.view (Rect.unit ![0, 0] S128x256.size inb_S128x256_S128x256_0_0).toLoadRect (harg7.unread x5)))
    (v : View sig .tc .vmem S2048x128 .f32) (y : (D2 2048 128).Idx) :
    (rd v (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9).1 y : EReal)
      = rout (score
          (fun t => nrm (fun d => at2 (R := 2048) (C := 128) x0 t (64 * ((y 1).val / 64) + d))
            (fun d => at2 (R := 1) (C := 128) x3 0 (64 * ((y 1).val / 64) + d)))
          (fun s => nrm (fun d => at2 (R := 2048) (C := 128) x1 s (64 * ((y 1).val / 64) + d))
            (fun d => at2 (R := 1) (C := 128) x4 0 (64 * ((y 1).val / 64) + d))))
        (fun s => at2 (R := 2048) (C := 128) x2 s (y 1).val) (y 0).val := by
  have hQ := PrepRun.q_ok (c := c) (arg2 := arg2) (harg2 := harg2) (arg5 := arg5) (harg5 := harg5) (arg18 := arg18) (x0 := x0) (x3 := x3) hH
  have hK := PrepRun.k_ok (c := c) (arg3 := arg3) (harg3 := harg3) (arg6 := arg6) (harg6 := harg6) (arg16 := arg16) (x1 := x1) (x4 := x4) hH
  have hV := PrepRun.v_ok (c := c) (arg4 := arg4) (harg4 := harg4) (arg17 := arg17) (x2 := x2)
  have hm := PrepRun.mask_ok
  refine (out4 (va := arg19.view) rfl (Chain.acc0 hQ hK hV hm hw) (Chain.acc1 hQ hK hV hm hw) (Chain.acc2 hQ hK hV hm hw) (Chain.acc3 hQ hK hV hm hw) y).trans ?_
  rw [zOf_nl, accAt_zero_lg]

end Cert.KernelIdeal.Assemble

end
-- ==== Proof.TriTable.lean ====
/-
  The entries of the kernel's table of 128 by 256 zeros and ones, by quarters of its rows.
-/
module

public import proofs.«01_k».proof.KernelIdeal

@[expose] public section

set_option maxRecDepth 16384

noncomputable section

namespace Cert.KernelIdeal.TriTable

open Cert.KernelIdeal Idealize.ShloMosaic

theorem rows0 : ∀ r : Fin 32, ∀ c : Fin 256,
    lit0t ((0 + r.val) * 256 + c.val) = if 128 ≤ c.val ∨ c.val < 0 + r.val then 0x3F80#16 else 0x0000#16 := by decide +kernel

theorem rows1 : ∀ r : Fin 32, ∀ c : Fin 256,
    lit0t ((32 + r.val) * 256 + c.val) = if 128 ≤ c.val ∨ c.val < 32 + r.val then 0x3F80#16 else 0x0000#16 := by decide +kernel

theorem rows2 : ∀ r : Fin 32, ∀ c : Fin 256,
    lit0t ((64 + r.val) * 256 + c.val) = if 128 ≤ c.val ∨ c.val < 64 + r.val then 0x3F80#16 else 0x0000#16 := by decide +kernel

theorem rows3 : ∀ r : Fin 32, ∀ c : Fin 256,
    lit0t ((96 + r.val) * 256 + c.val) = if 128 ≤ c.val ∨ c.val < 96 + r.val then 0x3F80#16 else 0x0000#16 := by decide +kernel

theorem bits (r : Fin 128) (c : Fin 256) :
    lit0t (r.val * 256 + c.val) = if 128 ≤ c.val ∨ c.val < r.val then 0x3F80#16 else 0x0000#16 := by
  have b : r.val < 128 := r.isLt
  obtain h | h | h | h : r.val / 32 = 0 ∨ r.val / 32 = 1 ∨ r.val / 32 = 2 ∨ r.val / 32 = 3 := by omega
  · have e : 0 + r.val % 32 = r.val := by omega
    rw [← e]; exact rows0 ⟨r.val % 32, Nat.mod_lt _ (by decide)⟩ c
  · have e : 32 + r.val % 32 = r.val := by omega
    rw [← e]; exact rows1 ⟨r.val % 32, Nat.mod_lt _ (by decide)⟩ c
  · have e : 64 + r.val % 32 = r.val := by omega
    rw [← e]; exact rows2 ⟨r.val % 32, Nat.mod_lt _ (by decide)⟩ c
  · have e : 96 + r.val % 32 = r.val := by omega
    rw [← e]; exact rows3 ⟨r.val % 32, Nat.mod_lt _ (by decide)⟩ c

end Cert.KernelIdeal.TriTable

end
-- ==== Proof.SumTable.lean ====
/-
  The entries of the kernel's table of 128 by 128 zeros and ones.
-/
module

public import proofs.«01_k».proof.KernelIdeal

@[expose] public section

set_option maxRecDepth 16384

noncomputable section

namespace Cert.KernelIdeal.SumTable

open Cert.KernelIdeal Idealize.ShloMosaic

theorem low : ∀ r : Fin 64, ∀ c : Fin 128,
    lit1t (r.val * 128 + c.val) = if r.val / 64 = c.val / 64 then 0x3F80#16 else 0x0000#16 := by decide +kernel

theorem high : ∀ r : Fin 64, ∀ c : Fin 128,
    lit1t ((64 + r.val) * 128 + c.val) = if (64 + r.val) / 64 = c.val / 64 then 0x3F80#16 else 0x0000#16 := by decide +kernel

theorem bits (r : Fin 128) (c : Fin 128) :
    lit1t (r.val * 128 + c.val) = if r.val / 64 = c.val / 64 then 0x3F80#16 else 0x0000#16 := by
  have b : r.val < 128 := r.isLt
  obtain h | h : r.val < 64 ∨ 64 ≤ r.val := by omega
  · exact low ⟨r.val, h⟩ c
  · have e : 64 + (r.val - 64) = r.val := by omega
    rw [← e]; exact high ⟨r.val - 64, by omega⟩ c

end Cert.KernelIdeal.SumTable

end
-- ==== Proof.Host.lean ====
/-
  What the kernel's call finds in its operands: the two tables of zeros and ones, and the gains repeated for the two heads
  of a grid point.
-/
module

public import proofs.«01_k».proof.Proof.Gen.KernelIdeal.Frame
public import proofs.«01_k».proof.Proof.Prep
public import proofs.«01_k».proof.Proof.TriTable
public import proofs.«01_k».proof.Proof.SumTable
public import proofs.«01_k».proof.Proof.Stick
public import Idealize.ShloMosaic.Lib.IdealHost

@[expose] public section

set_option maxRecDepth 16384

noncomputable section

namespace Cert.KernelIdeal.Host

open Cert.KernelIdeal Cert.KernelIdeal.Gen
open Idealize.ShloMosaic Idealize.ShloMosaic.TcCoe Idealize.SL.Sem
open Cert.Stick Cert.Layout Cert.KernelIdeal.Tile Cert.KernelIdeal.Prep

/-! ## The tables -/

theorem one_zero (p : Prop) [Decidable p] :
    Ideal.ofBits .bf16 (if p then 0x3F80#16 else 0x0000#16) = if p then (1 : EReal) else 0 := by
  split
  · exact Ideal.ofBits_one_bf16
  · exact Ideal.ofBits_zero_bf16

variable (m : (ℓ : Loc nD τ sig) → Buf (Elt Ideal) ℓ) (c : Dev nD)

theorem V_tri : (V m c main_cst : S128x256.Idx → EReal) = fun i => Ideal.ofBits .bf16 (lit0 (S128x256.rowMajor i)) := by
  show StableHlo.after hostOps0 (fun b => m (c, b)) (main_cst : DevRef τ sig) = _
  after_results
  rfl

theorem V_sum : (V m c main_cst_0 : S128x128.Idx → EReal) = fun i => Ideal.ofBits .bf16 (lit1 (S128x128.rowMajor i)) := by
  show StableHlo.after hostOps0 (fun b => m (c, b)) (main_cst_0 : DevRef τ sig) = _
  after_results
  rfl

/-- The table of the keys at or after a key, in the key's tile, and of the ones that count the tile. -/
theorem tri_at (y : S128x256.Idx) :
    ((V m c main_cst : S128x256.Idx → EReal) y : EReal) = if 128 ≤ (y 1).val ∨ (y 1).val < (y 0).val then (1 : EReal) else (0 : EReal) := by
  rw [V_tri, ← one_zero, ← TriTable.bits (y 0) (y 1)]
  show Ideal.ofBits .bf16 (lit0t (S128x256.rowMajor y).val) = _
  rw [Shape.rowMajor_val_two]
  rfl

/-- The table that sums the lanes of each head. -/
theorem sum_at (y : S128x128.Idx) :
    ((V m c main_cst_0 : S128x128.Idx → EReal) y : EReal) = if (y 0).val / 64 = (y 1).val / 64 then (1 : EReal) else (0 : EReal) := by
  rw [V_sum, ← one_zero, ← SumTable.bits (y 0) (y 1)]
  show Ideal.ofBits .bf16 (lit1t (S128x128.rowMajor y).val) = _
  rw [Shape.rowMajor_val_two]
  rfl

/-! ## The gains -/

/-- A row of 64 gains, twice. -/
def twice (g : FVec Ideal S64 .f32) : FVec Ideal S1x128 .f32 :=
  shapeCast S1x128 (shapeCast S128 (broadcastInDim S2x64 ![0, 1] bcast_S1x64_S2x64_0_1 (shapeCast S1x64 g shapeCasts_S64_S1x64)) shapeCasts_S2x64_S128) shapeCasts_S128_S1x128

theorem twice_at (g : FVec Ideal S64 .f32) (l : Fin 128) :
    (twice g (ix2 (0 : Fin 1) l) : EReal) = g (ix1 ⟨l.val % 64, Nat.mod_lt _ (by decide)⟩) := by
  pointwise [twice]

theorem V_gq : (V m c main_v3 : S1x128.Idx → EReal) = twice (m ((c : Thread nD τ).loc main_arg1)) := by
  show StableHlo.after hostOps0 (fun b => m (c, b)) (main_v3 : DevRef τ sig) = _
  after_results
  rfl

theorem V_gk : (V m c main_v7 : S1x128.Idx → EReal) = twice (m ((c : Thread nD τ).loc main_arg2)) := by
  show StableHlo.after hostOps0 (fun b => m (c, b)) (main_v7 : DevRef τ sig) = _
  after_results
  rfl

end Cert.KernelIdeal.Host

end
-- ==== Proof.Grid.lean ====
/-
  The grid: 32 points, one per batch element and pair of heads. Each point's blocks are parts of the arguments, and the
  blocks it writes fill the results; so each result array is one function of the arguments.
-/
module

public import proofs.«01_k».proof.Proof.Assemble
public import proofs.«01_k».proof.Proof.Host
public import proofs.«01_k».proof.Proof.Gen.KernelIdeal.Value

@[expose] public section

set_option maxRecDepth 16384

noncomputable section

namespace Cert.KernelIdeal.Grid

open Cert.KernelIdeal Cert.KernelIdeal.Gen Cert.KernelIdeal.Value
open Idealize.ShloMosaic Idealize.ShloMosaic.TcCoe Idealize.SL.Sem
open Cert.Stick Cert.Layout Cert.KernelIdeal.Tile Cert.KernelIdeal.Prep Cert.KernelIdeal.Host
open scoped BigOperators

/-! ## The attention reads its rows at the coordinates of the head alone -/

theorem nrm_congr {x x' g g' : ℕ → EReal} (hx : ∀ d < 64, x d = x' d) (hg : ∀ d < 64, g d = g' d) {d : ℕ} (hd : d < 64) :
    nrm x g d = nrm x' g' d := by
  unfold nrm
  rw [hx d hd, hg d hd, Finset.sum_congr rfl fun e he => by rw [hx e (Finset.mem_range.mp he)]]

theorem score_congr {q q' k k' : ℕ → ℕ → EReal} {t s : ℕ} (hq : ∀ d < 64, q t d = q' t d) (hk : ∀ d < 64, k s d = k' s d) :
    score q k t s = score q' k' t s := by
  unfold score
  rw [Finset.sum_congr rfl fun e he => by rw [hq e (Finset.mem_range.mp he), hk e (Finset.mem_range.mp he)]]

theorem rout_congr {z z' : ℕ → ℕ → EReal} {v v' : ℕ → EReal} {t : ℕ} (hz : ∀ s < 2048, z t s = z' t s) (hv : ∀ s < 2048, v s = v' s) :
    rout z v t = rout z' v' t := by
  unfold rout
  refine Finset.sum_congr rfl fun s hs => ?_
  have bs := Finset.mem_range.mp hs
  rw [hv s bs]
  have hl : ∑ u ∈ Finset.Ico (s + 1) 2048, rl1 z t u = ∑ u ∈ Finset.Ico (s + 1) 2048, rl1 z' t u :=
    Finset.sum_congr rfl fun u hu => by unfold rl1; rw [hz u (Finset.mem_Ico.mp hu).2]
  unfold ratt
  rw [hz s bs, hl]

/-! ## The blocks of a point -/

variable (m : (ℓ : Loc nD τ sig) → Buf (Elt Ideal) ℓ) (c : Dev nD)

/-- The queries, keys and values of every token, packed. -/
abbrev X : S16384x1536.Idx → EReal := m ((c : Thread nD τ).loc main_arg0)
/-- The gains of the queries. -/
abbrev gq : S64.Idx → EReal := m ((c : Thread nD τ).loc main_arg1)
/-- The gains of the keys. -/
abbrev gk : S64.Idx → EReal := m ((c : Thread nD τ).loc main_arg2)

theorem index0 : ∀ t : Fin cfg0.N, win0_0.index t (0 : Fin 2) = t.val / 4 ∧ win0_0.index t (1 : Fin 2) = t.val % 4 :=
  (by decide +kernel : ∀ t : Fin grid0.N, _)
theorem index1 : ∀ t : Fin cfg0.N, win0_1.index t (0 : Fin 2) = t.val / 4 ∧ win0_1.index t (1 : Fin 2) = 4 + t.val % 4 :=
  (by decide +kernel : ∀ t : Fin grid0.N, _)
theorem index2 : ∀ t : Fin cfg0.N, win0_2.index t (0 : Fin 2) = t.val / 4 ∧ win0_2.index t (1 : Fin 2) = 8 + t.val % 4 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)
theorem index10 : ∀ t : Fin cfg0.N, win0_10.index t (0 : Fin 2) = t.val / 4 ∧ win0_10.index t (1 : Fin 2) = t.val % 4 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)
theorem index12 : ∀ t : Fin cfg0.N, win0_12.index t (0 : Fin 2) = t.val ∧ win0_12.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)

theorem point_lt (t : Fin cfg0.N) : t.val < 32 := t.isLt

/-- An entry of an array, at an index of known coordinates. -/
theorem at_eq {R C : ℕ} (A : (D2 R C).Idx → EReal) (i : (D2 R C).Idx) {r k : ℕ} (h0 : (i 0).val = r) (h1 : (i 1).val = k) : A i = at2 A r k := by
  subst h0 h1
  rw [at2_eq A (i 0).isLt (i 1).isLt]
  exact congrArg A (idx2_ext rfl rfl)

theorem blk0 (t : Fin cfg0.N) (j : S2048x128.Idx) :
    (iblk m c 0 t : S2048x128.Idx → EReal) j = at2 (X m c) (t.val / 4 * 2048 + (j 0).val) (t.val % 4 * 128 + (j 1).val) := by
  obtain ⟨e0, e1⟩ := index0 t
  show (V m c main_arg0 : S16384x1536.Idx → EReal) (((cfg0.win 0).blk t).view.emb j) = _
  rw [V_main_arg0]
  refine at_eq (X m c) _ ?_ ?_
  · show win0_0.index t (0 : Fin 2) * 2048 + 1 * (j 0).val = _; omega
  · show win0_0.index t (1 : Fin 2) * 128 + 1 * (j 1).val = _; omega

theorem blk1 (t : Fin cfg0.N) (j : S2048x128.Idx) :
    (iblk m c 1 t : S2048x128.Idx → EReal) j = at2 (X m c) (t.val / 4 * 2048 + (j 0).val) (512 + (t.val % 4 * 128 + (j 1).val)) := by
  obtain ⟨e0, e1⟩ := index1 t
  show (V m c main_arg0 : S16384x1536.Idx → EReal) (((cfg0.win 1).blk t).view.emb j) = _
  rw [V_main_arg0]
  refine at_eq (X m c) _ ?_ ?_
  · show win0_1.index t (0 : Fin 2) * 2048 + 1 * (j 0).val = _; omega
  · show win0_1.index t (1 : Fin 2) * 128 + 1 * (j 1).val = _; omega

theorem blk2 (t : Fin cfg0.N) (j : S2048x128.Idx) :
    (iblk m c 2 t : S2048x128.Idx → EReal) j = at2 (X m c) (t.val / 4 * 2048 + (j 0).val) (1024 + (t.val % 4 * 128 + (j 1).val)) := by
  obtain ⟨e0, e1⟩ := index2 t
  show (V m c main_arg0 : S16384x1536.Idx → EReal) (((cfg0.win 2).blk t).view.emb j) = _
  rw [V_main_arg0]
  refine at_eq (X m c) _ ?_ ?_
  · show win0_2.index t (0 : Fin 2) * 2048 + 1 * (j 0).val = _; omega
  · show win0_2.index t (1 : Fin 2) * 128 + 1 * (j 1).val = _; omega

/-- The gains of a lane: those of its place in its head. -/
theorem blk3 (t : Fin cfg0.N) {l : ℕ} (hl : l < 128) : at2 (R := 1) (C := 128) (iblk m c 3 t) 0 l = at1 (gq m c) (l % 64) := by
  obtain ⟨e0, e1⟩ := index3 t
  rw [at2_eq _ (by decide) hl, at1_eq _ (Nat.mod_lt _ (by decide)), ← twice_at (gq m c) ⟨l, hl⟩, ← V_gq]
  show (V m c main_v3 : S1x128.Idx → EReal) (((cfg0.win 3).blk t).view.emb (ix2 ⟨0, by decide⟩ ⟨l, hl⟩)) = _
  refine congrArg (V m c main_v3 : S1x128.Idx → EReal) (idx2_ext ?_ ?_)
  · show win0_3.index t (0 : Fin 2) * 1 + 1 * 0 = 0; omega
  · show win0_3.index t (1 : Fin 2) * 128 + 1 * l = l; omega

theorem blk4 (t : Fin cfg0.N) {l : ℕ} (hl : l < 128) : at2 (R := 1) (C := 128) (iblk m c 4 t) 0 l = at1 (gk m c) (l % 64) := by
  obtain ⟨e0, e1⟩ := index4 t
  rw [at2_eq _ (by decide) hl, at1_eq _ (Nat.mod_lt _ (by decide)), ← twice_at (gk m c) ⟨l, hl⟩, ← V_gk]
  show (V m c main_v7 : S1x128.Idx → EReal) (((cfg0.win 4).blk t).view.emb (ix2 ⟨0, by decide⟩ ⟨l, hl⟩)) = _
  refine congrArg (V m c main_v7 : S1x128.Idx → EReal) (idx2_ext ?_ ?_)
  · show win0_4.index t (0 : Fin 2) * 1 + 1 * 0 = 0; omega
  · show win0_4.index t (1 : Fin 2) * 128 + 1 * l = l; omega

theorem blk5 (t : Fin cfg0.N) (j : S128x256.Idx) : (iblk m c 5 t : S128x256.Idx → EReal) j = (V m c main_cst : S128x256.Idx → EReal) j := by
  obtain ⟨e0, e1⟩ := index5 t
  show (V m c main_cst : S128x256.Idx → EReal) (((cfg0.win 5).blk t).view.emb j) = _
  refine congrArg (V m c main_cst : S128x256.Idx → EReal) (idx2_ext ?_ ?_)
  · show win0_5.index t (0 : Fin 2) * 128 + 1 * (j 0).val = (j 0).val; omega
  · show win0_5.index t (1 : Fin 2) * 256 + 1 * (j 1).val = (j 1).val; omega

theorem blk6 (t : Fin cfg0.N) (j : S128x128.Idx) : (iblk m c 6 t : S128x128.Idx → EReal) j = (V m c main_cst_0 : S128x128.Idx → EReal) j := by
  obtain ⟨e0, e1⟩ := index6 t
  show (V m c main_cst_0 : S128x128.Idx → EReal) (((cfg0.win 6).blk t).view.emb j) = _
  refine congrArg (V m c main_cst_0 : S128x128.Idx → EReal) (idx2_ext ?_ ?_)
  · show win0_6.index t (0 : Fin 2) * 128 + 1 * (j 0).val = (j 0).val; omega
  · show win0_6.index t (1 : Fin 2) * 128 + 1 * (j 1).val = (j 1).val; omega

theorem tri_ok (t : Fin cfg0.N) {M : Memref sig .tc .vmem S128x256 .bf16} (hM : M.IsWhole) {inb} :
    TriOk (View.readAt (Elt Ideal) M.view (Rect.unit (s := S128x256) ![0, 0] ![128, 256] inb).toLoadRect (hM.unread (iblk m c 5 t))) := fun y =>
  ((ld_blk hM _ y y (Nat.zero_add _).symm (Nat.zero_add _).symm).trans (blk5 m c t y)).trans (tri_at m c y)

theorem sum_ok (t : Fin cfg0.N) {M : Memref sig .tc .vmem S128x128 .bf16} (hM : M.IsWhole) {inb} :
    SumOk (View.readAt (Elt Ideal) M.view (Rect.unit (s := S128x128) ![0, 0] ![128, 128] inb).toLoadRect (hM.unread (iblk m c 6 t))) := fun y =>
  ((ld_blk hM _ y y (Nat.zero_add _).symm (Nat.zero_add _).symm).trans (blk6 m c t y)).trans (sum_at m c y)

/-! ## The attention -/

/-- The attention of every token: head `k / 64` and component `k % 64` at column `k`. -/
def attnArr : S16384x512.Idx → EReal := fun i =>
  attn (X m c) (gq m c) (gk m c) ((i 0).val / 2048) ((i 1).val / 64) ((i 0).val % 2048) ((i 1).val % 64)

/-- The attention of a point's blocks is the attention of its batch element and its two heads. -/
theorem attn_block (t : Fin cfg0.N) (j : S2048x128.Idx) :
    rout (score
        (fun t' => nrm (fun d => at2 (R := 2048) (C := 128) (iblk m c 0 t) t' (64 * ((j 1).val / 64) + d))
          (fun d => at2 (R := 1) (C := 128) (iblk m c 3 t) 0 (64 * ((j 1).val / 64) + d)))
        (fun s => nrm (fun d => at2 (R := 2048) (C := 128) (iblk m c 1 t) s (64 * ((j 1).val / 64) + d))
          (fun d => at2 (R := 1) (C := 128) (iblk m c 4 t) 0 (64 * ((j 1).val / 64) + d))))
      (fun s => at2 (R := 2048) (C := 128) (iblk m c 2 t) s (j 1).val) (j 0).val
      = attn (X m c) (gq m c) (gk m c) (t.val / 4) ((t.val % 4 * 128 + (j 1).val) / 64) (j 0).val ((t.val % 4 * 128 + (j 1).val) % 64) := by
  have b0 : (j 0).val < 2048 := (j 0).isLt
  have b1 : (j 1).val < 128 := (j 1).isLt
  have bt := point_lt t
  have eh : (t.val % 4 * 128 + (j 1).val) / 64 = t.val % 4 * 2 + (j 1).val / 64 := by omega
  have ed : (t.val % 4 * 128 + (j 1).val) % 64 = (j 1).val % 64 := by omega
  rw [eh, ed]
  unfold attn head
  have hg : ∀ d < 64, (64 * ((j 1).val / 64) + d) % 64 = d := fun d hd => by omega
  refine rout_congr (fun s hs => score_congr (fun d hd => nrm_congr (fun e he => ?_) (fun e he => ?_) hd)
    (fun d hd => nrm_congr (fun e he => ?_) (fun e he => ?_) hd)) (fun s hs => ?_)
  · rw [at2_eq _ b0 (by omega : 64 * ((j 1).val / 64) + e < 128), blk0]
    exact congrArg₂ (at2 (X m c)) rfl (by show t.val % 4 * 128 + (64 * ((j 1).val / 64) + e) = _; omega)
  · rw [blk3 m c t (by omega : 64 * ((j 1).val / 64) + e < 128), hg e he]
  · rw [at2_eq _ hs (by omega : 64 * ((j 1).val / 64) + e < 128), blk1]
    exact congrArg₂ (at2 (X m c)) rfl (by show 512 + (t.val % 4 * 128 + (64 * ((j 1).val / 64) + e)) = _; omega)
  · rw [blk4 m c t (by omega : 64 * ((j 1).val / 64) + e < 128), hg e he]
  · rw [at2_eq _ hs b1, blk2]
    exact congrArg₂ (at2 (X m c)) rfl (by show 1024 + (t.val % 4 * 128 + (j 1).val) = _; omega)

/-- What a point writes back to the attention is its block of it. -/
theorem flushed10_eq (t : Fin cfg0.N) :
    (dats m 0 c).flushed 10 t = ((cfg0.win 10).blk t).view.read (Elt Ideal) (attnArr m c) := by
  rw [flushed10_A]
  funext j
  obtain ⟨e0, e1⟩ := index10 t
  have b0 : ((j : S2048x128.Idx) 0).val < 2048 := ((j : S2048x128.Idx) 0).isLt
  have h0 : ((((cfg0.win 10).blk t).view.emb j : S16384x512.Idx) 0).val = t.val / 4 * 2048 + ((j : S2048x128.Idx) 0).val := by
    show win0_10.index t (0 : Fin 2) * 2048 + 1 * ((j : S2048x128.Idx) 0).val = _; omega
  have h1 : ((((cfg0.win 10).blk t).view.emb j : S16384x512.Idx) 1).val = t.val % 4 * 128 + ((j : S2048x128.Idx) 1).val := by
    show win0_10.index t (1 : Fin 2) * 128 + 1 * ((j : S2048x128.Idx) 1).val = _; omega
  refine ((Assemble.point (sum_ok m c t (hs0_6 t)) (tri_ok m c t (hs0_5 t)) VO0_10 j).trans (attn_block m c t j)).trans ?_
  show _ = attnArr m c (((cfg0.win 10).blk t).view.emb j)
  unfold attnArr
  rw [h0, h1, show (t.val / 4 * 2048 + ((j : S2048x128.Idx) 0).val) / 2048 = t.val / 4 by omega,
    show (t.val / 4 * 2048 + ((j : S2048x128.Idx) 0).val) % 2048 = ((j : S2048x128.Idx) 0).val by omega]

/-- Every entry of the attention is in some point's block. -/
theorem covered10 (i : S16384x512.Idx) :
    ∃ t : Fin cfg0.N, (cfg0.win 10).flush t = true ∧ i ∈ ((cfg0.win 10).blk t).view.set := by
  have b0 : (i 0).val < 16384 := (i 0).isLt
  have b1 : (i 1).val < 512 := (i 1).isLt
  let t : Fin cfg0.N := ⟨(i 0).val / 2048 * 4 + (i 1).val / 128, by show _ < 32; omega⟩
  obtain ⟨e0, e1⟩ := index10 t
  have ht : t.val = (i 0).val / 2048 * 4 + (i 1).val / 128 := rfl
  refine ⟨t, flush0_10 t, ?_⟩
  have h := ((cfg0.win 10).blk t).view.emb_mem_set (ix2 (n0 := 2048) (n1 := 128) ⟨(i 0).val % 2048, Nat.mod_lt _ (by decide)⟩ ⟨(i 1).val % 128, Nat.mod_lt _ (by decide)⟩)
  have e : ((cfg0.win 10).blk t).view.emb (ix2 (n0 := 2048) (n1 := 128) ⟨(i 0).val % 2048, Nat.mod_lt _ (by decide)⟩ ⟨(i 1).val % 128, Nat.mod_lt _ (by decide)⟩) = i := by
    refine idx2_ext (a := 16384) (b := 512) ?_ ?_
    · show win0_10.index t (0 : Fin 2) * 2048 + 1 * ((i 0).val % 2048) = (i 0).val; omega
    · show win0_10.index t (1 : Fin 2) * 128 + 1 * ((i 1).val % 128) = (i 1).val; omega
  rwa [e] at h

theorem final10 : (dats m 0 c).arrAt 10 cfg0.N = attnArr m c :=
  (dats m 0 c).arrAt_eq_of_cover 10 (attnArr m c) (fun t _ => flushed10_eq m c t) covered10

/-! ## The weights, carried over -/

/-- A block stored as it was loaded, its numbers unchanged by the change of format. -/
theorem copied {R C : ℕ} {M : Memref sig .tc .vmem (D2 R C) .f32} (hM : M.IsWhole) (x : (D2 R C).Idx → EReal) (v : View sig .tc .vmem (D2 R C) .bf16)
    {inb inb'} (h : FTy.bf16.bits < FTy.f32.bits) (y : (D2 R C).Idx) :
    (rd v [⟨Rect.unit (s := D2 R C) ![0, 0] ![R, C] inb, truncf (F := Ideal) .bf16
      (View.readAt (Elt Ideal) M.view (Rect.unit (s := D2 R C) ![0, 0] ![R, C] inb').toLoadRect (hM.unread x) : FVec Ideal (D2 R C) .f32) h⟩] y : EReal) = x y :=
  (hit2 v inb _ [] y y (Nat.zero_add _).symm (Nat.zero_add _).symm).trans
    (ld_blk hM x y y (Nat.zero_add _).symm (Nat.zero_add _).symm)

theorem flushed11_eq (t : Fin cfg0.N) : (dats m 0 c).flushed 11 t
    = ((cfg0.win 11).blk t).view.read (Elt Ideal) (m ((c : Thread nD τ).loc main_arg3) : S1024x1024.Idx → EReal) := by
  rw [flushed11_A]
  funext j
  obtain ⟨e0, e1⟩ := index11 t
  obtain ⟨f0, f1⟩ := index7 t
  refine (copied (hs0_7 t) (iblk m c 7 t) VO0_11 _ j).trans ?_
  show (V m c main_arg3 : S1024x1024.Idx → EReal) (((cfg0.win 7).blk t).view.emb j) = (m ((c : Thread nD τ).loc main_arg3) : S1024x1024.Idx → EReal) (((cfg0.win 11).blk t).view.emb j)
  rw [V_main_arg3]
  refine congrArg (m ((c : Thread nD τ).loc main_arg3) : S1024x1024.Idx → EReal) (idx2_ext ?_ ?_)
  · show win0_7.index t (0 : Fin 2) * 32 + 1 * _ = win0_11.index t (0 : Fin 2) * 32 + 1 * _; rw [e0, f0]
  · show win0_7.index t (1 : Fin 2) * 1024 + 1 * _ = win0_11.index t (1 : Fin 2) * 1024 + 1 * _; rw [e1, f1]

theorem flushed12_eq (t : Fin cfg0.N) : (dats m 0 c).flushed 12 t
    = ((cfg0.win 12).blk t).view.read (Elt Ideal) (m ((c : Thread nD τ).loc main_arg4) : S1024x4096.Idx → EReal) := by
  rw [flushed12_A]
  funext j
  obtain ⟨e0, e1⟩ := index12 t
  obtain ⟨f0, f1⟩ := index8 t
  refine (copied (hs0_8 t) (iblk m c 8 t) VO0_12 _ j).trans ?_
  show (V m c main_arg4 : S1024x4096.Idx → EReal) (((cfg0.win 8).blk t).view.emb j) = (m ((c : Thread nD τ).loc main_arg4) : S1024x4096.Idx → EReal) (((cfg0.win 12).blk t).view.emb j)
  rw [V_main_arg4]
  refine congrArg (m ((c : Thread nD τ).loc main_arg4) : S1024x4096.Idx → EReal) (idx2_ext ?_ ?_)
  · show win0_8.index t (0 : Fin 2) * 32 + 1 * _ = win0_12.index t (0 : Fin 2) * 32 + 1 * _; rw [e0, f0]
  · show win0_8.index t (1 : Fin 2) * 4096 + 1 * _ = win0_12.index t (1 : Fin 2) * 4096 + 1 * _; rw [e1, f1]

theorem flushed13_eq (t : Fin cfg0.N) : (dats m 0 c).flushed 13 t
    = ((cfg0.win 13).blk t).view.read (Elt Ideal) (m ((c : Thread nD τ).loc main_arg5) : S4096x1024.Idx → EReal) := by
  rw [flushed13_A]
  funext j
  obtain ⟨e0, e1⟩ := index13 t
  obtain ⟨f0, f1⟩ := index9 t
  refine (copied (hs0_9 t) (iblk m c 9 t) VO0_13 _ j).trans ?_
  show (V m c main_arg5 : S4096x1024.Idx → EReal) (((cfg0.win 9).blk t).view.emb j) = (m ((c : Thread nD τ).loc main_arg5) : S4096x1024.Idx → EReal) (((cfg0.win 13).blk t).view.emb j)
  rw [V_main_arg5]
  refine congrArg (m ((c : Thread nD τ).loc main_arg5) : S4096x1024.Idx → EReal) (idx2_ext ?_ ?_)
  · show win0_9.index t (0 : Fin 2) * 128 + 1 * _ = win0_13.index t (0 : Fin 2) * 128 + 1 * _; rw [e0, f0]
  · show win0_9.index t (1 : Fin 2) * 1024 + 1 * _ = win0_13.index t (1 : Fin 2) * 1024 + 1 * _; rw [e1, f1]

theorem covered11 (i : S1024x1024.Idx) :
    ∃ t : Fin cfg0.N, (cfg0.win 11).flush t = true ∧ i ∈ ((cfg0.win 11).blk t).view.set := by
  have b0 : (i 0).val < 1024 := (i 0).isLt
  let t : Fin cfg0.N := ⟨(i 0).val / 32, by show _ < 32; omega⟩
  obtain ⟨e0, e1⟩ := index11 t
  have ht : t.val = (i 0).val / 32 := rfl
  refine ⟨t, flush0_11 t, ?_⟩
  have h := ((cfg0.win 11).blk t).view.emb_mem_set (ix2 (n0 := 32) (n1 := 1024) ⟨(i 0).val % 32, Nat.mod_lt _ (by decide)⟩ (i 1))
  have e : ((cfg0.win 11).blk t).view.emb (ix2 (n0 := 32) (n1 := 1024) ⟨(i 0).val % 32, Nat.mod_lt _ (by decide)⟩ (i 1)) = i := by
    refine idx2_ext (a := 1024) (b := 1024) ?_ ?_
    · show win0_11.index t (0 : Fin 2) * 32 + 1 * ((i 0).val % 32) = (i 0).val; omega
    · show win0_11.index t (1 : Fin 2) * 1024 + 1 * (i 1).val = (i 1).val; omega
  rwa [e] at h

theorem covered12 (i : S1024x4096.Idx) :
    ∃ t : Fin cfg0.N, (cfg0.win 12).flush t = true ∧ i ∈ ((cfg0.win 12).blk t).view.set := by
  have b0 : (i 0).val < 1024 := (i 0).isLt
  let t : Fin cfg0.N := ⟨(i 0).val / 32, by show _ < 32; omega⟩
  obtain ⟨e0, e1⟩ := index12 t
  have ht : t.val = (i 0).val / 32 := rfl
  refine ⟨t, flush0_12 t, ?_⟩
  have h := ((cfg0.win 12).blk t).view.emb_mem_set (ix2 (n0 := 32) (n1 := 4096) ⟨(i 0).val % 32, Nat.mod_lt _ (by decide)⟩ (i 1))
  have e : ((cfg0.win 12).blk t).view.emb (ix2 (n0 := 32) (n1 := 4096) ⟨(i 0).val % 32, Nat.mod_lt _ (by decide)⟩ (i 1)) = i := by
    refine idx2_ext (a := 1024) (b := 4096) ?_ ?_
    · show win0_12.index t (0 : Fin 2) * 32 + 1 * ((i 0).val % 32) = (i 0).val; omega
    · show win0_12.index t (1 : Fin 2) * 4096 + 1 * (i 1).val = (i 1).val; omega
  rwa [e] at h

theorem covered13 (i : S4096x1024.Idx) :
    ∃ t : Fin cfg0.N, (cfg0.win 13).flush t = true ∧ i ∈ ((cfg0.win 13).blk t).view.set := by
  have b0 : (i 0).val < 4096 := (i 0).isLt
  let t : Fin cfg0.N := ⟨(i 0).val / 128, by show _ < 32; omega⟩
  obtain ⟨e0, e1⟩ := index13 t
  have ht : t.val = (i 0).val / 128 := rfl
  refine ⟨t, flush0_13 t, ?_⟩
  have h := ((cfg0.win 13).blk t).view.emb_mem_set (ix2 (n0 := 128) (n1 := 1024) ⟨(i 0).val % 128, Nat.mod_lt _ (by decide)⟩ (i 1))
  have e : ((cfg0.win 13).blk t).view.emb (ix2 (n0 := 128) (n1 := 1024) ⟨(i 0).val % 128, Nat.mod_lt _ (by decide)⟩ (i 1)) = i := by
    refine idx2_ext (a := 4096) (b := 1024) ?_ ?_
    · show win0_13.index t (0 : Fin 2) * 128 + 1 * ((i 0).val % 128) = (i 0).val; omega
    · show win0_13.index t (1 : Fin 2) * 1024 + 1 * (i 1).val = (i 1).val; omega
  rwa [e] at h

theorem final11 : (dats m 0 c).arrAt 11 cfg0.N = (m ((c : Thread nD τ).loc main_arg3) : S1024x1024.Idx → EReal) :=
  (dats m 0 c).arrAt_eq_of_cover 11 _ (fun t _ => flushed11_eq m c t) covered11

theorem final12 : (dats m 0 c).arrAt 12 cfg0.N = (m ((c : Thread nD τ).loc main_arg4) : S1024x4096.Idx → EReal) :=
  (dats m 0 c).arrAt_eq_of_cover 12 _ (fun t _ => flushed12_eq m c t) covered12

theorem final13 : (dats m 0 c).arrAt 13 cfg0.N = (m ((c : Thread nD τ).loc main_arg5) : S4096x1024.Idx → EReal) :=
  (dats m 0 c).arrAt_eq_of_cover 13 _ (fun t _ => flushed13_eq m c t) covered13

end Cert.KernelIdeal.Grid

end
-- ==== Proof.Ffn.lean ====
/-
  One row of the output projection and the feed-forward part, as functions of the row's entries: the norm, the residual
  after the projection, the modulated norm of it, the squared rectified products, and the result. Nothing here depends
  on a printed program.
-/
module

public import proofs.«01_k».proof.Proof.Stick

@[expose] public section

noncomputable section

namespace Cert.Ffn

open Idealize.ShloMosaic
open Cert.Stick
open scoped BigOperators

/-- An entry of a row divided by its root mean square, `r` the reciprocal of the row's length. -/
def rms {n : ℕ} (r : ℝ) (x : Fin n → EReal) (j : Fin n) : EReal := x j * Ideal.rsqrt ((∑ k, x k * x k) * (r : EReal) + eps)

/-- The two mixers' rows, side by side. -/
def mix (a y : Fin 512 → EReal) (k : Fin 1024) : EReal :=
  if h : k.val < 512 then a ⟨k.val, h⟩ else y ⟨k.val - 512, by omega⟩

/-- The row after the output projection. -/
def resid (a y : Fin 512 → EReal) (x gate : Fin 1024 → EReal) (wo : Fin 1024 → Fin 1024 → EReal) (j : Fin 1024) : EReal :=
  x j + gate j * ∑ k, mix a y k * wo k j

/-- The modulated norm of a row. -/
def modn (x g scale shift : Fin 1024 → EReal) (j : Fin 1024) : EReal :=
  rms (1 / 1024) x j * g j * (1 + scale j) + shift j

/-- The squared rectified product of a row with a column. -/
def act (h w : Fin 1024 → EReal) : EReal := max (∑ k, h k * w k) 0 * max (∑ k, h k * w k) 0

/-- The feed-forward part of a row. -/
def ffn (h : Fin 1024 → EReal) (w1 : Fin 1024 → Fin 4096 → EReal) (w2 : Fin 4096 → Fin 1024 → EReal) (j : Fin 1024) : EReal :=
  ∑ q, act h (fun k => w1 k q) * w2 q j

/-- The row of the result. -/
def row (a y g : Fin 512 → EReal) (x : Fin 1024 → EReal) (md : Fin 6 → Fin 1024 → EReal) (g2 : Fin 1024 → EReal)
    (wo : Fin 1024 → Fin 1024 → EReal) (w1 : Fin 1024 → Fin 4096 → EReal) (w2 : Fin 4096 → Fin 1024 → EReal) (j : Fin 1024) : EReal :=
  resid a (fun k => rms (1 / 512) y k * g k) x (md 2) wo j
    + md 5 j * ffn (modn (resid a (fun k => rms (1 / 512) y k * g k) x (md 2) wo) g2 (md 4) (md 3)) w1 w2 j

/-- A sum over a row of both mixers is the sum of their sums. -/
theorem sum_mix (a y : Fin 512 → EReal) (w : Fin 1024 → EReal) :
    ∑ k, mix a y k * w k = (∑ k : Fin 512, a k * w ⟨k.val, by omega⟩) + ∑ k : Fin 512, y k * w ⟨512 + k.val, by omega⟩ := by
  rw [show (∑ k, mix a y k * w k) = ∑ k : Fin (512 + 512), mix a y k * w k from rfl, Fin.sum_univ_add]
  refine congrArg₂ (· + ·) ?_ ?_
  · refine Finset.sum_congr rfl fun k _ => ?_
    have e : mix a y (Fin.castAdd 512 k) = a k := dif_pos k.isLt
    rw [e]; rfl
  · refine Finset.sum_congr rfl fun k _ => ?_
    have e : mix a y (Fin.natAdd 512 k) = y k := by
      refine (dif_neg (by show ¬ 512 + k.val < 512; omega)).trans (congrArg y (Fin.ext ?_))
      show 512 + k.val - 512 = k.val
      omega
    rw [e]; rfl

/-- A sum over 4096 is the sum of eight sums over 512, in order. -/
theorem sum_chunks (f : Fin 4096 → EReal) :
    ∑ q, f q = (((((((∑ q : Fin 512, f ⟨0 + q.val, by omega⟩) + ∑ q : Fin 512, f ⟨512 + q.val, by omega⟩) + ∑ q : Fin 512, f ⟨1024 + q.val, by omega⟩)
      + ∑ q : Fin 512, f ⟨1536 + q.val, by omega⟩) + ∑ q : Fin 512, f ⟨2048 + q.val, by omega⟩) + ∑ q : Fin 512, f ⟨2560 + q.val, by omega⟩)
      + ∑ q : Fin 512, f ⟨3072 + q.val, by omega⟩) + ∑ q : Fin 512, f ⟨3584 + q.val, by omega⟩ := by
  have split : ∀ (a : ℕ) (g : Fin (a + 512) → EReal), ∑ q, g q
      = (∑ q : Fin a, g ⟨q.val, by omega⟩) + ∑ q : Fin 512, g ⟨a + q.val, by omega⟩ := fun a g => Fin.sum_univ_add g
  rw [split 3584 f, split 3072, split 2560, split 2048, split 1536, split 1024, split 512]
  simp only [Nat.zero_add]

end Cert.Ffn

end
-- ==== Proof.FfnRef.lean ====
/-
  What the second reference computes, read at an index: one row of the output projection and the feed-forward part
  (`Ffn.row`).
-/
module

public import proofs.«01_k».proof.Proof.Gen.Reference2Ideal.Run
public import proofs.«01_k».proof.Proof.Ffn
public import Idealize.ShloMosaic.Lib.Pointwise
public import Idealize.ShloMosaic.Lib.IdealHost

@[expose] public section

set_option maxRecDepth 16384

noncomputable section

namespace Cert.Reference2Ideal.FfnRef

open Cert.Reference2Ideal Cert.Reference2Ideal.Gen Cert.Reference2Ideal.Value
open Idealize.ShloMosaic Idealize.ShloMosaic.TcCoe Idealize.SL.Sem
open Cert.Stick Cert.Ffn
open scoped BigOperators

/-! ## The reference in stages -/

/-- The attention's rows, normalised. -/
def normY (y : FVec Ideal S8x2048x512 .f32) (g : FVec Ideal S512 .f32) : FVec Ideal S8x2048x512 .f32 :=
  mulf (mulf y (broadcastInDim S8x2048x512 ![0, 1, 2] bcast_S8x2048x1_S8x2048x512_0_1_2 (Host.rsqrt (addf (Host.divf
    (broadcastInDim S8x2048x1 ![0, 1] bcast_S8x2048_S8x2048x1_0_1 (Host.reduceAdd (mulf y y) (constant S_ .f32 0x00000000#32) reducesTo_S8x2048x512_S8x2048_d2 h_S_))
    (broadcastInDim S8x2048x1 ![] bcast_S_S8x2048x1 (constant S_ .f32 0x44000000#32)))
    (broadcastInDim S8x2048x1 ![] bcast_S_S8x2048x1 (constant S_ .f32 0x358637BD#32))))))
    (broadcastInDim S8x2048x512 ![0, 1, 2] bcast_S1x1x512_S8x2048x512_0_1_2 (broadcastInDim S1x1x512 ![2] bcast_S512_S1x1x512_2 g))

/-- Both mixers' rows, side by side. -/
def both (a : FVec Ideal S16384x512 .bf16) (y : FVec Ideal S16384x512 .f32) (g : FVec Ideal S512 .f32) : FVec Ideal S8x2048x1024 .f32 :=
  fn_main_v22 (F := Ideal) (shapeCast _ (extf .f32 a bitsLt_bf16_f32) shapeCasts_S16384x512_S8x2048x512)
    (normY (shapeCast _ y shapeCasts_S16384x512_S8x2048x512) g)

/-- A row of the modulation, at every token. -/
def spread (v : FVec Ideal S8x1024 .f32) : FVec Ideal S8x2048x1024 .f32 :=
  broadcastInDim S8x2048x1024 ![0, 1, 2] bcast_S8x1x1024_S8x2048x1024_0_1_2 (broadcastInDim S8x1x1024 ![0, 2] bcast_S8x1024_S8x1x1024_0_2 v)

/-- The residual after the projection. -/
def residV (x mx : FVec Ideal S8x2048x1024 .f32) (gate : FVec Ideal S8x1024 .f32) (wo : FVec Ideal S1024x1024 .bf16) : FVec Ideal S8x2048x1024 .f32 :=
  addf x (mulf (spread gate) (Host.dotGeneral dot_S8x2048x1024_S1024x1024_S8x2048x1024_2_0_01_1_n_n none mx (extf .f32 wo bitsLt_bf16_f32)))

/-- Its modulated norm. -/
def modV (x : FVec Ideal S8x2048x1024 .f32) (g : FVec Ideal S1024 .f32) (scale shift : FVec Ideal S8x1024 .f32) : FVec Ideal S8x2048x1024 .f32 :=
  addf (mulf (mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S8x1x1024_S8x2048x1024_0_1_2
      (addf (broadcastInDim S8x1x1024 ![] bcast_S_S8x1x1024 (constant S_ .f32 0x3F800000#32)) (broadcastInDim S8x1x1024 ![0, 2] bcast_S8x1024_S8x1x1024_0_2 scale))))
    (spread shift)

/-- The rectified products, squared. -/
def actV (h : FVec Ideal S8x2048x1024 .f32) (w1 : FVec Ideal S1024x4096 .bf16) : FVec Ideal S8x2048x4096 .f32 :=
  mulf (maximumf (Host.dotGeneral dot_S8x2048x1024_S1024x4096_S8x2048x4096_2_0_01_1_n_n none h (extf .f32 w1 bitsLt_bf16_f32))
      (broadcastInDim S8x2048x4096 ![] bcast_S_S8x2048x4096 (constant S_ .f32 0x00000000#32)))
    (maximumf (Host.dotGeneral dot_S8x2048x1024_S1024x4096_S8x2048x4096_2_0_01_1_n_n none h (extf .f32 w1 bitsLt_bf16_f32))
      (broadcastInDim S8x2048x4096 ![] bcast_S_S8x2048x4096 (constant S_ .f32 0x00000000#32)))

/-- The result, in rows. -/
def outV (x a : FVec Ideal S8x2048x1024 .f32) (gate : FVec Ideal S8x1024 .f32) : FVec Ideal S16384x1024 .f32 :=
  shapeCast _ (addf x (mulf (spread gate) a)) shapeCasts_S8x2048x1024_S16384x1024

def down (p : FVec Ideal S8x2048x4096 .f32) (w2 : FVec Ideal S4096x1024 .bf16) : FVec Ideal S8x2048x1024 .f32 :=
  Host.dotGeneral dot_S8x2048x4096_S4096x1024_S8x2048x1024_2_0_01_1_n_n none p (extf .f32 w2 bitsLt_bf16_f32)

def part2 (md : FVec Ideal S8x6144 .f32) : FVec Ideal S8x1024 .f32 := extractStridedSlice S8x1024 ![0, 2048] md slices_S8x6144_S8x1024_0_2048
def part3 (md : FVec Ideal S8x6144 .f32) : FVec Ideal S8x1024 .f32 := extractStridedSlice S8x1024 ![0, 3072] md slices_S8x6144_S8x1024_0_3072
def part4 (md : FVec Ideal S8x6144 .f32) : FVec Ideal S8x1024 .f32 := extractStridedSlice S8x1024 ![0, 4096] md slices_S8x6144_S8x1024_0_4096
def part5 (md : FVec Ideal S8x6144 .f32) : FVec Ideal S8x1024 .f32 := extractStridedSlice S8x1024 ![0, 5120] md slices_S8x6144_S8x1024_0_5120

def residAll (a : FVec Ideal S16384x512 .bf16) (y : FVec Ideal S16384x512 .f32) (x : FVec Ideal S8x2048x1024 .f32) (md : FVec Ideal S8x6144 .f32)
    (g : FVec Ideal S512 .f32) (wo : FVec Ideal S1024x1024 .bf16) : FVec Ideal S8x2048x1024 .f32 := residV x (both a y g) (part2 md) wo

/-- The reference's result is its stages composed. -/
theorem res_eq (m : (ℓ : Loc nD τ sig) → Buf (Elt Ideal) ℓ) (c : Dev nD) (a : FVec Ideal S16384x512 .bf16) (y : FVec Ideal S16384x512 .f32)
    (x : FVec Ideal S8x2048x1024 .f32) (md : FVec Ideal S8x6144 .f32) (g : FVec Ideal S512 .f32) (wo : FVec Ideal S1024x1024 .bf16)
    (g2 : FVec Ideal S1024 .f32) (w1 : FVec Ideal S1024x4096 .bf16) (w2 : FVec Ideal S4096x1024 .bf16)
    (h0 : m ((c.tc : Thread nD τ).loc main_arg0) = a) (h1 : m ((c.tc : Thread nD τ).loc main_arg1) = y) (h2 : m ((c.tc : Thread nD τ).loc main_arg2) = x)
    (h3 : m ((c.tc : Thread nD τ).loc main_arg3) = md) (h4 : m ((c.tc : Thread nD τ).loc main_arg4) = g) (h5 : m ((c.tc : Thread nD τ).loc main_arg5) = wo)
    (h6 : m ((c.tc : Thread nD τ).loc main_arg6) = g2) (h7 : m ((c.tc : Thread nD τ).loc main_arg7) = w1) (h8 : m ((c.tc : Thread nD τ).loc main_arg8) = w2) :
    res_main_v60 (F := Ideal) m c = outV (residAll a y x md g wo)
      (down (actV (modV (residAll a y x md g wo) g2 (part4 md) (part3 md)) w1) w2) (part5 md) := by
  subst h0 h1 h2 h3 h4 h5 h6 h7 h8
  unfold res_main_v60 outV down actV modV residAll residV both normY spread part2 part3 part4 part5 fn_main_v22
  rfl

/-! ## The stages at an index -/

theorem f512 : Ideal.ofBits FTy.f32 0x44000000#32 = ((512 : ℝ) : EReal) := by
  simp [Ideal.ofBits, Ideal.ieee]
  rw [← EReal.coe_mul]
  norm_num

theorem f1024 : Ideal.ofBits FTy.f32 0x44800000#32 = ((1024 : ℝ) : EReal) := by
  simp [Ideal.ofBits, Ideal.ieee]
  rw [← EReal.coe_mul]
  norm_num

theorem normY_at (y : FVec Ideal S8x2048x512 .f32) (g : FVec Ideal S512 .f32) (b : Fin 8) (t : Fin 2048) (k : Fin 512) :
    normY y g (ix3 b t k) = rms (1 / 512) (fun k => y (ix3 b t k)) k * g (ix1 k) := by
  pointwise [normY]
  rw [f512, Ideal.div_coe (by norm_num)]
  rfl

theorem both_at (a : FVec Ideal S16384x512 .bf16) (y : FVec Ideal S16384x512 .f32) (g : FVec Ideal S512 .f32) (b : Fin 8) (t : Fin 2048) (k : Fin 1024) :
    both a y g (ix3 b t k) = mix (fun k => a (ix2 ⟨b.val * 2048 + t.val, by omega⟩ k))
      (fun k => rms (1 / 512) (fun k => y (ix2 ⟨b.val * 2048 + t.val, by omega⟩ k)) k * g (ix1 k)) k := by
  have hy : ∀ k : Fin 512, shapeCast S8x2048x512 y shapeCasts_S16384x512_S8x2048x512 (ix3 b t k) = y (ix2 ⟨b.val * 2048 + t.val, by omega⟩ k) := fun k => by
    pointwise []
  have hn := fun k => normY_at (shapeCast S8x2048x512 y shapeCasts_S16384x512_S8x2048x512) g b t k
  simp only [hy] at hn
  generalize hY : normY (shapeCast S8x2048x512 y shapeCasts_S16384x512_S8x2048x512) g = Y at hn
  unfold both
  rw [hY]
  unfold mix
  simp only [← hn]
  pointwise [fn_main_v22]

theorem spread_at (v : FVec Ideal S8x1024 .f32) (b : Fin 8) (t : Fin 2048) (j : Fin 1024) : spread v (ix3 b t j) = v (ix2 b j) := by
  pointwise [spread]

theorem residV_at (x mx : FVec Ideal S8x2048x1024 .f32) (gate : FVec Ideal S8x1024 .f32) (wo : FVec Ideal S1024x1024 .bf16) (b : Fin 8) (t : Fin 2048)
    (j : Fin 1024) : residV x mx gate wo (ix3 b t j) = x (ix3 b t j) + gate (ix2 b j) * ∑ k : Fin 1024, mx (ix3 b t k) * wo (ix2 k j) := by
  pointwise [residV, spread]

theorem modV_at (x : FVec Ideal S8x2048x1024 .f32) (g : FVec Ideal S1024 .f32) (scale shift : FVec Ideal S8x1024 .f32) (b : Fin 8) (t : Fin 2048)
    (j : Fin 1024) : modV x g scale shift (ix3 b t j)
      = modn (fun k => x (ix3 b t k)) (fun k => g (ix1 k)) (fun k => scale (ix2 b k)) (fun k => shift (ix2 b k)) j := by
  pointwise [modV, spread]
  rw [f1024, Ideal.div_coe (by norm_num)]
  rfl

theorem actV_at (h : FVec Ideal S8x2048x1024 .f32) (w1 : FVec Ideal S1024x4096 .bf16) (b : Fin 8) (t : Fin 2048) (q : Fin 4096) :
    actV h w1 (ix3 b t q) = act (fun k => h (ix3 b t k)) (fun k => w1 (ix2 k q)) := by
  pointwise [actV]
  rfl

theorem down_at (p : FVec Ideal S8x2048x4096 .f32) (w2 : FVec Ideal S4096x1024 .bf16) (b : Fin 8) (t : Fin 2048) (j : Fin 1024) :
    down p w2 (ix3 b t j) = ∑ q : Fin 4096, p (ix3 b t q) * w2 (ix2 q j) := by
  pointwise [down]

theorem outV_at (x a : FVec Ideal S8x2048x1024 .f32) (gate : FVec Ideal S8x1024 .f32) (b : Fin 8) (t : Fin 2048) (j : Fin 1024) :
    outV x a gate (ix2 ⟨b.val * 2048 + t.val, by omega⟩ j) = x (ix3 b t j) + gate (ix2 b j) * a (ix3 b t j) := by
  pointwise [outV, spread]

theorem part2_at (md : FVec Ideal S8x6144 .f32) (b : Fin 8) (j : Fin 1024) : part2 md (ix2 b j) = md (ix2 b ⟨2 * 1024 + j.val, by omega⟩) := by
  pointwise [part2]
theorem part3_at (md : FVec Ideal S8x6144 .f32) (b : Fin 8) (j : Fin 1024) : part3 md (ix2 b j) = md (ix2 b ⟨3 * 1024 + j.val, by omega⟩) := by
  pointwise [part3]
theorem part4_at (md : FVec Ideal S8x6144 .f32) (b : Fin 8) (j : Fin 1024) : part4 md (ix2 b j) = md (ix2 b ⟨4 * 1024 + j.val, by omega⟩) := by
  pointwise [part4]
theorem part5_at (md : FVec Ideal S8x6144 .f32) (b : Fin 8) (j : Fin 1024) : part5 md (ix2 b j) = md (ix2 b ⟨5 * 1024 + j.val, by omega⟩) := by
  pointwise [part5]

/-! ## The result at an index -/

theorem res_at (a : FVec Ideal S16384x512 .bf16) (y : FVec Ideal S16384x512 .f32) (x : FVec Ideal S8x2048x1024 .f32) (md : FVec Ideal S8x6144 .f32)
    (g : FVec Ideal S512 .f32) (wo : FVec Ideal S1024x1024 .bf16) (g2 : FVec Ideal S1024 .f32) (w1 : FVec Ideal S1024x4096 .bf16)
    (w2 : FVec Ideal S4096x1024 .bf16) (b : Fin 8) (t : Fin 2048) (j : Fin 1024) :
    outV (residAll a y x md g wo) (down (actV (modV (residAll a y x md g wo) g2 (part4 md) (part3 md)) w1) w2) (part5 md)
        (ix2 ⟨b.val * 2048 + t.val, by omega⟩ j)
      = row (fun k => a (ix2 ⟨b.val * 2048 + t.val, by omega⟩ k)) (fun k => y (ix2 ⟨b.val * 2048 + t.val, by omega⟩ k)) (fun k => g (ix1 k))
        (fun k => x (ix3 b t k)) (fun n k => md (ix2 b ⟨n.val * 1024 + k.val, by omega⟩)) (fun k => g2 (ix1 k)) (fun k j => wo (ix2 k j))
        (fun k q => w1 (ix2 k q)) (fun q j => w2 (ix2 q j)) j := by
  have hr : ∀ k, residAll a y x md g wo (ix3 b t k) = _ := fun k => residV_at x (both a y g) (part2 md) wo b t k
  rw [outV_at, down_at]
  simp only [actV_at, modV_at, part2_at, part3_at, part4_at, part5_at, hr, both_at]
  rfl

end Cert.Reference2Ideal.FfnRef

end
-- ==== Proof.FfnKernel.lean ====
/-
  One grid point of the output projection and the feed-forward part, read at an index of its block of rows.
-/
module

public import proofs.«01_k».proof.Proof.Gen.Kernel2Ideal.Value
public import proofs.«01_k».proof.Proof.Ffn
public import proofs.«01_k».proof.Proof.Layout
public import Idealize.ShloMosaic.Lib.Pointwise
public import Idealize.ShloMosaic.Lib.Pipeline.ValueKit.Basic

@[expose] public section

set_option maxRecDepth 16384

noncomputable section

namespace Cert.Kernel2Ideal.FfnKernel

open Cert.Kernel2Ideal Cert.Kernel2Ideal.Gen
open Idealize.ShloMosaic Idealize.ShloMosaic.TcCoe Idealize.SL.Sem
open Cert.Stick Cert.Ffn Cert.Layout
open scoped BigOperators

theorem f512 : Ideal.ofBits FTy.f32 0x44000000#32 = ((512 : ℝ) : EReal) := by
  simp [Ideal.ofBits, Ideal.ieee]
  rw [← EReal.coe_mul]
  norm_num

theorem f1024 : Ideal.ofBits FTy.f32 0x44800000#32 = ((1024 : ℝ) : EReal) := by
  simp [Ideal.ofBits, Ideal.ieee]
  rw [← EReal.coe_mul]
  norm_num

/-! ## Products -/

theorem mmUp (a : FVec Ideal S1024x1024 .bf16) (b : FVec Ideal S1024x512 .bf16) (r : Fin 1024) (q : Fin 512) :
    matmul (F := Ideal) dot_S1024x1024_S1024x512_S1024x512_1_0_0_1_n_n none a b (constant S1024x512 .f32 0x00000000#32) (ix2 r q)
      = ∑ k : Fin 1024, a (ix2 r k) * b (ix2 k q) := mm_at (P := 1024) (K := 1024) (N := 512) a b (ix2 r q)

theorem mmDown (a : FVec Ideal S1024x512 .bf16) (b : FVec Ideal S512x1024 .bf16) (r j : Fin 1024) :
    matmul (F := Ideal) dot_S1024x512_S512x1024_S1024x1024_1_0_0_1_n_n none a b (constant S1024x1024 .f32 0x00000000#32) (ix2 r j)
      = ∑ k : Fin 512, a (ix2 r k) * b (ix2 k j) := mm_at (P := 1024) (K := 512) (N := 1024) a b (ix2 r j)

/-- One chunk of 512 columns of the feed-forward part. -/
def chunk (h : FVec Ideal S1024x1024 .bf16) (w1 : FVec Ideal S1024x512 .bf16) (w2 : FVec Ideal S512x1024 .bf16) : FVec Ideal S1024x1024 .f32 :=
  matmul (F := Ideal) dot_S1024x512_S512x1024_S1024x1024_1_0_0_1_n_n none
    (truncf .bf16 (mulf
      (maximumf (matmul (F := Ideal) dot_S1024x1024_S1024x512_S1024x512_1_0_0_1_n_n none h w1 (constant S1024x512 .f32 0x00000000#32)) (broadcast S1024x512 (Scalar.ofBits .f32 0x00000000#32)))
      (maximumf (matmul (F := Ideal) dot_S1024x1024_S1024x512_S1024x512_1_0_0_1_n_n none h w1 (constant S1024x512 .f32 0x00000000#32)) (broadcast S1024x512 (Scalar.ofBits .f32 0x00000000#32))))
      bitsLt_bf16_f32) w2 (constant S1024x1024 .f32 0x00000000#32)

theorem chunk_at (h : FVec Ideal S1024x1024 .bf16) (w1 : FVec Ideal S1024x512 .bf16) (w2 : FVec Ideal S512x1024 .bf16) (r j : Fin 1024) :
    chunk h w1 w2 (ix2 r j) = ∑ q : Fin 512, act (fun k => h (ix2 r k)) (fun k => w1 (ix2 k q)) * w2 (ix2 q j) := by
  unfold chunk
  rw [mmDown]
  refine Finset.sum_congr rfl fun q _ => congrArg (· * _) ?_
  have e : maximumf (matmul (F := Ideal) dot_S1024x1024_S1024x512_S1024x512_1_0_0_1_n_n none h w1 (constant S1024x512 .f32 0x00000000#32)) (broadcast S1024x512 (Scalar.ofBits .f32 0x00000000#32)) (ix2 r q)
      = max (∑ k : Fin 1024, (h (ix2 r k) : EReal) * w1 (ix2 k q)) 0 := by
    show max (matmul (F := Ideal) dot_S1024x1024_S1024x512_S1024x512_1_0_0_1_n_n none h w1 (constant S1024x512 .f32 0x00000000#32) (ix2 r q) : EReal) (Ideal.ofBits .f32 0x00000000#32) = _
    rw [mmUp, Ideal.ofBits_zero_f32]
  exact congrArg₂ (fun u v : EReal => u * v) e e

/-! ## The payloads -/

/-- The attention's rows, normalised. -/
def normY (y : FVec Ideal S1024x512 .f32) (g : FVec Ideal S1x512 .f32) : FVec Ideal S1024x512 .f32 :=
  mulf (mulf y (broadcastTo S1024x512 (rsqrt (addf (divf (shapeCast S1024x1 (multiReduction .add [1] S1024 (mulf y y) 0x00000000#32 reduces_S1024x512_S1024 (.inl rfl) rfl) shapeCasts_S1024_S1024x1)
    (broadcast S1024x1 (Scalar.ofBits .f32 0x44000000#32))) (broadcast S1024x1 (Scalar.ofBits .f32 0x358637BD#32)))) broadcasts_S1024x1_S1024x512))
    (broadcastTo S1024x512 (shapeCast S1x512 g shapeCasts_S1x512_S1x512) broadcasts_S1x512_S1024x512)

theorem normY_at (y : FVec Ideal S1024x512 .f32) (g : FVec Ideal S1x512 .f32) (r : Fin 1024) (k : Fin 512) :
    normY y g (ix2 r k) = rms (1 / 512) (fun k => y (ix2 r k)) k * g (ix2 (0 : Fin 1) k) := by
  pointwise [normY]
  rw [f512, Ideal.div_coe (by norm_num)]
  rfl

theorem pay2_at (y : FVec Ideal S1024x512 .f32) (g : FVec Ideal S1x512 .f32) (a : FVec Ideal S1024x512 .bf16) (wa wb : FVec Ideal S512x1024 .bf16)
    (x : FVec Ideal S1024x1024 .f32) (gate : FVec Ideal S1x1x1024 .f32) (r j : Fin 1024) :
    k0_pay2 (F := Ideal) y g a wa wb x gate (ix2 r j)
      = x (ix2 r j) + gate (ix3 (0 : Fin 1) (0 : Fin 1) j) * ((∑ k : Fin 512, a (ix2 r k) * wa (ix2 k j))
        + ∑ k : Fin 512, rms (1 / 512) (fun k => y (ix2 r k)) k * g (ix2 (0 : Fin 1) k) * wb (ix2 k j)) := by
  have hg : broadcastTo S1024x1024 (shapeCast S1x1024 gate shapeCasts_S1x1x1024_S1x1024) broadcasts_S1x1024_S1024x1024 (ix2 r j) = gate (ix3 (0 : Fin 1) (0 : Fin 1) j) := by
    pointwise []
  have hx : shapeCast S1024x1024 x shapeCasts_S1024x1024_S1024x1024 (ix2 r j) = x (ix2 r j) := by pointwise []
  have h1 := mmDown a wa r j
  have h2 := mmDown (truncf .bf16 (normY y g) bitsLt_bf16_f32) wb r j
  have h3 : ∀ k, truncf (F := Ideal) .bf16 (normY y g) bitsLt_bf16_f32 (ix2 r k) = _ := fun k => normY_at y g r k
  simp only [h3] at h2
  rw [← hg, ← hx, ← h1, ← h2]
  rfl

theorem pay5_at (x : FVec Ideal S1024x1024 .f32) (g scale : FVec Ideal S1x1024 .f32) (shift : FVec Ideal S1x1x1024 .f32) (r j : Fin 1024) :
    k0_pay5 (F := Ideal) x g scale (Scalar.ofBits .f32 0x3F800000#32) shift (ix2 r j)
      = modn (fun k => x (ix2 r k)) (fun k => g (ix2 (0 : Fin 1) k)) (fun k => scale (ix2 (0 : Fin 1) k)) (fun k => shift (ix3 (0 : Fin 1) (0 : Fin 1) k)) j := by
  pointwise [k0_pay5]
  rw [f1024, Ideal.div_coe (by norm_num), ← mul_assoc]
  rfl

theorem pay1_at (x f g : FVec Ideal S1024x1024 .f32) (h : FVec Ideal S1024x1024 .bf16) (w1 w1' : FVec Ideal S1024x512 .bf16) (w2 w2' : FVec Ideal S512x1024 .bf16)
    (gate : FVec Ideal S1x1x1024 .f32) (r j : Fin 1024) :
    k0_pay1 (F := Ideal) x h f g w1 w2 w1' w2' gate (ix2 r j)
      = x (ix2 r j) + gate (ix3 (0 : Fin 1) (0 : Fin 1) j) * (((f (ix2 r j) + g (ix2 r j)) + chunk h w1 w2 (ix2 r j)) + chunk h w1' w2' (ix2 r j)) := by
  have hg : broadcastTo S1024x1024 (shapeCast S1x1024 gate shapeCasts_S1x1x1024_S1x1024) broadcasts_S1x1024_S1024x1024 (ix2 r j) = gate (ix3 (0 : Fin 1) (0 : Fin 1) j) := by
    pointwise []
  rw [← hg]
  rfl

/-! ## The block of a point -/

theorem ld2 {R C n m o p : ℕ} {e : EltTy} (x : (D2 R C).Idx → Elt Ideal e) {inb} (i : Fin n) (j : Fin m) (hi : o + i.val < R) (hj : p + j.val < C) :
    View.ld (Val := Elt Ideal) x (Rect.unit (s := D2 R C) ![o, p] ![n, m] inb) (ix2 i j) = x (ix2 ⟨o + i.val, hi⟩ ⟨p + j.val, hj⟩) :=
  congrArg x (idx2_ext (by show o + 1 * i.val = o + i.val; omega) (by show p + 1 * j.val = p + j.val; omega))

theorem ld3 (x : FVec Ideal S1x6x1024 .f32) {o : ℕ} {inb} (ho : o < 6) (j : Fin 1024) :
    View.ld (Val := Elt Ideal) (e' := .f32) x (Rect.unit (s := S1x6x1024) ![0, o, 0] ![1, 1, 1024] inb) (ix3 (0 : Fin 1) (0 : Fin 1) j) = x (ix3 (0 : Fin 1) ⟨o, ho⟩ j) :=
  congrArg x (funext fun a => match a with
    | ⟨0, _⟩ => rfl
    | ⟨1, _⟩ => Fin.ext (by show o + 1 * 0 = o; omega)
    | ⟨2, _⟩ => Fin.ext (by show 0 + 1 * j.val = j.val; omega))

/-- A whole block is itself. -/
theorem ldWhole {R C : ℕ} {e : EltTy} (x : (D2 R C).Idx → Elt Ideal e) {inb} (i : Fin R) (j : Fin C) :
    View.ld (Val := Elt Ideal) x (Rect.unit (s := D2 R C) ![0, 0] ![R, C] inb) (ix2 i j) = x (ix2 i j) :=
  congrArg x (idx2_ext (by show 0 + 1 * i.val = i.val; omega) (by show 0 + 1 * j.val = j.val; omega))

variable (x0 : FVec Ideal S1024x512 .bf16) (x1 : FVec Ideal S1024x512 .f32) (x2 : FVec Ideal S1024x1024 .f32) (x3 : FVec Ideal S1x6x1024 .f32)
  (x4 : FVec Ideal S1x512 .f32) (x5 : FVec Ideal S1024x1024 .bf16) (x6 : FVec Ideal S1x1024 .f32) (x7 : FVec Ideal S1024x4096 .bf16) (x8 : FVec Ideal S4096x1024 .bf16)

/-- The residual after the projection. -/
theorem pay9_at (r j : Fin 1024) : k0_pay9 (F := Ideal) x0 x1 x2 x3 x4 x5 x6 x7 x8 (ix2 r j)
    = resid (fun k => x0 (ix2 r k)) (fun k => rms (1 / 512) (fun k => x1 (ix2 r k)) k * x4 (ix2 (0 : Fin 1) k)) (fun k => x2 (ix2 r k))
      (fun k => x3 (ix3 (0 : Fin 1) (2 : Fin 6) k)) (fun k j => x5 (ix2 k j)) j := by
  have e0 : ∀ k, View.ld (Val := Elt Ideal) (e' := .bf16) x0 r0_0 (ix2 r k) = x0 (ix2 r k) := fun k => ldWhole (e := .bf16) x0 r k
  have e1 : ∀ k, View.ld (Val := Elt Ideal) (e' := .f32) x1 r0_0 (ix2 r k) = x1 (ix2 r k) := fun k => ldWhole (e := .f32) x1 r k
  have e2 : View.ld (Val := Elt Ideal) (e' := .f32) x2 r0_4 (ix2 r j) = x2 (ix2 r j) := ldWhole (e := .f32) x2 r j
  have e3 : View.ld (Val := Elt Ideal) (e' := .f32) x3 r0_5 (ix3 (0 : Fin 1) (0 : Fin 1) j) = x3 (ix3 (0 : Fin 1) (2 : Fin 6) j) := ld3 x3 (by omega) j
  have e4 : ∀ k, View.ld (Val := Elt Ideal) (e' := .f32) x4 r0_1 (ix2 (0 : Fin 1) k) = x4 (ix2 (0 : Fin 1) k) := fun k => ldWhole (e := .f32) x4 0 k
  have e5 : ∀ k : Fin 512, View.ld (Val := Elt Ideal) (e' := .bf16) x5 r0_2 (ix2 k j) = x5 (ix2 ⟨0 + k.val, by omega⟩ ⟨0 + j.val, by omega⟩) := fun k => ld2 (e := .bf16) x5 k j _ _
  have e5' : ∀ k : Fin 512, View.ld (Val := Elt Ideal) (e' := .bf16) x5 r0_3 (ix2 k j) = x5 (ix2 ⟨512 + k.val, by omega⟩ ⟨0 + j.val, by omega⟩) := fun k => ld2 (e := .bf16) x5 k j _ _
  refine (pay2_at _ _ _ _ _ _ _ r j).trans ?_
  simp only [e0, e1, e2, e3, e4, e5, e5', Nat.zero_add]
  unfold resid
  rw [sum_mix]

/-- The residual, normalised and modulated. -/
theorem pay12_at (r j : Fin 1024) : k0_pay12 (F := Ideal) x0 x1 x2 x3 x4 x5 x6 x7 x8 (ix2 r j)
    = modn (fun k => k0_pay9 (F := Ideal) x0 x1 x2 x3 x4 x5 x6 x7 x8 (ix2 r k)) (fun k => x6 (ix2 (0 : Fin 1) k))
      (fun k => x3 (ix3 (0 : Fin 1) (4 : Fin 6) k)) (fun k => x3 (ix3 (0 : Fin 1) (3 : Fin 6) k)) j := by
  have e6 : ∀ k, k0_pay10 (F := Ideal) x0 x1 x2 x3 x4 x5 x6 x7 x8 (ix2 (0 : Fin 1) k) = x6 (ix2 (0 : Fin 1) k) := fun k => by
    refine Eq.trans ?_ (ldWhole (e := .f32) x6 (inb := inb_S1x1024_S1x1024_0_0) 0 k)
    show shapeCast S1x1024 (View.ld (Val := Elt Ideal) (e' := .f32) x6 r0_6) _ (ix2 (0 : Fin 1) k) = _
    pointwise []
  have e4 : ∀ k, k0_pay11 (F := Ideal) x0 x1 x2 x3 x4 x5 x6 x7 x8 (ix2 (0 : Fin 1) k) = x3 (ix3 (0 : Fin 1) (4 : Fin 6) k) := fun k => by
    refine Eq.trans ?_ (ld3 x3 (inb := inb_S1x6x1024_S1x1x1024_0_4_0) (by omega) k)
    show shapeCast S1x1024 (View.ld (Val := Elt Ideal) (e' := .f32) x3 r0_7) _ (ix2 (0 : Fin 1) k) = _
    pointwise []
  have e3 : ∀ k, View.ld (Val := Elt Ideal) (e' := .f32) x3 r0_8 (ix3 (0 : Fin 1) (0 : Fin 1) k) = x3 (ix3 (0 : Fin 1) (3 : Fin 6) k) := fun k => ld3 x3 (by omega) k
  refine (pay5_at _ _ _ _ r j).trans ?_
  simp only [e3, e4, e6]

/-- A chunk over the columns and the rows from `o`. -/
theorem chunk_ld (h : FVec Ideal S1024x1024 .bf16) {o : ℕ} {i1 i2} (ho : o + 512 ≤ 4096) (r j : Fin 1024) :
    chunk h (View.ld (Val := Elt Ideal) (e' := .bf16) x7 (Rect.unit (s := S1024x4096) ![0, o] S1024x512.size i1)) (View.ld (Val := Elt Ideal) (e' := .bf16) x8 (Rect.unit (s := S4096x1024) ![o, 0] S512x1024.size i2)) (ix2 r j)
      = ∑ q : Fin 512, act (fun k => h (ix2 r k)) (fun k => x7 (ix2 k ⟨o + q.val, by omega⟩)) * x8 (ix2 ⟨o + q.val, by omega⟩ j) := by
  have e7 : ∀ (k : Fin 1024) (q : Fin 512), View.ld (Val := Elt Ideal) (e' := .bf16) x7 (Rect.unit (s := S1024x4096) ![0, o] S1024x512.size i1) (ix2 k q) = x7 (ix2 ⟨0 + k.val, by omega⟩ ⟨o + q.val, by omega⟩) :=
    fun k q => ld2 (e := .bf16) x7 k q _ _
  have e8 : ∀ q : Fin 512, View.ld (Val := Elt Ideal) (e' := .bf16) x8 (Rect.unit (s := S4096x1024) ![o, 0] S512x1024.size i2) (ix2 q j) = x8 (ix2 ⟨o + q.val, by omega⟩ ⟨0 + j.val, by omega⟩) :=
    fun q => ld2 (e := .bf16) x8 q j _ _
  rw [chunk_at]
  simp only [e7, e8, Nat.zero_add]

/-- The rows a grid point leaves. -/
theorem out_at (r j : Fin 1024) : out0_9 (F := Ideal) x0 x1 x2 x3 x4 x5 x6 x7 x8 (ix2 r j)
    = row (fun k => x0 (ix2 r k)) (fun k => x1 (ix2 r k)) (fun k => x4 (ix2 (0 : Fin 1) k)) (fun k => x2 (ix2 r k)) (fun i k => x3 (ix3 (0 : Fin 1) i k))
      (fun k => x6 (ix2 (0 : Fin 1) k)) (fun k j => x5 (ix2 k j)) (fun k j => x7 (ix2 k j)) (fun k j => x8 (ix2 k j)) j := by
  refine (congrFun (View.canon_cons_unit_lit (Val := Elt Ideal) inb_S1024x1024_S1024x1024_0_0 _ [] (by decide)) (ix2 r j)).trans ?_
  refine (pay1_at _ _ _ _ _ _ _ _ _ r j).trans ?_
  have e3 : View.ld (Val := Elt Ideal) (e' := .f32) x3 r0_25 (ix3 (0 : Fin 1) (0 : Fin 1) j) = x3 (ix3 (0 : Fin 1) (5 : Fin 6) j) := ld3 x3 (by omega) j
  unfold row ffn
  rw [sum_chunks, e3, pay9_at]
  refine congrArg₂ (fun u v : EReal => u + v) rfl (congrArg₂ (fun u v : EReal => u * v) rfl ?_)
  let H : FVec Ideal S1024x1024 .bf16 := k0_pay12 (F := Ideal) x0 x1 x2 x3 x4 x5 x6 x7 x8
  have hH : (fun k => H (ix2 r k)) = modn (resid (fun k => x0 (ix2 r k)) (fun k => rms (1 / 512) (fun k => x1 (ix2 r k)) k * x4 (ix2 (0 : Fin 1) k)) (fun k => x2 (ix2 r k))
      (fun k => x3 (ix3 (0 : Fin 1) (2 : Fin 6) k)) (fun k j => x5 (ix2 k j))) (fun k => x6 (ix2 (0 : Fin 1) k))
      (fun k => x3 (ix3 (0 : Fin 1) (4 : Fin 6) k)) (fun k => x3 (ix3 (0 : Fin 1) (3 : Fin 6) k)) :=
    funext fun k => (pay12_at x0 x1 x2 x3 x4 x5 x6 x7 x8 r k).trans (by simp only [pay9_at])
  have add : ∀ {a b c d : EReal}, a = c → b = d → a + b = c + d := fun h h' => congrArg₂ (fun u v : EReal => u + v) h h'
  have c0 := chunk_ld x7 x8 H (o := 0) (i1 := inb_S1024x4096_S1024x512_0_0) (i2 := inb_S4096x1024_S512x1024_0_0) (by omega) r j
  have c1 := chunk_ld x7 x8 H (o := 512) (i1 := inb_S1024x4096_S1024x512_0_512) (i2 := inb_S4096x1024_S512x1024_512_0) (by omega) r j
  have c2 := chunk_ld x7 x8 H (o := 1024) (i1 := inb_S1024x4096_S1024x512_0_1024) (i2 := inb_S4096x1024_S512x1024_1024_0) (by omega) r j
  have c3 := chunk_ld x7 x8 H (o := 1536) (i1 := inb_S1024x4096_S1024x512_0_1536) (i2 := inb_S4096x1024_S512x1024_1536_0) (by omega) r j
  have c4 := chunk_ld x7 x8 H (o := 2048) (i1 := inb_S1024x4096_S1024x512_0_2048) (i2 := inb_S4096x1024_S512x1024_2048_0) (by omega) r j
  have c5 := chunk_ld x7 x8 H (o := 2560) (i1 := inb_S1024x4096_S1024x512_0_2560) (i2 := inb_S4096x1024_S512x1024_2560_0) (by omega) r j
  have c6 := chunk_ld x7 x8 H (o := 3072) (i1 := inb_S1024x4096_S1024x512_0_3072) (i2 := inb_S4096x1024_S512x1024_3072_0) (by omega) r j
  have c7 := chunk_ld x7 x8 H (o := 3584) (i1 := inb_S1024x4096_S1024x512_0_3584) (i2 := inb_S4096x1024_S512x1024_3584_0) (by omega) r j
  rw [← hH]
  exact add (add (add (add (add (add (add c0 c1) c2) c3) c4) c5) c6) c7

end Cert.Kernel2Ideal.FfnKernel

end
-- ==== Proof.FfnGrid.lean ====
/-
  The grid of the output projection and the feed-forward part: 16 points, one per 1024 rows. Each point's blocks are parts
  of the arguments, and the blocks it writes fill the result; so the result is one function of the arguments.
-/
module

public import proofs.«01_k».proof.Proof.FfnKernel
public import Idealize.ShloMosaic.Lib.IdealHost

@[expose] public section

set_option maxRecDepth 16384

noncomputable section

namespace Cert.Kernel2Ideal.FfnGrid

open Cert.Kernel2Ideal Cert.Kernel2Ideal.Gen Cert.Kernel2Ideal.Value
open Idealize.ShloMosaic Idealize.ShloMosaic.TcCoe Idealize.SL.Sem
open Cert.Ffn Cert.Layout Cert.Kernel2Ideal.FfnKernel
open scoped BigOperators

variable (m : (ℓ : Loc nD τ sig) → Buf (Elt Ideal) ℓ) (c : Dev nD)

/-- The short convolution's mixer. -/
abbrev A : FVec Ideal S16384x512 .bf16 := m ((c : Thread nD τ).loc main_arg0)
/-- The attention. -/
abbrev Y : FVec Ideal S16384x512 .f32 := m ((c : Thread nD τ).loc main_arg1)
/-- The layer's input. -/
abbrev X : FVec Ideal S8x2048x1024 .f32 := m ((c : Thread nD τ).loc main_arg2)
/-- The modulation. -/
abbrev MD : FVec Ideal S8x6144 .f32 := m ((c : Thread nD τ).loc main_arg3)
/-- The attention's gains. -/
abbrev AG : FVec Ideal S512 .f32 := m ((c : Thread nD τ).loc main_arg4)
/-- The output projection. -/
abbrev WO : FVec Ideal S1024x1024 .bf16 := m ((c : Thread nD τ).loc main_arg5)
/-- The second norm's gains. -/
abbrev G2 : FVec Ideal S1024 .f32 := m ((c : Thread nD τ).loc main_arg6)
/-- The feed-forward part's first weights. -/
abbrev W1 : FVec Ideal S1024x4096 .bf16 := m ((c : Thread nD τ).loc main_arg7)
/-- The feed-forward part's second weights. -/
abbrev W2 : FVec Ideal S4096x1024 .bf16 := m ((c : Thread nD τ).loc main_arg8)

/-! ## The reshaped arguments -/

theorem V_x : (V m c main_v0 : FVec Ideal S16384x1024 .f32) = shapeCast S16384x1024 (X m c) shapeCasts_S8x2048x1024_S16384x1024 := by
  show StableHlo.after hostOps0 (fun b => m (c, b)) (main_v0 : DevRef τ sig) = _
  after_results
  rfl
theorem V_md : (V m c main_v1 : FVec Ideal S8x6x1024 .f32) = shapeCast S8x6x1024 (MD m c) shapeCasts_S8x6144_S8x6x1024 := by
  show StableHlo.after hostOps0 (fun b => m (c, b)) (main_v1 : DevRef τ sig) = _
  after_results
  rfl
theorem V_ag : (V m c main_v2 : FVec Ideal S1x512 .f32) = shapeCast S1x512 (AG m c) shapeCasts_S512_S1x512 := by
  show StableHlo.after hostOps0 (fun b => m (c, b)) (main_v2 : DevRef τ sig) = _
  after_results
  rfl
theorem V_g2 : (V m c main_v3 : FVec Ideal S1x1024 .f32) = shapeCast S1x1024 (G2 m c) shapeCasts_S1024_S1x1024 := by
  show StableHlo.after hostOps0 (fun b => m (c, b)) (main_v3 : DevRef τ sig) = _
  after_results
  rfl

theorem x_at (b : Fin 8) (t : Fin 2048) (j : Fin 1024) :
    shapeCast S16384x1024 (X m c) shapeCasts_S8x2048x1024_S16384x1024 (ix2 ⟨b.val * 2048 + t.val, by omega⟩ j) = X m c (ix3 b t j) := by
  pointwise []
theorem md_at (b : Fin 8) (n : Fin 6) (j : Fin 1024) :
    shapeCast S8x6x1024 (MD m c) shapeCasts_S8x6144_S8x6x1024 (ix3 b n j) = MD m c (ix2 b ⟨n.val * 1024 + j.val, by omega⟩) := by
  pointwise []
theorem ag_at (j : Fin 512) : shapeCast S1x512 (AG m c) shapeCasts_S512_S1x512 (ix2 (0 : Fin 1) j) = AG m c (ix1 j) := by
  pointwise []
theorem g2_at (j : Fin 1024) : shapeCast S1x1024 (G2 m c) shapeCasts_S1024_S1x1024 (ix2 (0 : Fin 1) j) = G2 m c (ix1 j) := by
  pointwise []

/-! ## The blocks of a point -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)
theorem index3 : ∀ t : Fin cfg0.N, win0_3.index t (0 : Fin 3) = t.val / 2 ∧ win0_3.index t (1 : Fin 3) = 0 ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem index7 : ∀ t : Fin cfg0.N, win0_7.index t (0 : Fin 2) = 0 ∧ win0_7.index t (1 : Fin 2) = 0 := (by decide +kernel : ∀ t : Fin grid0.N, _)
theorem index8 : ∀ t : Fin cfg0.N, win0_8.index t (0 : Fin 2) = 0 ∧ win0_8.index t (1 : Fin 2) = 0 := (by decide +kernel : ∀ t : Fin grid0.N, _)
theorem index9 : ∀ t : Fin cfg0.N, win0_9.index t (0 : Fin 2) = t.val ∧ win0_9.index t (1 : Fin 2) = 0 := (by decide +kernel : ∀ t : Fin grid0.N, _)

theorem point_lt (t : Fin cfg0.N) : t.val < 16 := t.isLt

/-- The batch element of a point. -/
abbrev bat (t : Fin cfg0.N) : Fin 8 := ⟨t.val / 2, by have := point_lt t; omega⟩
/-- The token of a row of a point. -/
abbrev tok (t : Fin cfg0.N) (r : Fin 1024) : Fin 2048 := ⟨t.val % 2 * 1024 + r.val, by omega⟩

theorem row_eq (t : Fin cfg0.N) (r : Fin 1024) : t.val / 2 * 2048 + (t.val % 2 * 1024 + r.val) = t.val * 1024 + r.val := by omega

theorem row_lt (t : Fin cfg0.N) (r : Fin 1024) : t.val / 2 * 2048 + (t.val % 2 * 1024 + r.val) < 16384 := by have := point_lt t; omega

theorem blk0 (t : Fin cfg0.N) (r : Fin 1024) (k : Fin 512) :
    (iblk m c 0 t : FVec Ideal S1024x512 .bf16) (ix2 r k) = A m c (ix2 ⟨(bat t).val * 2048 + (tok t r).val, row_lt t r⟩ k) := by
  obtain ⟨e0, e1⟩ := index0 t
  show (V m c main_arg0 : FVec Ideal S16384x512 .bf16) (((cfg0.win 0).blk t).view.emb (ix2 r k)) = _
  rw [V_main_arg0]
  refine congrArg (A m c) (idx2_ext ?_ ?_)
  · show win0_0.index t (0 : Fin 2) * 1024 + 1 * r.val = t.val / 2 * 2048 + (t.val % 2 * 1024 + r.val); omega
  · show win0_0.index t (1 : Fin 2) * 512 + 1 * k.val = k.val; omega

theorem blk1 (t : Fin cfg0.N) (r : Fin 1024) (k : Fin 512) :
    (iblk m c 1 t : FVec Ideal S1024x512 .f32) (ix2 r k) = Y m c (ix2 ⟨(bat t).val * 2048 + (tok t r).val, row_lt t r⟩ k) := by
  obtain ⟨e0, e1⟩ := index1 t
  show (V m c main_arg1 : FVec Ideal S16384x512 .f32) (((cfg0.win 1).blk t).view.emb (ix2 r k)) = _
  rw [V_main_arg1]
  refine congrArg (Y m c) (idx2_ext ?_ ?_)
  · show win0_1.index t (0 : Fin 2) * 1024 + 1 * r.val = t.val / 2 * 2048 + (t.val % 2 * 1024 + r.val); omega
  · show win0_1.index t (1 : Fin 2) * 512 + 1 * k.val = k.val; omega

theorem blk2 (t : Fin cfg0.N) (r k : Fin 1024) :
    (iblk m c 2 t : FVec Ideal S1024x1024 .f32) (ix2 r k) = X m c (ix3 (bat t) (tok t r) k) := by
  obtain ⟨e0, e1⟩ := index2 t
  rw [← x_at, ← V_x]
  show (V m c main_v0 : FVec Ideal S16384x1024 .f32) (((cfg0.win 2).blk t).view.emb (ix2 r k)) = _
  refine congrArg (V m c main_v0 : FVec Ideal S16384x1024 .f32) (idx2_ext ?_ ?_)
  · show win0_2.index t (0 : Fin 2) * 1024 + 1 * r.val = t.val / 2 * 2048 + (t.val % 2 * 1024 + r.val); omega
  · show win0_2.index t (1 : Fin 2) * 1024 + 1 * k.val = k.val; omega

theorem blk3 (t : Fin cfg0.N) (n : Fin 6) (k : Fin 1024) :
    (iblk m c 3 t : FVec Ideal S1x6x1024 .f32) (ix3 (0 : Fin 1) n k) = MD m c (ix2 (bat t) ⟨n.val * 1024 + k.val, by omega⟩) := by
  obtain ⟨e0, e1, e2⟩ := index3 t
  rw [← md_at, ← V_md]
  show (V m c main_v1 : FVec Ideal S8x6x1024 .f32) (((cfg0.win 3).blk t).view.emb (ix3 (0 : Fin 1) n k)) = _
  refine congrArg (V m c main_v1 : FVec Ideal S8x6x1024 .f32) (funext fun a => match a with
    | ⟨0, _⟩ => Fin.ext ?_
    | ⟨1, _⟩ => Fin.ext ?_
    | ⟨2, _⟩ => Fin.ext ?_)
  · show win0_3.index t (0 : Fin 3) * 1 + 1 * 0 = t.val / 2; omega
  · show win0_3.index t (1 : Fin 3) * 6 + 1 * n.val = n.val; omega
  · show win0_3.index t (2 : Fin 3) * 1024 + 1 * k.val = k.val; omega

theorem blk4 (t : Fin cfg0.N) (k : Fin 512) : (iblk m c 4 t : FVec Ideal S1x512 .f32) (ix2 (0 : Fin 1) k) = AG m c (ix1 k) := by
  obtain ⟨e0, e1⟩ := index4 t
  rw [← ag_at, ← V_ag]
  show (V m c main_v2 : FVec Ideal S1x512 .f32) (((cfg0.win 4).blk t).view.emb (ix2 (0 : Fin 1) k)) = _
  refine congrArg (V m c main_v2 : FVec Ideal S1x512 .f32) (idx2_ext ?_ ?_)
  · show win0_4.index t (0 : Fin 2) * 1 + 1 * 0 = 0; omega
  · show win0_4.index t (1 : Fin 2) * 512 + 1 * k.val = k.val; omega

theorem blk5 (t : Fin cfg0.N) (i j : Fin 1024) : (iblk m c 5 t : FVec Ideal S1024x1024 .bf16) (ix2 i j) = WO m c (ix2 i j) := by
  obtain ⟨e0, e1⟩ := index5 t
  show (V m c main_arg5 : FVec Ideal S1024x1024 .bf16) (((cfg0.win 5).blk t).view.emb (ix2 i j)) = _
  rw [V_main_arg5]
  refine congrArg (WO m c) (idx2_ext ?_ ?_)
  · show win0_5.index t (0 : Fin 2) * 1024 + 1 * i.val = i.val; omega
  · show win0_5.index t (1 : Fin 2) * 1024 + 1 * j.val = j.val; omega

theorem blk6 (t : Fin cfg0.N) (k : Fin 1024) : (iblk m c 6 t : FVec Ideal S1x1024 .f32) (ix2 (0 : Fin 1) k) = G2 m c (ix1 k) := by
  obtain ⟨e0, e1⟩ := index6 t
  rw [← g2_at, ← V_g2]
  show (V m c main_v3 : FVec Ideal S1x1024 .f32) (((cfg0.win 6).blk t).view.emb (ix2 (0 : Fin 1) k)) = _
  refine congrArg (V m c main_v3 : FVec Ideal S1x1024 .f32) (idx2_ext ?_ ?_)
  · show win0_6.index t (0 : Fin 2) * 1 + 1 * 0 = 0; omega
  · show win0_6.index t (1 : Fin 2) * 1024 + 1 * k.val = k.val; omega

theorem blk7 (t : Fin cfg0.N) (i : Fin 1024) (j : Fin 4096) : (iblk m c 7 t : FVec Ideal S1024x4096 .bf16) (ix2 i j) = W1 m c (ix2 i j) := by
  obtain ⟨e0, e1⟩ := index7 t
  show (V m c main_arg7 : FVec Ideal S1024x4096 .bf16) (((cfg0.win 7).blk t).view.emb (ix2 i j)) = _
  rw [V_main_arg7]
  refine congrArg (W1 m c) (idx2_ext ?_ ?_)
  · show win0_7.index t (0 : Fin 2) * 1024 + 1 * i.val = i.val; omega
  · show win0_7.index t (1 : Fin 2) * 4096 + 1 * j.val = j.val; omega

theorem blk8 (t : Fin cfg0.N) (i : Fin 4096) (j : Fin 1024) : (iblk m c 8 t : FVec Ideal S4096x1024 .bf16) (ix2 i j) = W2 m c (ix2 i j) := by
  obtain ⟨e0, e1⟩ := index8 t
  show (V m c main_arg8 : FVec Ideal S4096x1024 .bf16) (((cfg0.win 8).blk t).view.emb (ix2 i j)) = _
  rw [V_main_arg8]
  refine congrArg (W2 m c) (idx2_ext ?_ ?_)
  · show win0_8.index t (0 : Fin 2) * 4096 + 1 * i.val = i.val; omega
  · show win0_8.index t (1 : Fin 2) * 1024 + 1 * j.val = j.val; omega

/-! ## The result -/

/-- The row of a token. -/
def tokRow (b : Fin 8) (t : Fin 2048) (j : Fin 1024) : EReal :=
  row (fun k => A m c (ix2 ⟨b.val * 2048 + t.val, by omega⟩ k)) (fun k => Y m c (ix2 ⟨b.val * 2048 + t.val, by omega⟩ k)) (fun k => AG m c (ix1 k))
    (fun k => X m c (ix3 b t k)) (fun n k => MD m c (ix2 b ⟨n.val * 1024 + k.val, by omega⟩)) (fun k => G2 m c (ix1 k)) (fun k j => WO m c (ix2 k j))
    (fun k q => W1 m c (ix2 k q)) (fun q j => W2 m c (ix2 q j)) j

/-- The layer's result, in rows of tokens. -/
def outArr : S16384x1024.Idx → EReal := fun i =>
  tokRow m c ⟨(i 0).val / 2048, by have h : (i 0).val < 16384 := (i 0).isLt; omega⟩ ⟨(i 0).val % 2048, Nat.mod_lt _ (by decide)⟩ (i 1)

/-- What a point computes, from its blocks. -/
theorem point (t : Fin cfg0.N) (r q : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 r q)
      = tokRow m c (bat t) (tok t r) q := by
  refine (out_at _ _ _ _ _ _ _ _ _ r q).trans ?_
  simp only [blk0, blk1, blk2, blk3, blk4, blk5, blk6, blk7, blk8]
  rfl

/-- What a point writes is its rows of the result. -/
theorem flushed9_eq (t : Fin cfg0.N) :
    (dats m 0 c).flushed 9 t = ((cfg0.win 9).blk t).view.read (Elt Ideal) (outArr m c) := by
  rw [flushed9]
  funext j
  obtain ⟨e0, e1⟩ := index9 t
  have b0 : ((j : S1024x1024.Idx) 0).val < 1024 := ((j : S1024x1024.Idx) 0).isLt
  have bt := point_lt t
  have h0 : ((((cfg0.win 9).blk t).view.emb j : S16384x1024.Idx) 0).val = t.val * 1024 + ((j : S1024x1024.Idx) 0).val := by
    show win0_9.index t (0 : Fin 2) * 1024 + 1 * ((j : S1024x1024.Idx) 0).val = _; omega
  have h1 : ((((cfg0.win 9).blk t).view.emb j : S16384x1024.Idx) 1).val = ((j : S1024x1024.Idx) 1).val := by
    show win0_9.index t (1 : Fin 2) * 1024 + 1 * ((j : S1024x1024.Idx) 1).val = _; omega
  have ej : (j : S1024x1024.Idx) = ix2 ((j : S1024x1024.Idx) 0) ((j : S1024x1024.Idx) 1) := idx2_ext rfl rfl
  have hp := point m c t ((j : S1024x1024.Idx) 0) ((j : S1024x1024.Idx) 1)
  refine Eq.trans ?_ (hp.trans ?_)
  · exact congrArg (out0_9 (F := Ideal) (iblk m c 0 t) (iblk m c 1 t) (iblk m c 2 t) (iblk m c 3 t) (iblk m c 4 t) (iblk m c 5 t) (iblk m c 6 t) (iblk m c 7 t) (iblk m c 8 t)) ej
  · show _ = outArr m c (((cfg0.win 9).blk t).view.emb j)
    unfold outArr
    have f0 : (⟨((((cfg0.win 9).blk t).view.emb j : S16384x1024.Idx) 0).val / 2048, by rw [h0]; omega⟩ : Fin 8) = bat t :=
      Fin.ext (by show ((((cfg0.win 9).blk t).view.emb j : S16384x1024.Idx) 0).val / 2048 = t.val / 2; rw [h0]; omega)
    have f1 : (⟨((((cfg0.win 9).blk t).view.emb j : S16384x1024.Idx) 0).val % 2048, Nat.mod_lt _ (by decide)⟩ : Fin 2048) = tok t ((j : S1024x1024.Idx) 0) :=
      Fin.ext (by show ((((cfg0.win 9).blk t).view.emb j : S16384x1024.Idx) 0).val % 2048 = t.val % 2 * 1024 + ((j : S1024x1024.Idx) 0).val; rw [h0]; omega)
    have f2 : (((cfg0.win 9).blk t).view.emb j : S16384x1024.Idx) 1 = (j : S1024x1024.Idx) 1 := Fin.ext h1
    rw [f0, f1, f2]

/-- Every entry of the result is in some point's block. -/
theorem covered9 (i : S16384x1024.Idx) :
    ∃ t : Fin cfg0.N, (cfg0.win 9).flush t = true ∧ i ∈ ((cfg0.win 9).blk t).view.set := by
  have b0 : (i 0).val < 16384 := (i 0).isLt
  have b1 : (i 1).val < 1024 := (i 1).isLt
  let t : Fin cfg0.N := ⟨(i 0).val / 1024, by show _ < 16; omega⟩
  obtain ⟨e0, e1⟩ := index9 t
  have ht : t.val = (i 0).val / 1024 := rfl
  refine ⟨t, flush0_9 t, ?_⟩
  have h := ((cfg0.win 9).blk t).view.emb_mem_set (ix2 (n0 := 1024) (n1 := 1024) ⟨(i 0).val % 1024, Nat.mod_lt _ (by decide)⟩ ⟨(i 1).val, b1⟩)
  have e : ((cfg0.win 9).blk t).view.emb (ix2 (n0 := 1024) (n1 := 1024) ⟨(i 0).val % 1024, Nat.mod_lt _ (by decide)⟩ ⟨(i 1).val, b1⟩) = i := by
    refine idx2_ext (a := 16384) (b := 1024) ?_ ?_
    · show win0_9.index t (0 : Fin 2) * 1024 + 1 * ((i 0).val % 1024) = (i 0).val; omega
    · show win0_9.index t (1 : Fin 2) * 1024 + 1 * (i 1).val = (i 1).val; omega
  rwa [e] at h

theorem final9 : (dats m 0 c).arrAt 9 cfg0.N = outArr m c :=
  (dats m 0 c).arrAt_eq_of_cover 9 (outArr m c) (fun t _ => flushed9_eq m c t) covered9

end Cert.Kernel2Ideal.FfnGrid

end
-- ==== Proof.InProj.lean ====
/-
  One row of the input projection and of the short gated convolution, as functions of rows: the projection of the
  modulated norm, the gated product carried along the sequence, and the normalised convolution. Nothing here depends on
  a printed program.
-/
module

public import proofs.«01_k».proof.Proof.Ffn

@[expose] public section

noncomputable section

namespace Cert.InProj

open Idealize.ShloMosaic
open Cert.Stick Cert.Ffn
open scoped BigOperators

/-- A row times the weights. -/
def proj (h : Fin 1024 → EReal) (w : Fin 1024 → Fin 3072 → EReal) (j : Fin 3072) : EReal := ∑ k, h k * w k j

/-- The part of a projected row the convolution multiplies with. -/
def gate (p : Fin 3072 → EReal) (q : Fin 512) : EReal := p ⟨q.val, by omega⟩

/-- The part of a projected row the convolution runs over: the product of its second and third parts. -/
def cu (p : Fin 3072 → EReal) (q : Fin 512) : EReal := p ⟨512 + q.val, by omega⟩ * p ⟨1024 + q.val, by omega⟩

/-- The part of a projected row the attention takes. -/
def qkv (p : Fin 3072 → EReal) (j : Fin 1536) : EReal := p ⟨1536 + j.val, by omega⟩

/-- The rows the convolution runs over, after eight rows of zeros. -/
def ext (p : ℕ → Fin 3072 → EReal) (n : ℕ) (q : Fin 512) : EReal := if n < 8 then 0 else cu (p (n - 8)) q

/-- A row of the normalised gated convolution: `e2`, `e1` and `e0` are the token's row, the one before it and the one
before that. -/
def conv (b e2 e1 e0 : Fin 512 → EReal) (k : Fin 3 → Fin 512 → EReal) (g : Fin 512 → EReal) (q : Fin 512) : EReal :=
  rms (1 / 512) (fun q => b q * ((k 2 q * e2 q + k 1 q * e1 q) + k 0 q * e0 q)) q * g q

/-- The convolution of the token `n` of a sequence whose projected rows are `p`. -/
def tok (p : ℕ → Fin 3072 → EReal) (k : Fin 3 → Fin 512 → EReal) (g : Fin 512 → EReal) (n : ℕ) (q : Fin 512) : EReal :=
  conv (gate (p n)) (ext p (8 + n)) (ext p (7 + n)) (ext p (6 + n)) k g q

/-- The rows of a sequence, by number. -/
def seq (f : Fin 2048 → Fin 3072 → EReal) (n : ℕ) : Fin 3072 → EReal := if h : n < 2048 then f ⟨n, h⟩ else fun _ => 0

theorem seq_at (f : Fin 2048 → Fin 3072 → EReal) (t : Fin 2048) : seq f t.val = f t := dif_pos t.isLt

theorem ext_halo (p : ℕ → Fin 3072 → EReal) {n : ℕ} (h : n < 8) (q : Fin 512) : ext p n q = 0 := if_pos h

theorem ext_row (p : ℕ → Fin 3072 → EReal) (n : ℕ) (q : Fin 512) : ext p (8 + n) q = cu (p n) q := by
  unfold ext
  rw [if_neg (by omega), Nat.add_sub_cancel_left]

end Cert.InProj

end
-- ==== Proof.InProjRef.lean ====
/-
  What the third reference computes, read at an index: the rows of the convolution (`InProj.tok`) and of the attention's
  part (`InProj.qkv`).
-/
module

public import proofs.«01_k».proof.Proof.Gen.Reference3Ideal.Run
public import proofs.«01_k».proof.Proof.InProj
public import Idealize.ShloMosaic.Lib.Pointwise
public import Idealize.ShloMosaic.Lib.IdealHost
public import Idealize.ShloMosaic.Lib.KernelVsHost

@[expose] public section

set_option maxRecDepth 16384

noncomputable section

namespace Cert.Reference3Ideal.InProjRef

open Cert.Reference3Ideal Cert.Reference3Ideal.Gen Cert.Reference3Ideal.Value
open Idealize.ShloMosaic Idealize.ShloMosaic.TcCoe Idealize.SL.Sem
open Cert.Stick Cert.Ffn Cert.InProj
open scoped BigOperators

/-! ## The reference in stages -/

/-- The modulated norm. -/
def modV (x : FVec Ideal S8x2048x1024 .f32) (g : FVec Ideal S1024 .f32) (md : FVec Ideal S8x6144 .f32) : FVec Ideal S8x2048x1024 .f32 :=
  addf (mulf (mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S8x1x1024_S8x2048x1024_0_1_2
      (addf (broadcastInDim S8x1x1024 ![] bcast_S_S8x1x1024 (constant S_ .f32 0x3F800000#32)) (broadcastInDim S8x1x1024 ![0, 2] bcast_S8x1024_S8x1x1024_0_2
        (extractStridedSlice S8x1024 ![0, 1024] md slices_S8x6144_S8x1024_0_1024)))))
    (broadcastInDim S8x2048x1024 ![0, 1, 2] bcast_S8x1x1024_S8x2048x1024_0_1_2 (broadcastInDim S8x1x1024 ![0, 2] bcast_S8x1024_S8x1x1024_0_2
      (extractStridedSlice S8x1024 ![0, 0] md slices_S8x6144_S8x1024_0_0)))

/-- The projection. -/
def projV (h : FVec Ideal S8x2048x1024 .f32) (w : FVec Ideal S1024x3072 .f32) : FVec Ideal S8x2048x3072 .f32 :=
  Host.dotGeneral dot_S8x2048x1024_S1024x3072_S8x2048x3072_2_0_01_1_n_n none h w

/-- The gated product, after two rows of zeros. -/
def padV (p : FVec Ideal S8x2048x3072 .f32) : FVec Ideal S8x2050x512 .f32 :=
  pad S8x2050x512 ![0, 2, 0] ![0, 0, 0] ![0, 0, 0] (mulf (extractStridedSlice S8x2048x512 ![0, 0, 512] p slices_S8x2048x3072_S8x2048x512_0_0_512)
    (extractStridedSlice S8x2048x512 ![0, 0, 1024] p slices_S8x2048x3072_S8x2048x512_0_0_1024)) (sitofp .f32 (constantI S_ 32 0#32))
    pads_S8x2048x512_S8x2050x512_000_200_000 h_S_

/-- A row of the convolution's weights, at every token. -/
def tap0 (w : FVec Ideal S3x512 .f32) : FVec Ideal S8x2048x512 .f32 := broadcastInDim S8x2048x512 ![0, 1, 2] bcast_S1x1x512_S8x2048x512_0_1_2
  (broadcastInDim S1x1x512 ![2] bcast_S512_S1x1x512_2 (shapeCast _ (extractStridedSlice S1x512 ![0, 0] w slices_S3x512_S1x512_0_0) shapeCasts_S1x512_S512))
def tap1 (w : FVec Ideal S3x512 .f32) : FVec Ideal S8x2048x512 .f32 := broadcastInDim S8x2048x512 ![0, 1, 2] bcast_S1x1x512_S8x2048x512_0_1_2
  (broadcastInDim S1x1x512 ![2] bcast_S512_S1x1x512_2 (shapeCast _ (extractStridedSlice S1x512 ![1, 0] w slices_S3x512_S1x512_1_0) shapeCasts_S1x512_S512))
def tap2 (w : FVec Ideal S3x512 .f32) : FVec Ideal S8x2048x512 .f32 := broadcastInDim S8x2048x512 ![0, 1, 2] bcast_S1x1x512_S8x2048x512_0_1_2
  (broadcastInDim S1x1x512 ![2] bcast_S512_S1x1x512_2 (shapeCast _ (extractStridedSlice S1x512 ![2, 0] w slices_S3x512_S1x512_2_0) shapeCasts_S1x512_S512))

/-- The gated convolution. -/
def convV (p : FVec Ideal S8x2048x3072 .f32) (u : FVec Ideal S8x2050x512 .f32) (w : FVec Ideal S3x512 .f32) : FVec Ideal S8x2048x512 .f32 :=
  mulf (extractStridedSlice S8x2048x512 ![0, 0, 0] p slices_S8x2048x3072_S8x2048x512_0_0_0)
    (addf (addf (mulf (tap0 w) (extractStridedSlice S8x2048x512 ![0, 0, 0] u slices_S8x2050x512_S8x2048x512_0_0_0))
      (mulf (tap1 w) (extractStridedSlice S8x2048x512 ![0, 1, 0] u slices_S8x2050x512_S8x2048x512_0_1_0)))
      (mulf (tap2 w) (extractStridedSlice S8x2048x512 ![0, 2, 0] u slices_S8x2050x512_S8x2048x512_0_2_0)))

/-- The normalised convolution, in rows. -/
def mixV (y : FVec Ideal S8x2048x512 .f32) (g : FVec Ideal S512 .f32) : FVec Ideal S16384x512 .bf16 :=
  shapeCast _ (truncf .bf16 (mulf (mulf y (broadcastInDim S8x2048x512 ![0, 1, 2] bcast_S8x2048x1_S8x2048x512_0_1_2 (Host.rsqrt (addf (Host.divf
    (broadcastInDim S8x2048x1 ![0, 1] bcast_S8x2048_S8x2048x1_0_1 (Host.reduceAdd (mulf y y) (constant S_ .f32 0x00000000#32) reducesTo_S8x2048x512_S8x2048_d2 h_S_))
    (broadcastInDim S8x2048x1 ![] bcast_S_S8x2048x1 (constant S_ .f32 0x44000000#32)))
    (broadcastInDim S8x2048x1 ![] bcast_S_S8x2048x1 (constant S_ .f32 0x358637BD#32))))))
    (broadcastInDim S8x2048x512 ![0, 1, 2] bcast_S1x1x512_S8x2048x512_0_1_2 (broadcastInDim S1x1x512 ![2] bcast_S512_S1x1x512_2 g))) bitsLt_bf16_f32)
    shapeCasts_S8x2048x512_S16384x512

/-- The attention's part, in rows. -/
def qkvV (p : FVec Ideal S8x2048x3072 .f32) : FVec Ideal S16384x1536 .f32 :=
  shapeCast _ (extractStridedSlice S8x2048x1536 ![0, 0, 1536] p slices_S8x2048x3072_S8x2048x1536_0_0_1536) shapeCasts_S8x2048x1536_S16384x1536

/-- The first result is its stages composed. -/
theorem res_eq (m : (ℓ : Loc nD τ sig) → Buf (Elt Ideal) ℓ) (c : Dev nD) (x : FVec Ideal S8x2048x1024 .f32) (md : FVec Ideal S8x6144 .f32)
    (g : FVec Ideal S1024 .f32) (w : FVec Ideal S1024x3072 .f32) (cw : FVec Ideal S3x512 .f32) (cg : FVec Ideal S512 .f32)
    (h0 : m ((c.tc : Thread nD τ).loc main_arg0) = x) (h1 : m ((c.tc : Thread nD τ).loc main_arg1) = md) (h2 : m ((c.tc : Thread nD τ).loc main_arg2) = g)
    (h3 : m ((c.tc : Thread nD τ).loc main_arg3) = w) (h4 : m ((c.tc : Thread nD τ).loc main_arg4) = cw) (h5 : m ((c.tc : Thread nD τ).loc main_arg5) = cg) :
    res_main_v69 (F := Ideal) m c = mixV (convV (projV (modV x g md) w) (padV (projV (modV x g md) w)) cw) cg := by
  subst h0 h1 h2 h3 h4 h5
  unfold res_main_v69 mixV convV tap0 tap1 tap2 padV projV modV
  rfl

/-! ## The stages at an index -/

theorem f512 : Ideal.ofBits FTy.f32 0x44000000#32 = ((512 : ℝ) : EReal) := by
  simp [Ideal.ofBits, Ideal.ieee]
  rw [← EReal.coe_mul]
  norm_num

theorem f1024 : Ideal.ofBits FTy.f32 0x44800000#32 = ((1024 : ℝ) : EReal) := by
  simp [Ideal.ofBits, Ideal.ieee]
  rw [← EReal.coe_mul]
  norm_num

theorem modV_at (x : FVec Ideal S8x2048x1024 .f32) (g : FVec Ideal S1024 .f32) (md : FVec Ideal S8x6144 .f32) (b : Fin 8) (t : Fin 2048)
    (j : Fin 1024) : modV x g md (ix3 b t j)
      = modn (fun k => x (ix3 b t k)) (fun k => g (ix1 k)) (fun k => md (ix2 b ⟨1 * 1024 + k.val, by omega⟩)) (fun k => md (ix2 b ⟨0 * 1024 + k.val, by omega⟩)) j := by
  pointwise [modV]
  rw [f1024, Ideal.div_coe (by norm_num)]
  rfl

theorem projV_at (h : FVec Ideal S8x2048x1024 .f32) (w : FVec Ideal S1024x3072 .f32) (b : Fin 8) (t : Fin 2048) (j : Fin 3072) :
    projV h w (ix3 b t j) = proj (fun k => h (ix3 b t k)) (fun k j => w (ix2 k j)) j := by
  pointwise [projV]
  rfl

theorem tap0_at (w : FVec Ideal S3x512 .f32) (b : Fin 8) (t : Fin 2048) (q : Fin 512) : tap0 w (ix3 b t q) = w (ix2 (0 : Fin 3) q) := by
  pointwise [tap0]
theorem tap1_at (w : FVec Ideal S3x512 .f32) (b : Fin 8) (t : Fin 2048) (q : Fin 512) : tap1 w (ix3 b t q) = w (ix2 (1 : Fin 3) q) := by
  pointwise [tap1]
theorem tap2_at (w : FVec Ideal S3x512 .f32) (b : Fin 8) (t : Fin 2048) (q : Fin 512) : tap2 w (ix3 b t q) = w (ix2 (2 : Fin 3) q) := by
  pointwise [tap2]

theorem padV_at (p : FVec Ideal S8x2048x3072 .f32) (P : ℕ → Fin 3072 → EReal) (b : Fin 8) (hP : ∀ (t : Fin 2048) j, p (ix3 b t j) = P t.val j)
    (n : Fin 2050) (q : Fin 512) : padV p (ix3 b n q) = ext P (6 + n.val) q := by
  unfold padV
  by_cases h : n.val < 2
  · rw [ext_halo P (by omega)]
    refine (pad_apply_of_not_inside _ _ _ _ _ _ _ (ix3 b n q) (1 : Fin 3) fun hin => absurd hin.1 (Nat.not_le.mpr h)).trans ?_
    exact sitofp_zero
  · have e : 6 + n.val = 8 + (n.val - 2) := by omega
    have hn : n.val < 2050 := n.isLt
    rw [e, ext_row]
    refine (pad_apply_of_inside _ _ _ _ _ _ _ (ix3 b n q) (ix3 b (⟨n.val - 2, by omega⟩ : Fin 2048) q) (fun a => match a with
      | ⟨0, _⟩ => by show b.val = 0 + b.val * (0 + 1); omega
      | ⟨1, _⟩ => by show n.val = 2 + (n.val - 2) * (0 + 1); omega
      | ⟨2, _⟩ => by show q.val = 0 + q.val * (0 + 1); omega)).trans ?_
    unfold cu
    rw [← hP ⟨n.val - 2, by omega⟩, ← hP ⟨n.val - 2, by omega⟩]
    pointwise []

theorem convV_at (p : FVec Ideal S8x2048x3072 .f32) (u : FVec Ideal S8x2050x512 .f32) (w : FVec Ideal S3x512 .f32) (b : Fin 8) (t : Fin 2048) (q : Fin 512) :
    convV p u w (ix3 b t q) = p (ix3 b t ⟨q.val, by omega⟩) * ((w (ix2 (0 : Fin 3) q) * u (ix3 b ⟨t.val, by omega⟩ q)
      + w (ix2 (1 : Fin 3) q) * u (ix3 b ⟨1 + t.val, by omega⟩ q)) + w (ix2 (2 : Fin 3) q) * u (ix3 b ⟨2 + t.val, by omega⟩ q)) := by
  rw [← tap0_at w b t q, ← tap1_at w b t q, ← tap2_at w b t q]
  pointwise [convV]

theorem mixV_at (y : FVec Ideal S8x2048x512 .f32) (g : FVec Ideal S512 .f32) (b : Fin 8) (t : Fin 2048) (q : Fin 512) :
    mixV y g (ix2 ⟨b.val * 2048 + t.val, by omega⟩ q) = rms (1 / 512) (fun k => y (ix3 b t k)) q * g (ix1 q) := by
  pointwise [mixV]
  rw [f512, Ideal.div_coe (by norm_num)]
  rfl

theorem qkvV_at (p : FVec Ideal S8x2048x3072 .f32) (b : Fin 8) (t : Fin 2048) (j : Fin 1536) :
    qkvV p (ix2 ⟨b.val * 2048 + t.val, by omega⟩ j) = p (ix3 b t ⟨1536 + j.val, by omega⟩) := by
  pointwise [qkvV]

/-! ## The results at an index -/

/-- The projected rows of a sequence. -/
abbrev rowsOf (x : FVec Ideal S8x2048x1024 .f32) (md : FVec Ideal S8x6144 .f32) (g : FVec Ideal S1024 .f32) (w : FVec Ideal S1024x3072 .f32) (b : Fin 8) :
    ℕ → Fin 3072 → EReal :=
  seq fun t => proj (modn (fun k => x (ix3 b t k)) (fun k => g (ix1 k)) (fun k => md (ix2 b ⟨1 * 1024 + k.val, by omega⟩))
    (fun k => md (ix2 b ⟨0 * 1024 + k.val, by omega⟩))) (fun k j => w (ix2 k j))

theorem rows_at (x : FVec Ideal S8x2048x1024 .f32) (md : FVec Ideal S8x6144 .f32) (g : FVec Ideal S1024 .f32) (w : FVec Ideal S1024x3072 .f32) (b : Fin 8)
    (t : Fin 2048) (j : Fin 3072) : projV (modV x g md) w (ix3 b t j) = rowsOf x md g w b t.val j := by
  rw [projV_at]
  simp only [modV_at]
  exact (congrFun (seq_at (fun t => proj (modn (fun k => x (ix3 b t k)) (fun k => g (ix1 k)) (fun k => md (ix2 b ⟨1 * 1024 + k.val, by omega⟩))
    (fun k => md (ix2 b ⟨0 * 1024 + k.val, by omega⟩))) (fun k j => w (ix2 k j))) t) j).symm

theorem mix_at (x : FVec Ideal S8x2048x1024 .f32) (md : FVec Ideal S8x6144 .f32) (g : FVec Ideal S1024 .f32) (w : FVec Ideal S1024x3072 .f32)
    (cw : FVec Ideal S3x512 .f32) (cg : FVec Ideal S512 .f32) (b : Fin 8) (t : Fin 2048) (q : Fin 512) :
    mixV (convV (projV (modV x g md) w) (padV (projV (modV x g md) w)) cw) cg (ix2 ⟨b.val * 2048 + t.val, by omega⟩ q)
      = tok (rowsOf x md g w b) (fun n k => cw (ix2 n k)) (fun k => cg (ix1 k)) t.val q := by
  have hp := rows_at x md g w b
  generalize projV (modV x g md) w = p at hp ⊢
  have hu := padV_at p (rowsOf x md g w b) b hp
  rw [mixV_at]
  unfold tok conv
  refine congrArg (· * cg (ix1 q)) (congrArg (fun f : Fin 512 → EReal => rms (1 / 512) f q) (funext fun k => ?_))
  have e0 : 6 + (1 + t.val) = 7 + t.val := by omega
  have e1 : 6 + (2 + t.val) = 8 + t.val := by omega
  rw [convV_at, hp, hu, hu, hu]
  show _ * ((_ * ext _ (6 + t.val) k + _ * ext _ (6 + (1 + t.val)) k) + _ * ext _ (6 + (2 + t.val)) k) = _
  rw [e0, e1, add_comm, ← add_assoc, add_right_comm]
  rfl

theorem qkv_at (x : FVec Ideal S8x2048x1024 .f32) (md : FVec Ideal S8x6144 .f32) (g : FVec Ideal S1024 .f32) (w : FVec Ideal S1024x3072 .f32) (b : Fin 8)
    (t : Fin 2048) (j : Fin 1536) :
    qkvV (projV (modV x g md) w) (ix2 ⟨b.val * 2048 + t.val, by omega⟩ j) = qkv (rowsOf x md g w b t.val) j := by
  rw [qkvV_at, rows_at]
  rfl

end Cert.Reference3Ideal.InProjRef

end
-- ==== Proof.InProjKernel.lean ====
/-
  One grid point of the input projection with its short gated convolution: four blocks of 256 rows, each normalised,
  projected and convolved with the two rows before it. The stores of a point are written once, over what the point loads,
  and read at an index.
-/
module

public import proofs.«01_k».proof.Proof.Gen.Kernel3Ideal.Value
public import proofs.«01_k».proof.Proof.InProj
public import proofs.«01_k».proof.Proof.Layout
public import Idealize.ShloMosaic.Lib.Pointwise

@[expose] public section

set_option maxRecDepth 16384

noncomputable section

namespace Cert.Kernel3Ideal.InProjKernel

open Cert.Kernel3Ideal Cert.Kernel3Ideal.Gen
open Idealize.ShloMosaic Idealize.ShloMosaic.TcCoe Idealize.SL.Sem
open Cert.Stick Cert.Ffn Cert.InProj Cert.Layout
open scoped BigOperators

theorem f512 : Ideal.ofBits FTy.f32 0x44000000#32 = ((512 : ℝ) : EReal) := by
  simp [Ideal.ofBits, Ideal.ieee]
  rw [← EReal.coe_mul]
  norm_num

theorem f1024 : Ideal.ofBits FTy.f32 0x44800000#32 = ((1024 : ℝ) : EReal) := by
  simp [Ideal.ofBits, Ideal.ieee]
  rw [← EReal.coe_mul]
  norm_num

/-! ## Rows written so far -/

section Rows

variable {σ : RefSig} {κ : Kind} {sp : Space} {R C : ℕ} {e : EltTy}

/-- The buffer's rows below `n` are the rows `f`. -/
def Rows (v : View σ κ sp (D2 R C) e) (L : List (View.Piece (Elt Ideal) (D2 R C) e)) (n : ℕ) (f : ℕ → Fin C → Elt Ideal e) : Prop :=
  ∀ (r : Fin R) (q : Fin C), r.val < n → rd v L (ix2 r q) = f r.val q

theorem rows_nil (v : View σ κ sp (D2 R C) e) (f : ℕ → Fin C → Elt Ideal e) : Rows v [] 0 f := fun r q h => absurd h (Nat.not_lt_zero _)

theorem rows_cons {v : View σ κ sp (D2 R C) e} {L : List (View.Piece (Elt Ideal) (D2 R C) e)} {n m : ℕ} {f : ℕ → Fin C → Elt Ideal e} (hL : Rows v L n f) {inb}
    {w : (D2 m C).Idx → Elt Ideal e} (hw : ∀ (r : Fin m) (q : Fin C), w (ix2 r q) = f (n + r.val) q) :
    Rows v (⟨Rect.unit (s := D2 R C) ![n, 0] ![m, C] inb, w⟩ :: L) (n + m) f := by
  intro r q h
  by_cases hr : r.val < n
  · exact (rd_miss v inb w L (ix2 r q) (0 : Fin 2) (Or.inl hr)).trans (hL r q hr)
  · refine (hit2 v inb w L (ix2 r q) (ix2 (⟨r.val - n, by omega⟩ : Fin m) q) ?_ ?_).trans ((hw _ q).trans ?_)
    · show r.val = n + (r.val - n); omega
    · show q.val = 0 + q.val; omega
    · exact congrArg (f · q) (by show n + (r.val - n) = r.val; omega)

theorem rows_ld {v : View σ κ sp (D2 R C) e} {L : List (View.Piece (Elt Ideal) (D2 R C) e)} {n m o : ℕ} {f : ℕ → Fin C → Elt Ideal e} (hL : Rows v L n f)
    (h : o + m ≤ n) (hR : n ≤ R) {inb} (r : Fin m) (q : Fin C) :
    v.readCov L (Rect.unit (s := D2 R C) ![o, 0] ![m, C] inb).toLoadRect (ix2 r q) = f (o + r.val) q := by
  have hr := r.isLt
  refine (cov_at v L _ _).trans ((congrArg (rd v L) (idx2_ext ?_ ?_)).trans (hL (⟨o + r.val, by omega⟩ : Fin R) q (by show o + r.val < n; omega)))
  · show o + 1 * r.val = o + r.val; omega
  · show 0 + 1 * q.val = q.val; omega

/-- A load from the plane a store has just filled. -/
theorem plane_ld {v : View σ κ sp (D3 2 256 1536) e} {L : List (View.Piece (Elt Ideal) (D3 2 256 1536) e)} {s o : ℕ} {inb inb'}
    {w : (D3 1 256 1536).Idx → Elt Ideal e} (ho : o + 512 ≤ 1536) (r : Fin 256) (q : Fin 512) :
    v.readCov (⟨Rect.unit (s := D3 2 256 1536) ![s, 0, 0] ![1, 256, 1536] inb, w⟩ :: L) (Rect.unit (s := D3 2 256 1536) ![s, 0, o] ![1, 256, 512] inb').toLoadRect
      (ix3 (0 : Fin 1) r q) = w (ix3 (0 : Fin 1) r ⟨o + q.val, by omega⟩) := by
  refine (cov_at v _ _ _).trans (hit3 v inb w L _ _ ?_ ?_ ?_)
  · show s + 1 * 0 = s + 0; omega
  · show 0 + 1 * r.val = 0 + r.val; omega
  · show o + 1 * q.val = 0 + (o + q.val); omega

end Rows

/-! ## The stores of a point -/

section Stores

variable (v9 : View sig .tc .vmem S1032x512 .f32) (v10 : View sig .tc .vmem S1024x1024 .bf16) (v11 : View sig .tc .vmem S2x256x1536 .f32)
  (sh : FVec Ideal S1x1024 .f32) (g : FVec Ideal S1x1024 .f32) (sc : FVec Ideal S1x1x1024 .f32) (x0 x1 x2 x3 : FVec Ideal S256x1024 .f32)
  (wl wr : FVec Ideal S1024x1536 .bf16) (halo : FVec Ideal S8x512 .f32) (k0 k1 k2 cg : FVec Ideal S1x512 .f32)

/-- The normalised rows, two, three and four blocks of them. -/
def hb2 : List (View.Piece (Elt Ideal) S1024x1024 .bf16) :=
  [⟨Rect.unit (s := S1024x1024) ![256, 0] S256x1024.size inb_S1024x1024_S256x1024_256_0, k0_pay10 (F := Ideal) (k0_pay9 (F := Ideal) sh g sc x1)⟩,
   ⟨Rect.unit (s := S1024x1024) ![0, 0] S256x1024.size inb_S1024x1024_S256x1024_0_0, k0_pay8 (F := Ideal) sh g sc x0⟩]
def hb3 : List (View.Piece (Elt Ideal) S1024x1024 .bf16) :=
  ⟨Rect.unit (s := S1024x1024) ![512, 0] S256x1024.size inb_S1024x1024_S256x1024_512_0, k0_pay13 (F := Ideal) sh (k0_pay7 (F := Ideal) g sc) x2⟩ :: hb2 sh g sc x0 x1
def hb4 : List (View.Piece (Elt Ideal) S1024x1024 .bf16) :=
  ⟨Rect.unit (s := S1024x1024) ![768, 0] S256x1024.size inb_S1024x1024_S256x1024_768_0, k0_pay21 (F := Ideal) sh (k0_pay7 (F := Ideal) g sc) x3⟩ :: hb3 sh g sc x0 x1 x2

/-- A block of them, loaded. -/
def h0 : FVec Ideal S256x1024 .bf16 := v10.readCov (Val := Elt Ideal) (hb2 sh g sc x0 x1) (Rect.unit (s := S1024x1024) ![0, 0] S256x1024.size inb_S1024x1024_S256x1024_0_0).toLoadRect
def h1 : FVec Ideal S256x1024 .bf16 := v10.readCov (Val := Elt Ideal) (hb3 sh g sc x0 x1 x2) (Rect.unit (s := S1024x1024) ![256, 0] S256x1024.size inb_S1024x1024_S256x1024_256_0).toLoadRect
def h2 : FVec Ideal S256x1024 .bf16 := v10.readCov (Val := Elt Ideal) (hb4 sh g sc x0 x1 x2 x3) (Rect.unit (s := S1024x1024) ![512, 0] S256x1024.size inb_S1024x1024_S256x1024_512_0).toLoadRect
def h3 : FVec Ideal S256x1024 .bf16 := v10.readCov (Val := Elt Ideal) (hb4 sh g sc x0 x1 x2 x3) (Rect.unit (s := S1024x1024) ![768, 0] S256x1024.size inb_S1024x1024_S256x1024_768_0).toLoadRect

/-- The projected blocks, one plane after the other. -/
def p1 : List (View.Piece (Elt Ideal) S2x256x1536 .f32) :=
  [⟨Rect.unit (s := S2x256x1536) ![0, 0, 0] S1x256x1536.size inb_S2x256x1536_S1x256x1536_0_0_0, k0_pay11 (F := Ideal) (h0 v10 sh g sc x0 x1) wl⟩]
def p2 : List (View.Piece (Elt Ideal) S2x256x1536 .f32) :=
  ⟨Rect.unit (s := S2x256x1536) ![1, 0, 0] S1x256x1536.size inb_S2x256x1536_S1x256x1536_1_0_0, k0_pay19 (F := Ideal) (h1 v10 sh g sc x0 x1 x2) wl⟩ :: p1 v10 sh g sc x0 x1 wl
def p3 : List (View.Piece (Elt Ideal) S2x256x1536 .f32) :=
  ⟨Rect.unit (s := S2x256x1536) ![0, 0, 0] S1x256x1536.size inb_S2x256x1536_S1x256x1536_0_0_0, k0_pay28 (F := Ideal) (h2 v10 sh g sc x0 x1 x2 x3) wl⟩ :: p2 v10 sh g sc x0 x1 x2 wl
def p4 : List (View.Piece (Elt Ideal) S2x256x1536 .f32) :=
  ⟨Rect.unit (s := S2x256x1536) ![1, 0, 0] S1x256x1536.size inb_S2x256x1536_S1x256x1536_1_0_0, k0_pay35 (F := Ideal) (h3 v10 sh g sc x0 x1 x2 x3) wl⟩ :: p3 v10 sh g sc x0 x1 x2 x3 wl

/-- Their three parts, loaded. -/
def b0 : FVec Ideal S1x256x512 .f32 := v11.readCov (Val := Elt Ideal) (p1 v10 sh g sc x0 x1 wl) (Rect.unit (s := S2x256x1536) ![0, 0, 0] S1x256x512.size inb_S2x256x1536_S1x256x512_0_0_0).toLoadRect
def c0 : FVec Ideal S1x256x512 .f32 := v11.readCov (Val := Elt Ideal) (p1 v10 sh g sc x0 x1 wl) (Rect.unit (s := S2x256x1536) ![0, 0, 512] S1x256x512.size inb_S2x256x1536_S1x256x512_0_0_512).toLoadRect
def u0 : FVec Ideal S1x256x512 .f32 := v11.readCov (Val := Elt Ideal) (p1 v10 sh g sc x0 x1 wl) (Rect.unit (s := S2x256x1536) ![0, 0, 1024] S1x256x512.size inb_S2x256x1536_S1x256x512_0_0_1024).toLoadRect
def b1 : FVec Ideal S1x256x512 .f32 := v11.readCov (Val := Elt Ideal) (p2 v10 sh g sc x0 x1 x2 wl) (Rect.unit (s := S2x256x1536) ![1, 0, 0] S1x256x512.size inb_S2x256x1536_S1x256x512_1_0_0).toLoadRect
def c1 : FVec Ideal S1x256x512 .f32 := v11.readCov (Val := Elt Ideal) (p2 v10 sh g sc x0 x1 x2 wl) (Rect.unit (s := S2x256x1536) ![1, 0, 512] S1x256x512.size inb_S2x256x1536_S1x256x512_1_0_512).toLoadRect
def u1 : FVec Ideal S1x256x512 .f32 := v11.readCov (Val := Elt Ideal) (p2 v10 sh g sc x0 x1 x2 wl) (Rect.unit (s := S2x256x1536) ![1, 0, 1024] S1x256x512.size inb_S2x256x1536_S1x256x512_1_0_1024).toLoadRect
def b2 : FVec Ideal S1x256x512 .f32 := v11.readCov (Val := Elt Ideal) (p3 v10 sh g sc x0 x1 x2 x3 wl) (Rect.unit (s := S2x256x1536) ![0, 0, 0] S1x256x512.size inb_S2x256x1536_S1x256x512_0_0_0).toLoadRect
def c2 : FVec Ideal S1x256x512 .f32 := v11.readCov (Val := Elt Ideal) (p3 v10 sh g sc x0 x1 x2 x3 wl) (Rect.unit (s := S2x256x1536) ![0, 0, 512] S1x256x512.size inb_S2x256x1536_S1x256x512_0_0_512).toLoadRect
def u2 : FVec Ideal S1x256x512 .f32 := v11.readCov (Val := Elt Ideal) (p3 v10 sh g sc x0 x1 x2 x3 wl) (Rect.unit (s := S2x256x1536) ![0, 0, 1024] S1x256x512.size inb_S2x256x1536_S1x256x512_0_0_1024).toLoadRect
def b3 : FVec Ideal S1x256x512 .f32 := v11.readCov (Val := Elt Ideal) (p4 v10 sh g sc x0 x1 x2 x3 wl) (Rect.unit (s := S2x256x1536) ![1, 0, 0] S1x256x512.size inb_S2x256x1536_S1x256x512_1_0_0).toLoadRect
def c3 : FVec Ideal S1x256x512 .f32 := v11.readCov (Val := Elt Ideal) (p4 v10 sh g sc x0 x1 x2 x3 wl) (Rect.unit (s := S2x256x1536) ![1, 0, 512] S1x256x512.size inb_S2x256x1536_S1x256x512_1_0_512).toLoadRect
def u3 : FVec Ideal S1x256x512 .f32 := v11.readCov (Val := Elt Ideal) (p4 v10 sh g sc x0 x1 x2 x3 wl) (Rect.unit (s := S2x256x1536) ![1, 0, 1024] S1x256x512.size inb_S2x256x1536_S1x256x512_1_0_1024).toLoadRect

/-- The rows the convolution runs over: the halo, then the blocks' products. -/
def e1 : List (View.Piece (Elt Ideal) S1032x512 .f32) :=
  [⟨Rect.unit (s := S1032x512) ![8, 0] S256x512.size inb_S1032x512_S256x512_8_0, k0_pay15 (F := Ideal) (c0 v10 v11 sh g sc x0 x1 wl) (u0 v10 v11 sh g sc x0 x1 wl)⟩,
   ⟨Rect.unit (s := S1032x512) ![0, 0] S8x512.size inb_S1032x512_S8x512_0_0, halo⟩]
def e2 : List (View.Piece (Elt Ideal) S1032x512 .f32) :=
  ⟨Rect.unit (s := S1032x512) ![264, 0] S256x512.size inb_S1032x512_S256x512_264_0, k0_pay23 (F := Ideal) (c1 v10 v11 sh g sc x0 x1 x2 wl) (u1 v10 v11 sh g sc x0 x1 x2 wl)⟩
    :: e1 v10 v11 sh g sc x0 x1 wl halo
def e3 : List (View.Piece (Elt Ideal) S1032x512 .f32) :=
  ⟨Rect.unit (s := S1032x512) ![520, 0] S256x512.size inb_S1032x512_S256x512_520_0, k0_pay32 (F := Ideal) (c2 v10 v11 sh g sc x0 x1 x2 x3 wl) (u2 v10 v11 sh g sc x0 x1 x2 x3 wl)⟩
    :: e2 v10 v11 sh g sc x0 x1 x2 wl halo
def e4 : List (View.Piece (Elt Ideal) S1032x512 .f32) :=
  ⟨Rect.unit (s := S1032x512) ![776, 0] S256x512.size inb_S1032x512_S256x512_776_0, k0_pay38 (F := Ideal) (c3 v10 v11 sh g sc x0 x1 x2 x3 wl) (u3 v10 v11 sh g sc x0 x1 x2 x3 wl)⟩
    :: e3 v10 v11 sh g sc x0 x1 x2 x3 wl halo

/-- The row before and the row before that, of each block's rows. -/
def m0 : FVec Ideal S256x512 .f32 := v9.readCov (Val := Elt Ideal) (e1 v10 v11 sh g sc x0 x1 wl halo) (Rect.unit (s := S1032x512) ![7, 0] S256x512.size inb_S1032x512_S256x512_7_0).toLoadRect
def n0 : FVec Ideal S256x512 .f32 := v9.readCov (Val := Elt Ideal) (e1 v10 v11 sh g sc x0 x1 wl halo) (Rect.unit (s := S1032x512) ![6, 0] S256x512.size inb_S1032x512_S256x512_6_0).toLoadRect
def m1 : FVec Ideal S256x512 .f32 := v9.readCov (Val := Elt Ideal) (e2 v10 v11 sh g sc x0 x1 x2 wl halo) (Rect.unit (s := S1032x512) ![263, 0] S256x512.size inb_S1032x512_S256x512_263_0).toLoadRect
def n1 : FVec Ideal S256x512 .f32 := v9.readCov (Val := Elt Ideal) (e2 v10 v11 sh g sc x0 x1 x2 wl halo) (Rect.unit (s := S1032x512) ![262, 0] S256x512.size inb_S1032x512_S256x512_262_0).toLoadRect
def m2 : FVec Ideal S256x512 .f32 := v9.readCov (Val := Elt Ideal) (e3 v10 v11 sh g sc x0 x1 x2 x3 wl halo) (Rect.unit (s := S1032x512) ![519, 0] S256x512.size inb_S1032x512_S256x512_519_0).toLoadRect
def n2 : FVec Ideal S256x512 .f32 := v9.readCov (Val := Elt Ideal) (e3 v10 v11 sh g sc x0 x1 x2 x3 wl halo) (Rect.unit (s := S1032x512) ![518, 0] S256x512.size inb_S1032x512_S256x512_518_0).toLoadRect
def m3 : FVec Ideal S256x512 .f32 := v9.readCov (Val := Elt Ideal) (e4 v10 v11 sh g sc x0 x1 x2 x3 wl halo) (Rect.unit (s := S1032x512) ![775, 0] S256x512.size inb_S1032x512_S256x512_775_0).toLoadRect
def n3 : FVec Ideal S256x512 .f32 := v9.readCov (Val := Elt Ideal) (e4 v10 v11 sh g sc x0 x1 x2 x3 wl halo) (Rect.unit (s := S1032x512) ![774, 0] S256x512.size inb_S1032x512_S256x512_774_0).toLoadRect

/-- The attention's part of the blocks. -/
def qkvL : List (View.Piece (Elt Ideal) S1024x1536 .f32) :=
  [⟨Rect.unit (s := S1024x1536) ![768, 0] S256x1536.size inb_S1024x1536_S256x1536_768_0, k0_pay36 (F := Ideal) (h3 v10 sh g sc x0 x1 x2 x3) wr⟩,
   ⟨Rect.unit (s := S1024x1536) ![512, 0] S256x1536.size inb_S1024x1536_S256x1536_512_0, k0_pay29 (F := Ideal) (h2 v10 sh g sc x0 x1 x2 x3) wr⟩,
   ⟨Rect.unit (s := S1024x1536) ![256, 0] S256x1536.size inb_S1024x1536_S256x1536_256_0, k0_pay20 (F := Ideal) (h1 v10 sh g sc x0 x1 x2) wr⟩,
   ⟨Rect.unit (s := S1024x1536) ![0, 0] S256x1536.size inb_S1024x1536_S256x1536_0_0, k0_pay12 (F := Ideal) (h0 v10 sh g sc x0 x1) wr⟩]

/-- One block of the convolution. -/
def convV (b c u : FVec Ideal S1x256x512 .f32) (m n : FVec Ideal S256x512 .f32) : FVec Ideal S256x512 .bf16 :=
  k0_pay18 (F := Ideal) (k0_pay16 (F := Ideal) cg) (k0_pay17 (F := Ideal) b c u k2 k1 m k0 n)

/-- The convolution's blocks. -/
def mixL : List (View.Piece (Elt Ideal) S1024x512 .bf16) :=
  [⟨Rect.unit (s := S1024x512) ![768, 0] S256x512.size inb_S1024x512_S256x512_768_0, convV k0 k1 k2 cg (b3 v10 v11 sh g sc x0 x1 x2 x3 wl) (c3 v10 v11 sh g sc x0 x1 x2 x3 wl)
      (u3 v10 v11 sh g sc x0 x1 x2 x3 wl) (m3 v9 v10 v11 sh g sc x0 x1 x2 x3 wl halo) (n3 v9 v10 v11 sh g sc x0 x1 x2 x3 wl halo)⟩,
   ⟨Rect.unit (s := S1024x512) ![512, 0] S256x512.size inb_S1024x512_S256x512_512_0, convV k0 k1 k2 cg (b2 v10 v11 sh g sc x0 x1 x2 x3 wl) (c2 v10 v11 sh g sc x0 x1 x2 x3 wl)
      (u2 v10 v11 sh g sc x0 x1 x2 x3 wl) (m2 v9 v10 v11 sh g sc x0 x1 x2 x3 wl halo) (n2 v9 v10 v11 sh g sc x0 x1 x2 x3 wl halo)⟩,
   ⟨Rect.unit (s := S1024x512) ![256, 0] S256x512.size inb_S1024x512_S256x512_256_0, convV k0 k1 k2 cg (b1 v10 v11 sh g sc x0 x1 x2 wl) (c1 v10 v11 sh g sc x0 x1 x2 wl)
      (u1 v10 v11 sh g sc x0 x1 x2 wl) (m1 v9 v10 v11 sh g sc x0 x1 x2 wl halo) (n1 v9 v10 v11 sh g sc x0 x1 x2 wl halo)⟩,
   ⟨Rect.unit (s := S1024x512) ![0, 0] S256x512.size inb_S1024x512_S256x512_0_0, convV k0 k1 k2 cg (b0 v10 v11 sh g sc x0 x1 wl) (c0 v10 v11 sh g sc x0 x1 wl)
      (u0 v10 v11 sh g sc x0 x1 wl) (m0 v9 v10 v11 sh g sc x0 x1 wl halo) (n0 v9 v10 v11 sh g sc x0 x1 wl halo)⟩]

end Stores

/-! ## The stores of the three cases are these -/

section Cases

variable (c : Dev nD) (i : grid0.Coords) (arg1 : Memref sig .tc .vmem S1024x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x3072 .f32) (harg4 : arg4.IsWhole) (arg5 : Memref sig .tc .vmem S3x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x1536 .f32) (harg8 : arg8.IsWhole) (arg9 : Memref sig .tc .vmem S1032x512 .f32) (harg9 : arg9.IsWhole) (arg10 : Memref sig .tc .vmem S1024x1024 .bf16) (harg10 : arg10.IsWhole) (arg11 : Memref sig .tc .vmem S2x256x1536 .f32) (harg11 : arg11.IsWhole) (arg12 : Memref sig .tc .vmem S1024x3072 .bf16) (harg12 : arg12.IsWhole)
  (x0 : Vec Ideal S1024x1024 .f32) (x1 : Vec Ideal S1x6x1024 .f32) (x2 : Vec Ideal S1x1024 .f32) (x3 : Vec Ideal S1024x3072 .f32) (x4 : Vec Ideal S3x512 .f32) (x5 : Vec Ideal S1x512 .f32) (xs0 : Vec Ideal S1032x512 .f32) (xs3 : Vec Ideal S1024x3072 .bf16)

/-- What a point loads of its blocks. -/
abbrev ldSh : FVec Ideal S1x1024 .f32 := k0_pay5 (F := Ideal) (View.readAt (Elt Ideal) arg2.view (Rect.unit (s := S1x6x1024) ![0, 0, 0] S1x1x1024.size inb_S1x6x1024_S1x1x1024_0_0_0).toLoadRect (harg2.unread x1))
abbrev ldSc : FVec Ideal S1x1x1024 .f32 := View.readAt (Elt Ideal) arg2.view (Rect.unit (s := S1x6x1024) ![0, 1, 0] S1x1x1024.size inb_S1x6x1024_S1x1x1024_0_1_0).toLoadRect (harg2.unread x1)
abbrev ldG : FVec Ideal S1x1024 .f32 := k0_pay6 (F := Ideal) (View.readAt (Elt Ideal) arg3.view (Rect.unit (s := S1x1024) ![0, 0] S1x1024.size inb_S1x1024_S1x1024_0_0).toLoadRect (harg3.unread x2))
abbrev ldX0 : FVec Ideal S256x1024 .f32 := View.readAt (Elt Ideal) arg1.view (Rect.unit (s := S1024x1024) ![0, 0] S256x1024.size inb_S1024x1024_S256x1024_0_0).toLoadRect (harg1.unread x0)
abbrev ldX1 : FVec Ideal S256x1024 .f32 := View.readAt (Elt Ideal) arg1.view (Rect.unit (s := S1024x1024) ![256, 0] S256x1024.size inb_S1024x1024_S256x1024_256_0).toLoadRect (harg1.unread x0)
abbrev ldX2 : FVec Ideal S256x1024 .f32 := View.readAt (Elt Ideal) arg1.view (Rect.unit (s := S1024x1024) ![512, 0] S256x1024.size inb_S1024x1024_S256x1024_512_0).toLoadRect (harg1.unread x0)
abbrev ldX3 : FVec Ideal S256x1024 .f32 := View.readAt (Elt Ideal) arg1.view (Rect.unit (s := S1024x1024) ![768, 0] S256x1024.size inb_S1024x1024_S256x1024_768_0).toLoadRect (harg1.unread x0)
abbrev ldK0 : FVec Ideal S1x512 .f32 := View.readAt (Elt Ideal) arg5.view (Rect.unit (s := S3x512) ![0, 0] S1x512.size inb_S3x512_S1x512_0_0).toLoadRect (harg5.unread x4)
abbrev ldK1 : FVec Ideal S1x512 .f32 := View.readAt (Elt Ideal) arg5.view (Rect.unit (s := S3x512) ![1, 0] S1x512.size inb_S3x512_S1x512_1_0).toLoadRect (harg5.unread x4)
abbrev ldK2 : FVec Ideal S1x512 .f32 := View.readAt (Elt Ideal) arg5.view (Rect.unit (s := S3x512) ![2, 0] S1x512.size inb_S3x512_S1x512_2_0).toLoadRect (harg5.unread x4)
abbrev ldCg : FVec Ideal S1x512 .f32 := View.readAt (Elt Ideal) arg6.view (Rect.unit (s := S1x512) ![0, 0] S1x512.size inb_S1x512_S1x512_0_0).toLoadRect (harg6.unread x5)
/-- The weights a sequence of points starts by storing, and the halves a later point loads. -/
abbrev wL : List (View.Piece (Elt Ideal) S1024x3072 .bf16) :=
  [⟨Rect.unit (s := S1024x3072) ![0, 0] S1024x3072.size inb_S1024x3072_S1024x3072_0_0, k0_pay2 (F := Ideal) (View.readAt (Elt Ideal) arg4.view (Rect.unit (s := S1024x3072) ![0, 0] S1024x3072.size inb_S1024x3072_S1024x3072_0_0).toLoadRect (harg4.unread x3))⟩]
abbrev ldWl : FVec Ideal S1024x1536 .bf16 := arg12.view.readCov (Val := Elt Ideal) (wL arg4 harg4 x3) (Rect.unit (s := S1024x3072) ![0, 0] S1024x1536.size inb_S1024x3072_S1024x1536_0_0).toLoadRect
abbrev ldWr : FVec Ideal S1024x1536 .bf16 := arg12.view.readCov (Val := Elt Ideal) (wL arg4 harg4 x3) (Rect.unit (s := S1024x3072) ![0, 1536] S1024x1536.size inb_S1024x3072_S1024x1536_0_1536).toLoadRect
abbrev ldSl : FVec Ideal S1024x1536 .bf16 := View.readAt (Elt Ideal) arg12.view (Rect.unit (s := S1024x3072) ![0, 0] S1024x1536.size inb_S1024x3072_S1024x1536_0_0).toLoadRect (harg12.unread xs3)
abbrev ldSr : FVec Ideal S1024x1536 .bf16 := View.readAt (Elt Ideal) arg12.view (Rect.unit (s := S1024x3072) ![0, 1536] S1024x1536.size inb_S1024x3072_S1024x1536_0_1536).toLoadRect (harg12.unread xs3)
/-- The last rows of the point before. -/
abbrev ldHalo : FVec Ideal S8x512 .f32 := k0_pay4 (F := Ideal) (View.readAt (Elt Ideal) arg9.view (Rect.unit (s := S1032x512) ![1024, 0] S8x512.size inb_S1032x512_S8x512_1024_0).toLoadRect (harg9.unread xs0))

theorem mixA (hc0 : cond0_0 i) (hc1 : cond0_1 i) (hc2 : ¬cond0_2 i) :
    (kernelRun0_A (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).1
      = mixL arg9.view arg10.view arg11.view (ldSh arg2 harg2 x1) (ldG arg3 harg3 x2) (ldSc arg2 harg2 x1) (ldX0 arg1 harg1 x0) (ldX1 arg1 harg1 x0) (ldX2 arg1 harg1 x0) (ldX3 arg1 harg1 x0) (ldWl arg4 harg4 arg12 x3) (k0_pay3 (F := Ideal)) (ldK0 arg5 harg5 x4) (ldK1 arg5 harg5 x4) (ldK2 arg5 harg5 x4) (ldCg arg6 harg6 x5) := rfl
theorem qkvA (hc0 : cond0_0 i) (hc1 : cond0_1 i) (hc2 : ¬cond0_2 i) :
    (kernelRun0_A (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.1
      = qkvL arg10.view (ldSh arg2 harg2 x1) (ldG arg3 harg3 x2) (ldSc arg2 harg2 x1) (ldX0 arg1 harg1 x0) (ldX1 arg1 harg1 x0) (ldX2 arg1 harg1 x0) (ldX3 arg1 harg1 x0) (ldWr arg4 harg4 arg12 x3) := rfl
theorem extA (hc0 : cond0_0 i) (hc1 : cond0_1 i) (hc2 : ¬cond0_2 i) :
    (kernelRun0_A (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.1
      = e4 arg10.view arg11.view (ldSh arg2 harg2 x1) (ldG arg3 harg3 x2) (ldSc arg2 harg2 x1) (ldX0 arg1 harg1 x0) (ldX1 arg1 harg1 x0) (ldX2 arg1 harg1 x0) (ldX3 arg1 harg1 x0) (ldWl arg4 harg4 arg12 x3) (k0_pay3 (F := Ideal)) := rfl
theorem wA (hc0 : cond0_0 i) (hc1 : cond0_1 i) (hc2 : ¬cond0_2 i) :
    (kernelRun0_A (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.2.1
      = wL arg4 harg4 x3 := rfl

theorem mixB (hc0 : ¬cond0_0 i) (hc1 : ¬cond0_1 i) (hc2 : cond0_2 i) :
    (kernelRun0_B (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs3).1
      = mixL arg9.view arg10.view arg11.view (ldSh arg2 harg2 x1) (ldG arg3 harg3 x2) (ldSc arg2 harg2 x1) (ldX0 arg1 harg1 x0) (ldX1 arg1 harg1 x0) (ldX2 arg1 harg1 x0) (ldX3 arg1 harg1 x0) (ldSl arg12 harg12 xs3) (ldHalo arg9 harg9 xs0) (ldK0 arg5 harg5 x4) (ldK1 arg5 harg5 x4) (ldK2 arg5 harg5 x4) (ldCg arg6 harg6 x5) := rfl
theorem qkvB (hc0 : ¬cond0_0 i) (hc1 : ¬cond0_1 i) (hc2 : cond0_2 i) :
    (kernelRun0_B (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs3).2.1
      = qkvL arg10.view (ldSh arg2 harg2 x1) (ldG arg3 harg3 x2) (ldSc arg2 harg2 x1) (ldX0 arg1 harg1 x0) (ldX1 arg1 harg1 x0) (ldX2 arg1 harg1 x0) (ldX3 arg1 harg1 x0) (ldSr arg12 harg12 xs3) := rfl
theorem extB (hc0 : ¬cond0_0 i) (hc1 : ¬cond0_1 i) (hc2 : cond0_2 i) :
    (kernelRun0_B (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs3).2.2.1
      = e4 arg10.view arg11.view (ldSh arg2 harg2 x1) (ldG arg3 harg3 x2) (ldSc arg2 harg2 x1) (ldX0 arg1 harg1 x0) (ldX1 arg1 harg1 x0) (ldX2 arg1 harg1 x0) (ldX3 arg1 harg1 x0) (ldSl arg12 harg12 xs3) (ldHalo arg9 harg9 xs0) := rfl

theorem mixC (hc0 : ¬cond0_0 i) (hc1 : cond0_1 i) (hc2 : ¬cond0_2 i) :
    (kernelRun0_C (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs3).1
      = mixL arg9.view arg10.view arg11.view (ldSh arg2 harg2 x1) (ldG arg3 harg3 x2) (ldSc arg2 harg2 x1) (ldX0 arg1 harg1 x0) (ldX1 arg1 harg1 x0) (ldX2 arg1 harg1 x0) (ldX3 arg1 harg1 x0) (ldSl arg12 harg12 xs3) (k0_pay3 (F := Ideal)) (ldK0 arg5 harg5 x4) (ldK1 arg5 harg5 x4) (ldK2 arg5 harg5 x4) (ldCg arg6 harg6 x5) := rfl
theorem qkvC (hc0 : ¬cond0_0 i) (hc1 : cond0_1 i) (hc2 : ¬cond0_2 i) :
    (kernelRun0_C (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs3).2.1
      = qkvL arg10.view (ldSh arg2 harg2 x1) (ldG arg3 harg3 x2) (ldSc arg2 harg2 x1) (ldX0 arg1 harg1 x0) (ldX1 arg1 harg1 x0) (ldX2 arg1 harg1 x0) (ldX3 arg1 harg1 x0) (ldSr arg12 harg12 xs3) := rfl
theorem extC (hc0 : ¬cond0_0 i) (hc1 : cond0_1 i) (hc2 : ¬cond0_2 i) :
    (kernelRun0_C (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs3).2.2.1
      = e4 arg10.view arg11.view (ldSh arg2 harg2 x1) (ldG arg3 harg3 x2) (ldSc arg2 harg2 x1) (ldX0 arg1 harg1 x0) (ldX1 arg1 harg1 x0) (ldX2 arg1 harg1 x0) (ldX3 arg1 harg1 x0) (ldSl arg12 harg12 xs3) (k0_pay3 (F := Ideal)) := rfl

end Cases

end Cert.Kernel3Ideal.InProjKernel

end
-- ==== Proof.InProjPoint.lean ====
/-
  What the stores of one grid point leave, read at an index: the normalised rows, their projection, the rows the
  convolution runs over, and the two results.
-/
module

public import proofs.«01_k».proof.Proof.InProjKernel

@[expose] public section

set_option maxRecDepth 16384

noncomputable section

namespace Cert.Kernel3Ideal.InProjPoint

open Cert.Kernel3Ideal Cert.Kernel3Ideal.Gen Cert.Kernel3Ideal.InProjKernel
open Idealize.ShloMosaic Idealize.ShloMosaic.TcCoe Idealize.SL.Sem
open Cert.Stick Cert.Ffn Cert.InProj Cert.Layout
open scoped BigOperators

/-! ## The payloads -/

/-- The modulated norm of a block of rows. -/
def normV (sh g : FVec Ideal S1x1024 .f32) (sc : FVec Ideal S1x1x1024 .f32) (x : FVec Ideal S256x1024 .f32) : FVec Ideal S256x1024 .bf16 :=
  k0_pay13 (F := Ideal) sh (k0_pay7 (F := Ideal) g sc) x

theorem pay8_eq (sh g : FVec Ideal S1x1024 .f32) (sc : FVec Ideal S1x1x1024 .f32) (x : FVec Ideal S256x1024 .f32) :
    k0_pay8 (F := Ideal) sh g sc x = normV sh g sc x := rfl
theorem pay10_eq (sh g : FVec Ideal S1x1024 .f32) (sc : FVec Ideal S1x1x1024 .f32) (x : FVec Ideal S256x1024 .f32) :
    k0_pay10 (F := Ideal) (k0_pay9 (F := Ideal) sh g sc x) = normV sh g sc x := rfl
theorem pay21_eq (sh g : FVec Ideal S1x1024 .f32) (sc : FVec Ideal S1x1x1024 .f32) (x : FVec Ideal S256x1024 .f32) :
    k0_pay21 (F := Ideal) sh (k0_pay7 (F := Ideal) g sc) x = normV sh g sc x := rfl

theorem normV_at (sh g : FVec Ideal S1x1024 .f32) (sc : FVec Ideal S1x1x1024 .f32) (x : FVec Ideal S256x1024 .f32) (r : Fin 256) (j : Fin 1024) :
    normV sh g sc x (ix2 r j) = modn (fun k => x (ix2 r k)) (fun k => g (ix2 (0 : Fin 1) k)) (fun k => sc (ix3 (0 : Fin 1) (0 : Fin 1) k))
      (fun k => sh (ix2 (0 : Fin 1) k)) j := by
  pointwise [normV, k0_pay13, k0_pay7]
  rw [f1024, Ideal.div_coe (by norm_num), ← mul_assoc]
  rfl

theorem mm (a : FVec Ideal S256x1024 .bf16) (b : FVec Ideal S1024x1536 .bf16) (r : Fin 256) (q : Fin 1536) :
    matmul (F := Ideal) dot_S256x1024_S1024x1536_S256x1536_1_0_0_1_n_n none a b (constant S256x1536 .f32 0x00000000#32) (ix2 r q)
      = ∑ k : Fin 1024, a (ix2 r k) * b (ix2 k q) := mm_at (P := 256) (K := 1024) (N := 1536) a b (ix2 r q)

theorem pay11_at (a : FVec Ideal S256x1024 .bf16) (b : FVec Ideal S1024x1536 .bf16) (r : Fin 256) (q : Fin 1536) :
    k0_pay11 (F := Ideal) a b (ix3 (0 : Fin 1) r q) = ∑ k : Fin 1024, a (ix2 r k) * b (ix2 k q) :=
  (cast_add1 (n := 256) (c := 1536) (matmul (F := Ideal) dot_S256x1024_S1024x1536_S256x1536_1_0_0_1_n_n none a b (constant S256x1536 .f32 0x00000000#32))
    shapeCasts_S256x1536_S1x256x1536 (ix3 (0 : Fin 1) r q)).trans (mm a b r q)

theorem pay15_at (b c : FVec Ideal S1x256x512 .f32) (r : Fin 256) (q : Fin 512) :
    k0_pay15 (F := Ideal) b c (ix2 r q) = b (ix3 (0 : Fin 1) r q) * c (ix3 (0 : Fin 1) r q) := by
  pointwise [k0_pay15, k0_pay14]

theorem convV_at (k0 k1 k2 cg : FVec Ideal S1x512 .f32) (b c u : FVec Ideal S1x256x512 .f32) (m n : FVec Ideal S256x512 .f32) (r : Fin 256) (q : Fin 512) :
    convV k0 k1 k2 cg b c u m n (ix2 r q) = rms (1 / 512) (fun q => b (ix3 (0 : Fin 1) r q) * ((k2 (ix2 (0 : Fin 1) q) * (c (ix3 (0 : Fin 1) r q) * u (ix3 (0 : Fin 1) r q))
      + k1 (ix2 (0 : Fin 1) q) * m (ix2 r q)) + k0 (ix2 (0 : Fin 1) q) * n (ix2 r q))) q * cg (ix2 (0 : Fin 1) q) := by
  pointwise [convV, k0_pay18, k0_pay16, k0_pay17, k0_pay14]
  rw [f512, Ideal.div_coe (by norm_num)]
  rfl

theorem pay3_at (r : Fin 8) (q : Fin 512) : k0_pay3 (F := Ideal) (ix2 r q) = (0 : EReal) := by
  show (k0_pay3 (F := Ideal) (ix2 r q) : EReal) = 0
  exact Ideal.ofBits_zero_f32

/-! ## The buffers of a point -/

section Point

variable (v9 : View sig .tc .vmem S1032x512 .f32) (v10 : View sig .tc .vmem S1024x1024 .bf16) (v11 : View sig .tc .vmem S2x256x1536 .f32)
  (v7 : View sig .tc .vmem S1024x512 .bf16) (v8 : View sig .tc .vmem S1024x1536 .f32)
  (sh : FVec Ideal S1x1024 .f32) (g : FVec Ideal S1x1024 .f32) (sc : FVec Ideal S1x1x1024 .f32) (x0 x1 x2 x3 : FVec Ideal S256x1024 .f32)
  (wl wr : FVec Ideal S1024x1536 .bf16) (halo : FVec Ideal S8x512 .f32) (k0 k1 k2 cg : FVec Ideal S1x512 .f32)
  (X : ℕ → Fin 1024 → EReal) (W : Fin 1024 → Fin 3072 → EReal) (E : ℕ → Fin 512 → EReal)

/-- The normalised rows. -/
abbrev H (r : ℕ) : Fin 1024 → EReal :=
  modn (X r) (fun k => g (ix2 (0 : Fin 1) k)) (fun k => sc (ix3 (0 : Fin 1) (0 : Fin 1) k)) (fun k => sh (ix2 (0 : Fin 1) k))

/-- The projected rows. -/
abbrev P (r : ℕ) : Fin 3072 → EReal := proj (H sh g sc X r) W

variable {sh g sc x0 x1 x2 x3 wl wr halo X W E}

theorem norm_row {x : FVec Ideal S256x1024 .f32} {o : ℕ} (hx : ∀ r k, x (ix2 r k) = X (o + r.val) k) (r : Fin 256) (j : Fin 1024) :
    normV sh g sc x (ix2 r j) = H sh g sc X (o + r.val) j := by
  rw [normV_at]
  simp only [hx]

variable (a0 : ∀ (r : Fin 256) k, x0 (ix2 r k) = X (0 + r.val) k) (a1 : ∀ (r : Fin 256) k, x1 (ix2 r k) = X (256 + r.val) k)
  (a2 : ∀ (r : Fin 256) k, x2 (ix2 r k) = X (512 + r.val) k) (a3 : ∀ (r : Fin 256) k, x3 (ix2 r k) = X (768 + r.val) k)
  (al : ∀ k (j : Fin 1536), wl (ix2 k j) = W k ⟨0 + j.val, by omega⟩) (ar : ∀ k (j : Fin 1536), wr (ix2 k j) = W k ⟨1536 + j.val, by omega⟩)
  (hh : ∀ (r : Fin 8) q, halo (ix2 r q) = E (0 + r.val) q) (hE : ∀ r, r < 1024 → ∀ q, E (8 + r) q = cu (P sh g sc X W r) q)

include a0 a1 in
theorem hb2_rows : Rows v10 (hb2 sh g sc x0 x1) 512 (H sh g sc X) :=
  rows_cons (n := 256) (m := 256) (rows_cons (n := 0) (m := 256) (rows_nil v10 _) (norm_row a0)) (norm_row a1)

include a0 a1 a2 in
theorem hb3_rows : Rows v10 (hb3 sh g sc x0 x1 x2) 768 (H sh g sc X) := rows_cons (n := 512) (m := 256) (hb2_rows v10 a0 a1) (norm_row a2)

include a0 a1 a2 a3 in
theorem hb4_rows : Rows v10 (hb4 sh g sc x0 x1 x2 x3) 1024 (H sh g sc X) := rows_cons (n := 768) (m := 256) (hb3_rows v10 a0 a1 a2) (norm_row a3)

include a0 a1 in
theorem h0_at (r : Fin 256) (k : Fin 1024) : h0 v10 sh g sc x0 x1 (ix2 r k) = H sh g sc X (0 + r.val) k :=
  rows_ld (hb2_rows v10 a0 a1) (by omega) (by omega) r k
include a0 a1 a2 in
theorem h1_at (r : Fin 256) (k : Fin 1024) : h1 v10 sh g sc x0 x1 x2 (ix2 r k) = H sh g sc X (256 + r.val) k :=
  rows_ld (hb3_rows v10 a0 a1 a2) (by omega) (by omega) r k
include a0 a1 a2 a3 in
theorem h2_at (r : Fin 256) (k : Fin 1024) : h2 v10 sh g sc x0 x1 x2 x3 (ix2 r k) = H sh g sc X (512 + r.val) k :=
  rows_ld (hb4_rows v10 a0 a1 a2 a3) (by omega) (by omega) r k
include a0 a1 a2 a3 in
theorem h3_at (r : Fin 256) (k : Fin 1024) : h3 v10 sh g sc x0 x1 x2 x3 (ix2 r k) = H sh g sc X (768 + r.val) k :=
  rows_ld (hb4_rows v10 a0 a1 a2 a3) (by omega) (by omega) r k

/-! A block's product with half of the weights, and its part in the convolution -/

/-- A block of the left half of the projected rows, as the plane holds it. -/
def planeV (h : FVec Ideal S256x1024 .bf16) (wl : FVec Ideal S1024x1536 .bf16) : FVec Ideal S1x256x1536 .f32 := k0_pay11 (F := Ideal) h wl

include al in
theorem plane_at {h : FVec Ideal S256x1024 .bf16} {o : ℕ} (hh : ∀ (r : Fin 256) k, h (ix2 r k) = H sh g sc X (o + r.val) k) (r : Fin 256) (q : Fin 1536) :
    planeV h wl (ix3 (0 : Fin 1) r q) = P sh g sc X W (o + r.val) ⟨0 + q.val, by omega⟩ := by
  refine (pay11_at h wl r q).trans ?_
  simp only [hh, al]
  rfl

include ar in
theorem right_at {h : FVec Ideal S256x1024 .bf16} {o : ℕ} (hh : ∀ (r : Fin 256) k, h (ix2 r k) = H sh g sc X (o + r.val) k) (r : Fin 256) (q : Fin 1536) :
    k0_pay12 (F := Ideal) h wr (ix2 r q) = qkv (P sh g sc X W (o + r.val)) q := by
  refine (mm h wr r q).trans ?_
  simp only [hh, ar]
  rfl

/-- A load of a part of the plane a block was just stored to. -/
theorem part_at {L : List (View.Piece (Elt Ideal) S2x256x1536 .f32)} {s o c : ℕ} {inb inb'} {w : FVec Ideal S1x256x1536 .f32} (hc : c + 512 ≤ 1536)
    (hw : ∀ (r : Fin 256) (q : Fin 1536), w (ix3 (0 : Fin 1) r q) = P sh g sc X W (o + r.val) ⟨0 + q.val, by omega⟩) (r : Fin 256) (q : Fin 512) :
    v11.readCov (Val := Elt Ideal) (⟨Rect.unit (s := S2x256x1536) ![s, 0, 0] S1x256x1536.size inb, w⟩ :: L)
      (Rect.unit (s := S2x256x1536) ![s, 0, c] S1x256x512.size inb').toLoadRect (ix3 (0 : Fin 1) r q) = P sh g sc X W (o + r.val) ⟨c + q.val, by omega⟩ := by
  refine (plane_ld (v := v11) (L := L) (w := w) hc r q).trans ((hw r ⟨c + q.val, by omega⟩).trans (congrArg _ (Fin.ext ?_)))
  show 0 + (c + q.val) = c + q.val
  omega

include hE in
theorem cu_row {c u : FVec Ideal S1x256x512 .f32} {o : ℕ} (ho : o + 256 ≤ 1024)
    (hc : ∀ (r : Fin 256) (q : Fin 512), c (ix3 (0 : Fin 1) r q) = P sh g sc X W (o + r.val) ⟨512 + q.val, by omega⟩)
    (hu : ∀ (r : Fin 256) (q : Fin 512), u (ix3 (0 : Fin 1) r q) = P sh g sc X W (o + r.val) ⟨1024 + q.val, by omega⟩) (r : Fin 256) (q : Fin 512) :
    k0_pay15 (F := Ideal) c u (ix2 r q) = E (8 + o + r.val) q := by
  have hr := r.isLt
  rw [pay15_at, hc, hu, Nat.add_assoc, hE (o + r.val) (by omega)]
  rfl

include hE in
theorem conv_row {b c u : FVec Ideal S1x256x512 .f32} {m n : FVec Ideal S256x512 .f32} {o o1 o2 : ℕ} (ho : o + 256 ≤ 1024) (ho1 : o1 = 7 + o) (ho2 : o2 = 6 + o)
    (hb : ∀ (r : Fin 256) (q : Fin 512), b (ix3 (0 : Fin 1) r q) = P sh g sc X W (o + r.val) ⟨0 + q.val, by omega⟩)
    (hc : ∀ (r : Fin 256) (q : Fin 512), c (ix3 (0 : Fin 1) r q) = P sh g sc X W (o + r.val) ⟨512 + q.val, by omega⟩)
    (hu : ∀ (r : Fin 256) (q : Fin 512), u (ix3 (0 : Fin 1) r q) = P sh g sc X W (o + r.val) ⟨1024 + q.val, by omega⟩)
    (hm : ∀ (r : Fin 256) q, m (ix2 r q) = E (o1 + r.val) q) (hn : ∀ (r : Fin 256) q, n (ix2 r q) = E (o2 + r.val) q) (K : Fin 3 → Fin 512 → EReal)
    (hk : ∀ q, k0 (ix2 (0 : Fin 1) q) = K 0 q ∧ k1 (ix2 (0 : Fin 1) q) = K 1 q ∧ k2 (ix2 (0 : Fin 1) q) = K 2 q) (r : Fin 256) (q : Fin 512) :
    convV k0 k1 k2 cg b c u m n (ix2 r q) = conv (gate (P sh g sc X W (o + r.val))) (E (8 + (o + r.val))) (E (7 + (o + r.val))) (E (6 + (o + r.val))) K
      (fun q => cg (ix2 (0 : Fin 1) q)) q := by
  have hr := r.isLt
  subst ho1 ho2
  rw [convV_at]
  unfold conv
  refine congrArg (· * cg (ix2 (0 : Fin 1) q)) (congrArg (fun f : Fin 512 → EReal => rms (1 / 512) f q) (funext fun q => ?_))
  obtain ⟨e0, e1, e2⟩ := hk q
  rw [hb, hc, hu, hm, hn, e0, e1, e2, Nat.add_assoc, Nat.add_assoc, hE (o + r.val) (by omega)]
  have e : (⟨0 + q.val, by omega⟩ : Fin 3072) = ⟨q.val, by omega⟩ := Fin.ext (Nat.zero_add _)
  rw [e]
  rfl

/-! The blocks' parts -/

include al in
/-- The three parts of a block, from the plane it was stored to. -/
theorem parts {h : FVec Ideal S256x1024 .bf16} {o : ℕ} (hr : ∀ (r : Fin 256) k, h (ix2 r k) = H sh g sc X (o + r.val) k)
    {L : List (View.Piece (Elt Ideal) S2x256x1536 .f32)} {s c : ℕ} {inb inb'} (hc : c + 512 ≤ 1536) (r : Fin 256) (q : Fin 512) :
    v11.readCov (Val := Elt Ideal) (⟨Rect.unit (s := S2x256x1536) ![s, 0, 0] S1x256x1536.size inb, planeV h wl⟩ :: L)
      (Rect.unit (s := S2x256x1536) ![s, 0, c] S1x256x512.size inb').toLoadRect (ix3 (0 : Fin 1) r q) = P sh g sc X W (o + r.val) ⟨c + q.val, by omega⟩ :=
  part_at v11 hc (plane_at al hr) r q

include a0 a1 al in
theorem b0_at (r : Fin 256) (q : Fin 512) : b0 v10 v11 sh g sc x0 x1 wl (ix3 (0 : Fin 1) r q) = P sh g sc X W (0 + r.val) ⟨0 + q.val, by omega⟩ :=
  parts v11 al (h0_at v10 a0 a1) (by omega) r q
include a0 a1 al in
theorem c0_at (r : Fin 256) (q : Fin 512) : c0 v10 v11 sh g sc x0 x1 wl (ix3 (0 : Fin 1) r q) = P sh g sc X W (0 + r.val) ⟨512 + q.val, by omega⟩ :=
  parts v11 al (h0_at v10 a0 a1) (by omega) r q
include a0 a1 al in
theorem u0_at (r : Fin 256) (q : Fin 512) : u0 v10 v11 sh g sc x0 x1 wl (ix3 (0 : Fin 1) r q) = P sh g sc X W (0 + r.val) ⟨1024 + q.val, by omega⟩ :=
  parts v11 al (h0_at v10 a0 a1) (by omega) r q
include a0 a1 a2 al in
theorem b1_at (r : Fin 256) (q : Fin 512) : b1 v10 v11 sh g sc x0 x1 x2 wl (ix3 (0 : Fin 1) r q) = P sh g sc X W (256 + r.val) ⟨0 + q.val, by omega⟩ :=
  parts v11 al (h1_at v10 a0 a1 a2) (by omega) r q
include a0 a1 a2 al in
theorem c1_at (r : Fin 256) (q : Fin 512) : c1 v10 v11 sh g sc x0 x1 x2 wl (ix3 (0 : Fin 1) r q) = P sh g sc X W (256 + r.val) ⟨512 + q.val, by omega⟩ :=
  parts v11 al (h1_at v10 a0 a1 a2) (by omega) r q
include a0 a1 a2 al in
theorem u1_at (r : Fin 256) (q : Fin 512) : u1 v10 v11 sh g sc x0 x1 x2 wl (ix3 (0 : Fin 1) r q) = P sh g sc X W (256 + r.val) ⟨1024 + q.val, by omega⟩ :=
  parts v11 al (h1_at v10 a0 a1 a2) (by omega) r q
include a0 a1 a2 a3 al in
theorem b2_at (r : Fin 256) (q : Fin 512) : b2 v10 v11 sh g sc x0 x1 x2 x3 wl (ix3 (0 : Fin 1) r q) = P sh g sc X W (512 + r.val) ⟨0 + q.val, by omega⟩ :=
  parts v11 al (h2_at v10 a0 a1 a2 a3) (by omega) r q
include a0 a1 a2 a3 al in
theorem c2_at (r : Fin 256) (q : Fin 512) : c2 v10 v11 sh g sc x0 x1 x2 x3 wl (ix3 (0 : Fin 1) r q) = P sh g sc X W (512 + r.val) ⟨512 + q.val, by omega⟩ :=
  parts v11 al (h2_at v10 a0 a1 a2 a3) (by omega) r q
include a0 a1 a2 a3 al in
theorem u2_at (r : Fin 256) (q : Fin 512) : u2 v10 v11 sh g sc x0 x1 x2 x3 wl (ix3 (0 : Fin 1) r q) = P sh g sc X W (512 + r.val) ⟨1024 + q.val, by omega⟩ :=
  parts v11 al (h2_at v10 a0 a1 a2 a3) (by omega) r q
include a0 a1 a2 a3 al in
theorem b3_at (r : Fin 256) (q : Fin 512) : b3 v10 v11 sh g sc x0 x1 x2 x3 wl (ix3 (0 : Fin 1) r q) = P sh g sc X W (768 + r.val) ⟨0 + q.val, by omega⟩ :=
  parts v11 al (h3_at v10 a0 a1 a2 a3) (by omega) r q
include a0 a1 a2 a3 al in
theorem c3_at (r : Fin 256) (q : Fin 512) : c3 v10 v11 sh g sc x0 x1 x2 x3 wl (ix3 (0 : Fin 1) r q) = P sh g sc X W (768 + r.val) ⟨512 + q.val, by omega⟩ :=
  parts v11 al (h3_at v10 a0 a1 a2 a3) (by omega) r q
include a0 a1 a2 a3 al in
theorem u3_at (r : Fin 256) (q : Fin 512) : u3 v10 v11 sh g sc x0 x1 x2 x3 wl (ix3 (0 : Fin 1) r q) = P sh g sc X W (768 + r.val) ⟨1024 + q.val, by omega⟩ :=
  parts v11 al (h3_at v10 a0 a1 a2 a3) (by omega) r q

/-! The rows of the convolution -/

include hh in
theorem halo_rows {inb} : Rows v9 [⟨Rect.unit (s := S1032x512) ![0, 0] S8x512.size inb, halo⟩] 8 E := rows_cons (n := 0) (m := 8) (rows_nil v9 E) hh

include a0 a1 al hh hE in
theorem e1_rows : Rows v9 (e1 v10 v11 sh g sc x0 x1 wl halo) 264 E :=
  rows_cons (n := 8) (m := 256) (halo_rows v9 hh) (cu_row hE (o := 0) (by omega) (c0_at v10 v11 a0 a1 al) (u0_at v10 v11 a0 a1 al))
include a0 a1 a2 al hh hE in
theorem e2_rows : Rows v9 (e2 v10 v11 sh g sc x0 x1 x2 wl halo) 520 E :=
  rows_cons (n := 264) (m := 256) (e1_rows v9 v10 v11 a0 a1 al hh hE) (cu_row hE (o := 256) (by omega) (c1_at v10 v11 a0 a1 a2 al) (u1_at v10 v11 a0 a1 a2 al))
include a0 a1 a2 a3 al hh hE in
theorem e3_rows : Rows v9 (e3 v10 v11 sh g sc x0 x1 x2 x3 wl halo) 776 E :=
  rows_cons (n := 520) (m := 256) (e2_rows v9 v10 v11 a0 a1 a2 al hh hE) (cu_row hE (o := 512) (by omega) (c2_at v10 v11 a0 a1 a2 a3 al) (u2_at v10 v11 a0 a1 a2 a3 al))
include a0 a1 a2 a3 al hh hE in
theorem e4_rows : Rows v9 (e4 v10 v11 sh g sc x0 x1 x2 x3 wl halo) 1032 E :=
  rows_cons (n := 776) (m := 256) (e3_rows v9 v10 v11 a0 a1 a2 a3 al hh hE) (cu_row hE (o := 768) (by omega) (c3_at v10 v11 a0 a1 a2 a3 al) (u3_at v10 v11 a0 a1 a2 a3 al))
include a0 a1 al hh hE in
theorem m0_at (r : Fin 256) (q : Fin 512) : m0 v9 v10 v11 sh g sc x0 x1 wl halo (ix2 r q) = E (7 + r.val) q :=
  rows_ld (e1_rows v9 v10 v11 a0 a1 al hh hE) (by omega) (by omega) r q
include a0 a1 al hh hE in
theorem n0_at (r : Fin 256) (q : Fin 512) : n0 v9 v10 v11 sh g sc x0 x1 wl halo (ix2 r q) = E (6 + r.val) q :=
  rows_ld (e1_rows v9 v10 v11 a0 a1 al hh hE) (by omega) (by omega) r q
include a0 a1 a2 al hh hE in
theorem m1_at (r : Fin 256) (q : Fin 512) : m1 v9 v10 v11 sh g sc x0 x1 x2 wl halo (ix2 r q) = E (263 + r.val) q :=
  rows_ld (e2_rows v9 v10 v11 a0 a1 a2 al hh hE) (by omega) (by omega) r q
include a0 a1 a2 al hh hE in
theorem n1_at (r : Fin 256) (q : Fin 512) : n1 v9 v10 v11 sh g sc x0 x1 x2 wl halo (ix2 r q) = E (262 + r.val) q :=
  rows_ld (e2_rows v9 v10 v11 a0 a1 a2 al hh hE) (by omega) (by omega) r q
include a0 a1 a2 a3 al hh hE in
theorem m2_at (r : Fin 256) (q : Fin 512) : m2 v9 v10 v11 sh g sc x0 x1 x2 x3 wl halo (ix2 r q) = E (519 + r.val) q :=
  rows_ld (e3_rows v9 v10 v11 a0 a1 a2 a3 al hh hE) (by omega) (by omega) r q
include a0 a1 a2 a3 al hh hE in
theorem n2_at (r : Fin 256) (q : Fin 512) : n2 v9 v10 v11 sh g sc x0 x1 x2 x3 wl halo (ix2 r q) = E (518 + r.val) q :=
  rows_ld (e3_rows v9 v10 v11 a0 a1 a2 a3 al hh hE) (by omega) (by omega) r q
include a0 a1 a2 a3 al hh hE in
theorem m3_at (r : Fin 256) (q : Fin 512) : m3 v9 v10 v11 sh g sc x0 x1 x2 x3 wl halo (ix2 r q) = E (775 + r.val) q :=
  rows_ld (e4_rows v9 v10 v11 a0 a1 a2 a3 al hh hE) (by omega) (by omega) r q
include a0 a1 a2 a3 al hh hE in
theorem n3_at (r : Fin 256) (q : Fin 512) : n3 v9 v10 v11 sh g sc x0 x1 x2 x3 wl halo (ix2 r q) = E (774 + r.val) q :=
  rows_ld (e4_rows v9 v10 v11 a0 a1 a2 a3 al hh hE) (by omega) (by omega) r q

/-! The results -/

include a0 a1 a2 a3 ar in
theorem qkvL_rows : Rows v8 (qkvL v10 sh g sc x0 x1 x2 x3 wr) 1024 (fun r => qkv (P sh g sc X W r)) :=
  rows_cons (n := 768) (m := 256) (rows_cons (n := 512) (m := 256) (rows_cons (n := 256) (m := 256) (rows_cons (n := 0) (m := 256) (rows_nil v8 _)
    (right_at ar (h0_at v10 a0 a1))) (right_at ar (h1_at v10 a0 a1 a2))) (right_at ar (h2_at v10 a0 a1 a2 a3))) (right_at ar (h3_at v10 a0 a1 a2 a3))

/-- A row of the convolution. -/
abbrev mixRow (sh : FVec Ideal S1x1024 .f32) (g : FVec Ideal S1x1024 .f32) (sc : FVec Ideal S1x1x1024 .f32) (X : ℕ → Fin 1024 → EReal)
    (W : Fin 1024 → Fin 3072 → EReal) (E : ℕ → Fin 512 → EReal) (K : Fin 3 → Fin 512 → EReal) (cg : FVec Ideal S1x512 .f32) (r : ℕ) : Fin 512 → EReal :=
  conv (gate (P sh g sc X W r)) (E (8 + r)) (E (7 + r)) (E (6 + r)) K (fun q => cg (ix2 (0 : Fin 1) q))

include a0 a1 a2 a3 al hh hE in
theorem mixL_rows (K : Fin 3 → Fin 512 → EReal)
    (hk : ∀ q, k0 (ix2 (0 : Fin 1) q) = K 0 q ∧ k1 (ix2 (0 : Fin 1) q) = K 1 q ∧ k2 (ix2 (0 : Fin 1) q) = K 2 q) :
    Rows v7 (mixL v9 v10 v11 sh g sc x0 x1 x2 x3 wl halo k0 k1 k2 cg) 1024 (mixRow sh g sc X W E K cg) :=
  rows_cons (n := 768) (m := 256) (rows_cons (n := 512) (m := 256) (rows_cons (n := 256) (m := 256) (rows_cons (n := 0) (m := 256) (rows_nil v7 _)
    (conv_row k0 k1 k2 cg hE (o := 0) (by omega) rfl rfl (b0_at v10 v11 a0 a1 al) (c0_at v10 v11 a0 a1 al) (u0_at v10 v11 a0 a1 al) (m0_at v9 v10 v11 a0 a1 al hh hE)
      (n0_at v9 v10 v11 a0 a1 al hh hE) K hk))
    (conv_row k0 k1 k2 cg hE (o := 256) (by omega) rfl rfl (b1_at v10 v11 a0 a1 a2 al) (c1_at v10 v11 a0 a1 a2 al) (u1_at v10 v11 a0 a1 a2 al) (m1_at v9 v10 v11 a0 a1 a2 al hh hE)
      (n1_at v9 v10 v11 a0 a1 a2 al hh hE) K hk))
    (conv_row k0 k1 k2 cg hE (o := 512) (by omega) rfl rfl (b2_at v10 v11 a0 a1 a2 a3 al) (c2_at v10 v11 a0 a1 a2 a3 al) (u2_at v10 v11 a0 a1 a2 a3 al) (m2_at v9 v10 v11 a0 a1 a2 a3 al hh hE)
      (n2_at v9 v10 v11 a0 a1 a2 a3 al hh hE) K hk))
    (conv_row k0 k1 k2 cg hE (o := 768) (by omega) rfl rfl (b3_at v10 v11 a0 a1 a2 a3 al) (c3_at v10 v11 a0 a1 a2 a3 al) (u3_at v10 v11 a0 a1 a2 a3 al) (m3_at v9 v10 v11 a0 a1 a2 a3 al hh hE)
      (n3_at v9 v10 v11 a0 a1 a2 a3 al hh hE) K hk)

end Point

/-! ## From a point's blocks -/

/-- A load of a part of a whole block. -/
theorem ld2 {R C n k o p : ℕ} {e : EltTy} {sp : Space} {M : Memref sig .tc sp (D2 R C) e} (hM : M.IsWhole) (x : (D2 R C).Idx → Elt Ideal e) {inb}
    (ho : o + n ≤ R) (hp : p + k ≤ C) (r : Fin n) (q : Fin k) :
    View.readAt (Elt Ideal) M.view (Rect.unit (s := D2 R C) ![o, p] ![n, k] inb).toLoadRect (hM.unread x) (ix2 r q)
      = x (ix2 ⟨o + r.val, by omega⟩ ⟨p + q.val, by omega⟩) := by
  refine (congrFun (hM.read_unread (Val := Elt Ideal) x) ((Rect.unit (s := D2 R C) ![o, p] ![n, k] inb).toLoadRect.idx (ix2 r q))).trans ?_
  refine congrArg x (idx2_ext ?_ ?_)
  · show o + 1 * r.val = o + r.val; omega
  · show p + 1 * q.val = p + q.val; omega

/-- The same, at the entry `(a, b)` of the block. -/
theorem ldAt {R C n k o p : ℕ} {e : EltTy} {sp : Space} {M : Memref sig .tc sp (D2 R C) e} (hM : M.IsWhole) (x : (D2 R C).Idx → Elt Ideal e) {inb}
    (ho : o + n ≤ R) (hp : p + k ≤ C) (r : Fin n) (q : Fin k) (a : Fin R) (b : Fin C) (h0 : a.val = o + r.val) (h1 : b.val = p + q.val) :
    View.readAt (Elt Ideal) M.view (Rect.unit (s := D2 R C) ![o, p] ![n, k] inb).toLoadRect (hM.unread x) (ix2 r q) = x (ix2 a b) :=
  (ld2 hM x ho hp r q).trans (congrArg x (idx2_ext h0.symm h1.symm))

/-- A load of a row of the modulation. -/
theorem ld3 {o : ℕ} {sp : Space} {M : Memref sig .tc sp (D3 1 6 1024) .f32} (hM : M.IsWhole) (x : (D3 1 6 1024).Idx → EReal) {inb} (ho : o < 6) (k : Fin 1024) :
    (View.readAt (Elt Ideal) M.view (Rect.unit (s := D3 1 6 1024) ![0, o, 0] ![1, 1, 1024] inb).toLoadRect (hM.unread x) (ix3 (0 : Fin 1) (0 : Fin 1) k) : EReal)
      = x (ix3 (0 : Fin 1) ⟨o, ho⟩ k) := by
  refine (congrFun (hM.read_unread (Val := Elt Ideal) x) ((Rect.unit (s := D3 1 6 1024) ![0, o, 0] ![1, 1, 1024] inb).toLoadRect.idx (ix3 (0 : Fin 1) (0 : Fin 1) k))).trans ?_
  refine congrArg x (funext fun a => match a with
    | ⟨0, _⟩ => Fin.ext ?_
    | ⟨1, _⟩ => Fin.ext ?_
    | ⟨2, _⟩ => Fin.ext ?_)
  · show 0 + 1 * 0 = 0; omega
  · show o + 1 * 0 = o; omega
  · show 0 + 1 * k.val = k.val; omega

theorem pay2_at (v : FVec Ideal S1024x3072 .f32) (k : Fin 1024) (j : Fin 3072) : k0_pay2 (F := Ideal) v (ix2 k j) = v (ix2 k j) := by
  pointwise [k0_pay2]
theorem pay4_at (v : FVec Ideal S8x512 .f32) (r : Fin 8) (q : Fin 512) : k0_pay4 (F := Ideal) v (ix2 r q) = v (ix2 r q) := by
  pointwise [k0_pay4]
theorem pay5_at (v : FVec Ideal S1x1x1024 .f32) (k : Fin 1024) : k0_pay5 (F := Ideal) v (ix2 (0 : Fin 1) k) = v (ix3 (0 : Fin 1) (0 : Fin 1) k) := by
  pointwise [k0_pay5]
theorem pay6_at (v : FVec Ideal S1x1024 .f32) (k : Fin 1024) : k0_pay6 (F := Ideal) v (ix2 (0 : Fin 1) k) = v (ix2 (0 : Fin 1) k) := by
  pointwise [k0_pay6]

section Cases

variable (c : Dev nD) (i : grid0.Coords) (arg1 : Memref sig .tc .vmem S1024x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x3072 .f32) (harg4 : arg4.IsWhole) (arg5 : Memref sig .tc .vmem S3x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1024x1536 .f32) (harg8 : arg8.IsWhole) (arg9 : Memref sig .tc .vmem S1032x512 .f32) (harg9 : arg9.IsWhole) (arg10 : Memref sig .tc .vmem S1024x1024 .bf16) (harg10 : arg10.IsWhole) (arg11 : Memref sig .tc .vmem S2x256x1536 .f32) (harg11 : arg11.IsWhole) (arg12 : Memref sig .tc .vmem S1024x3072 .bf16) (harg12 : arg12.IsWhole)
  (x0 : FVec Ideal S1024x1024 .f32) (x1 : FVec Ideal S1x6x1024 .f32) (x2 : FVec Ideal S1x1024 .f32) (x3 : FVec Ideal S1024x3072 .f32) (x4 : FVec Ideal S3x512 .f32) (x5 : FVec Ideal S1x512 .f32) (xs0 : FVec Ideal S1032x512 .f32) (xs3 : FVec Ideal S1024x3072 .bf16)
  (X : ℕ → Fin 1024 → EReal) (W : Fin 1024 → Fin 3072 → EReal) (E : ℕ → Fin 512 → EReal)

/-- A point's projected rows, from its blocks. -/
def prow (r : ℕ) : Fin 3072 → EReal :=
  proj (modn (X r) (fun k => x2 (ix2 (0 : Fin 1) k)) (fun k => x1 (ix3 (0 : Fin 1) (1 : Fin 6) k)) (fun k => x1 (ix3 (0 : Fin 1) (0 : Fin 6) k))) W

/-- A point's rows of the convolution. -/
def crow (r : ℕ) : Fin 512 → EReal :=
  conv (gate (prow x1 x2 X W r)) (E (8 + r)) (E (7 + r)) (E (6 + r)) (fun n q => x4 (ix2 n q)) (fun q => x5 (ix2 (0 : Fin 1) q))

theorem sh_at (k : Fin 1024) : ldSh arg2 harg2 x1 (ix2 (0 : Fin 1) k) = x1 (ix3 (0 : Fin 1) (0 : Fin 6) k) :=
  (pay5_at _ k).trans (ld3 harg2 x1 (by omega) k)
theorem sc_at (k : Fin 1024) : ldSc arg2 harg2 x1 (ix3 (0 : Fin 1) (0 : Fin 1) k) = x1 (ix3 (0 : Fin 1) (1 : Fin 6) k) :=
  ld3 harg2 x1 (by omega) k
theorem g_at (k : Fin 1024) : ldG arg3 harg3 x2 (ix2 (0 : Fin 1) k) = x2 (ix2 (0 : Fin 1) k) :=
  (pay6_at _ k).trans ((ld2 harg3 x2 (by omega) (by omega) (0 : Fin 1) k).trans (congrArg x2 (idx2_ext rfl (Nat.zero_add _))))

theorem P_eq (r : ℕ) : P (ldSh arg2 harg2 x1) (ldG arg3 harg3 x2) (ldSc arg2 harg2 x1) X W r = prow x1 x2 X W r := by
  unfold P H prow
  simp only [sh_at, sc_at, g_at]

theorem tap_at (q : Fin 512) : ldK0 arg5 harg5 x4 (ix2 (0 : Fin 1) q) = x4 (ix2 (0 : Fin 3) q) ∧ ldK1 arg5 harg5 x4 (ix2 (0 : Fin 1) q) = x4 (ix2 (1 : Fin 3) q)
    ∧ ldK2 arg5 harg5 x4 (ix2 (0 : Fin 1) q) = x4 (ix2 (2 : Fin 3) q) :=
  ⟨(ld2 harg5 x4 (by omega) (by omega) (0 : Fin 1) q).trans (congrArg x4 (idx2_ext rfl (Nat.zero_add _))),
    (ld2 harg5 x4 (by omega) (by omega) (0 : Fin 1) q).trans (congrArg x4 (idx2_ext rfl (Nat.zero_add _))),
    (ld2 harg5 x4 (by omega) (by omega) (0 : Fin 1) q).trans (congrArg x4 (idx2_ext rfl (Nat.zero_add _)))⟩

theorem cg_at (q : Fin 512) : ldCg arg6 harg6 x5 (ix2 (0 : Fin 1) q) = x5 (ix2 (0 : Fin 1) q) :=
  (ld2 harg6 x5 (by omega) (by omega) (0 : Fin 1) q).trans (congrArg x5 (idx2_ext rfl (Nat.zero_add _)))

variable {x0 xs0 xs3 x3 X W E} {wl wr : FVec Ideal S1024x1536 .bf16} {halo : FVec Ideal S8x512 .f32}

/-! The weights and the halo of the cases -/

theorem wl_A (hW : ∀ k j, x3 (ix2 k j) = W k j) (k : Fin 1024) (j : Fin 1536) : ldWl arg4 harg4 arg12 x3 (ix2 k j) = W k ⟨0 + j.val, by omega⟩ := by
  refine (cov_at arg12.view _ _ _).trans ((hit2 arg12.view _ _ [] _ (ix2 k (⟨0 + j.val, by omega⟩ : Fin 3072)) ?_ ?_).trans ((pay2_at _ _ _).trans
    ((ld2 harg4 x3 (by omega) (by omega) k (⟨0 + j.val, by omega⟩ : Fin 3072)).trans ((congrArg x3 (idx2_ext ?_ ?_)).trans (hW k ⟨0 + j.val, by omega⟩)))))
  · show 0 + 1 * k.val = 0 + k.val; omega
  · show 0 + 1 * j.val = 0 + (0 + j.val); omega
  · show 0 + k.val = k.val; omega
  · show 0 + (0 + j.val) = 0 + j.val; omega

theorem wr_A (hW : ∀ k j, x3 (ix2 k j) = W k j) (k : Fin 1024) (j : Fin 1536) : ldWr arg4 harg4 arg12 x3 (ix2 k j) = W k ⟨1536 + j.val, by omega⟩ := by
  refine (cov_at arg12.view _ _ _).trans ((hit2 arg12.view _ _ [] _ (ix2 k (⟨1536 + j.val, by omega⟩ : Fin 3072)) ?_ ?_).trans ((pay2_at _ _ _).trans
    ((ld2 harg4 x3 (by omega) (by omega) k (⟨1536 + j.val, by omega⟩ : Fin 3072)).trans ((congrArg x3 (idx2_ext ?_ ?_)).trans (hW k ⟨1536 + j.val, by omega⟩)))))
  · show 0 + 1 * k.val = 0 + k.val; omega
  · show 1536 + 1 * j.val = 0 + (1536 + j.val); omega
  · show 0 + k.val = k.val; omega
  · show 0 + (1536 + j.val) = 1536 + j.val; omega

theorem wl_S (hW : ∀ k j, xs3 (ix2 k j) = W k j) (k : Fin 1024) (j : Fin 1536) : ldSl arg12 harg12 xs3 (ix2 k j) = W k ⟨0 + j.val, by omega⟩ :=
  (ldAt harg12 xs3 (by omega) (by omega) k j k ⟨0 + j.val, by omega⟩ (Nat.zero_add _).symm rfl).trans (hW k _)

theorem wr_S (hW : ∀ k j, xs3 (ix2 k j) = W k j) (k : Fin 1024) (j : Fin 1536) : ldSr arg12 harg12 xs3 (ix2 k j) = W k ⟨1536 + j.val, by omega⟩ :=
  (ldAt harg12 xs3 (by omega) (by omega) k j k ⟨1536 + j.val, by omega⟩ (Nat.zero_add _).symm rfl).trans (hW k _)

theorem halo_0 (h0 : ∀ n, n < 8 → ∀ q, E n q = 0) (r : Fin 8) (q : Fin 512) : k0_pay3 (F := Ideal) (ix2 r q) = E (0 + r.val) q :=
  (pay3_at r q).trans (h0 _ (by omega) q).symm

theorem halo_S (h0 : ∀ (r : Fin 8) q, xs0 (ix2 (⟨1024 + r.val, by omega⟩ : Fin 1032) q) = E r.val q) (r : Fin 8) (q : Fin 512) :
    ldHalo arg9 harg9 xs0 (ix2 r q) = E (0 + r.val) q :=
  (pay4_at _ r q).trans ((ldAt harg9 xs0 (by omega) (by omega) r q ⟨1024 + r.val, by omega⟩ q rfl (Nat.zero_add _).symm).trans
    ((h0 r q).trans (congrArg (E · q) (Nat.zero_add _).symm)))

/-! What a point leaves -/

variable (hX : ∀ (r : Fin 1024) k, x0 (ix2 r k) = X r.val k) (hE : ∀ r, r < 1024 → ∀ q, E (8 + r) q = cu (prow x1 x2 X W r) q)

include hX in
theorem x_row {o : ℕ} {inb} (ho : o + 256 ≤ 1024) (r : Fin 256) (k : Fin 1024) :
    View.readAt (Elt Ideal) arg1.view (Rect.unit (s := S1024x1024) ![o, 0] S256x1024.size inb).toLoadRect (harg1.unread x0) (ix2 r k) = X (o + r.val) k :=
  (ldAt harg1 x0 ho (by omega) r k ⟨o + r.val, by omega⟩ k rfl (Nat.zero_add _).symm).trans (hX _ k)

include hE in
theorem hE' : ∀ r, r < 1024 → ∀ q, E (8 + r) q = cu (P (ldSh arg2 harg2 x1) (ldG arg3 harg3 x2) (ldSc arg2 harg2 x1) X W r) q := fun r hr q => by
  rw [P_eq]
  exact hE r hr q

include hX hE in
theorem mix_row {v9 : View sig .tc .vmem S1032x512 .f32} {v10 : View sig .tc .vmem S1024x1024 .bf16} {v11 : View sig .tc .vmem S2x256x1536 .f32}
    {v7 : View sig .tc .vmem S1024x512 .bf16} (al : ∀ k (j : Fin 1536), wl (ix2 k j) = W k ⟨0 + j.val, by omega⟩) (hh : ∀ (r : Fin 8) q, halo (ix2 r q) = E (0 + r.val) q)
    (r : Fin 1024) (q : Fin 512) :
    rd v7 (mixL v9 v10 v11 (ldSh arg2 harg2 x1) (ldG arg3 harg3 x2) (ldSc arg2 harg2 x1) (ldX0 arg1 harg1 x0) (ldX1 arg1 harg1 x0) (ldX2 arg1 harg1 x0) (ldX3 arg1 harg1 x0) wl halo (ldK0 arg5 harg5 x4) (ldK1 arg5 harg5 x4) (ldK2 arg5 harg5 x4) (ldCg arg6 harg6 x5)) (ix2 r q) = crow x1 x2 x4 x5 X W E r.val q := by
  refine (mixL_rows v9 v10 v11 v7 _ _ _ _ (x_row arg1 harg1 hX (by omega)) (x_row arg1 harg1 hX (by omega)) (x_row arg1 harg1 hX (by omega))
    (x_row arg1 harg1 hX (by omega)) al hh (hE' arg2 harg2 arg3 harg3 x1 x2 hE) (fun n q => x4 (ix2 n q)) (tap_at arg5 harg5 x4) r q r.isLt).trans ?_
  unfold mixRow crow
  simp only [P_eq, cg_at]

include hX in
theorem qkv_row {v10 : View sig .tc .vmem S1024x1024 .bf16} {v8 : View sig .tc .vmem S1024x1536 .f32} (ar : ∀ k (j : Fin 1536), wr (ix2 k j) = W k ⟨1536 + j.val, by omega⟩)
    (r : Fin 1024) (j : Fin 1536) :
    rd v8 (qkvL v10 (ldSh arg2 harg2 x1) (ldG arg3 harg3 x2) (ldSc arg2 harg2 x1) (ldX0 arg1 harg1 x0) (ldX1 arg1 harg1 x0) (ldX2 arg1 harg1 x0) (ldX3 arg1 harg1 x0) wr) (ix2 r j) = qkv (prow x1 x2 X W r.val) j := by
  refine (qkvL_rows v10 v8 (x_row arg1 harg1 hX (by omega)) (x_row arg1 harg1 hX (by omega)) (x_row arg1 harg1 hX (by omega))
    (x_row arg1 harg1 hX (by omega)) ar r j r.isLt).trans ?_
  simp only [P_eq]

include hX hE in
theorem ext_rows {v9 : View sig .tc .vmem S1032x512 .f32} {v10 : View sig .tc .vmem S1024x1024 .bf16} {v11 : View sig .tc .vmem S2x256x1536 .f32}
    (al : ∀ k (j : Fin 1536), wl (ix2 k j) = W k ⟨0 + j.val, by omega⟩) (hh : ∀ (r : Fin 8) q, halo (ix2 r q) = E (0 + r.val) q)
    (r : Fin 1032) (q : Fin 512) :
    rd v9 (e4 v10 v11 (ldSh arg2 harg2 x1) (ldG arg3 harg3 x2) (ldSc arg2 harg2 x1) (ldX0 arg1 harg1 x0) (ldX1 arg1 harg1 x0) (ldX2 arg1 harg1 x0) (ldX3 arg1 harg1 x0) wl halo) (ix2 r q) = E r.val q :=
  e4_rows v9 v10 v11 (x_row arg1 harg1 hX (by omega)) (x_row arg1 harg1 hX (by omega)) (x_row arg1 harg1 hX (by omega))
    (x_row arg1 harg1 hX (by omega)) al hh (hE' arg2 harg2 arg3 harg3 x1 x2 hE) r q r.isLt

include hX hE in
theorem mix_A (hc0 : cond0_0 i) (hc1 : cond0_1 i) (hc2 : ¬cond0_2 i) (hW : ∀ k j, x3 (ix2 k j) = W k j) (h0 : ∀ n, n < 8 → ∀ q, E n q = 0) (r : Fin 1024) (q : Fin 512) :
    out0_A_6 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 (ix2 r q) = crow x1 x2 x4 x5 X W E r.val q :=
  (congrArg (fun L => rd VO0_6 L (ix2 r q)) (mixA c i arg1 harg1 arg2 harg2 arg3 harg3 arg4 harg4 arg5 harg5 arg6 harg6 arg7 harg7 arg8 harg8 arg9 harg9 arg10 harg10 arg11 harg11 arg12 harg12 x0 x1 x2 x3 x4 x5 hc0 hc1 hc2)).trans
    (mix_row arg1 harg1 arg2 harg2 arg3 harg3 arg5 harg5 arg6 harg6 x1 x2 x4 x5 hX hE (wl_A arg4 harg4 arg12 hW) (halo_0 h0) r q)

include hX in
theorem qkv_A (hc0 : cond0_0 i) (hc1 : cond0_1 i) (hc2 : ¬cond0_2 i) (hW : ∀ k j, x3 (ix2 k j) = W k j) (r : Fin 1024) (j : Fin 1536) :
    out0_A_7 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 (ix2 r j) = qkv (prow x1 x2 X W r.val) j :=
  (congrArg (fun L => rd VO0_7 L (ix2 r j)) (qkvA c i arg1 harg1 arg2 harg2 arg3 harg3 arg4 harg4 arg5 harg5 arg6 harg6 arg7 harg7 arg8 harg8 arg9 harg9 arg10 harg10 arg11 harg11 arg12 harg12 x0 x1 x2 x3 x4 x5 hc0 hc1 hc2)).trans (qkv_row arg1 harg1 arg2 harg2 arg3 harg3 x1 x2 hX (wr_A arg4 harg4 arg12 hW) r j)

include hX hE in
theorem ext_A (hc0 : cond0_0 i) (hc1 : cond0_1 i) (hc2 : ¬cond0_2 i) (hW : ∀ k j, x3 (ix2 k j) = W k j) (h0 : ∀ n, n < 8 → ∀ q, E n q = 0) (r : Fin 1032) (q : Fin 512) :
    sout0_A_0 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 (ix2 r q) = E r.val q :=
  (congrArg (fun L => rd VS0_0 L (ix2 r q)) (extA c i arg1 harg1 arg2 harg2 arg3 harg3 arg4 harg4 arg5 harg5 arg6 harg6 arg7 harg7 arg8 harg8 arg9 harg9 arg10 harg10 arg11 harg11 arg12 harg12 x0 x1 x2 x3 x4 x5 hc0 hc1 hc2)).trans
    (ext_rows arg1 harg1 arg2 harg2 arg3 harg3 x1 x2 hX hE (wl_A arg4 harg4 arg12 hW) (halo_0 h0) r q)

theorem w_A (hc0 : cond0_0 i) (hc1 : cond0_1 i) (hc2 : ¬cond0_2 i) (hW : ∀ k j, x3 (ix2 k j) = W k j) (k : Fin 1024) (j : Fin 3072) :
    sout0_A_3 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 (ix2 k j) = W k j := by
  refine (congrArg (fun L => rd VS0_3 L (ix2 k j)) (wA c i arg1 harg1 arg2 harg2 arg3 harg3 arg4 harg4 arg5 harg5 arg6 harg6 arg7 harg7 arg8 harg8 arg9 harg9 arg10 harg10 arg11 harg11 arg12 harg12 x0 x1 x2 x3 x4 x5 hc0 hc1 hc2)).trans ?_
  refine (hit2 VS0_3 _ _ [] _ (ix2 k j) (Nat.zero_add _).symm (Nat.zero_add _).symm).trans ((pay2_at _ _ _).trans
    ((ld2 harg4 x3 (by omega) (by omega) k j).trans ((congrArg x3 (idx2_ext (Nat.zero_add _) (Nat.zero_add _))).trans (hW k j))))

include hX hE in
theorem mix_B (hc0 : ¬cond0_0 i) (hc1 : ¬cond0_1 i) (hc2 : cond0_2 i) (hW : ∀ k j, xs3 (ix2 k j) = W k j) (h0 : ∀ (r : Fin 8) q, xs0 (ix2 (⟨1024 + r.val, by omega⟩ : Fin 1032) q) = E r.val q) (r : Fin 1024) (q : Fin 512) :
    out0_B_6 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs3 (ix2 r q) = crow x1 x2 x4 x5 X W E r.val q :=
  (congrArg (fun L => rd VO0_6 L (ix2 r q)) (mixB c i arg1 harg1 arg2 harg2 arg3 harg3 arg4 harg4 arg5 harg5 arg6 harg6 arg7 harg7 arg8 harg8 arg9 harg9 arg10 harg10 arg11 harg11 arg12 harg12 x0 x1 x2 x3 x4 x5 xs0 xs3 hc0 hc1 hc2)).trans
    (mix_row arg1 harg1 arg2 harg2 arg3 harg3 arg5 harg5 arg6 harg6 x1 x2 x4 x5 hX hE (wl_S arg12 harg12 hW) (halo_S arg9 harg9 h0) r q)

include hX in
theorem qkv_B (hc0 : ¬cond0_0 i) (hc1 : ¬cond0_1 i) (hc2 : cond0_2 i) (hW : ∀ k j, xs3 (ix2 k j) = W k j) (r : Fin 1024) (j : Fin 1536) :
    out0_B_7 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs3 (ix2 r j) = qkv (prow x1 x2 X W r.val) j :=
  (congrArg (fun L => rd VO0_7 L (ix2 r j)) (qkvB c i arg1 harg1 arg2 harg2 arg3 harg3 arg4 harg4 arg5 harg5 arg6 harg6 arg7 harg7 arg8 harg8 arg9 harg9 arg10 harg10 arg11 harg11 arg12 harg12 x0 x1 x2 x3 x4 x5 xs0 xs3 hc0 hc1 hc2)).trans (qkv_row arg1 harg1 arg2 harg2 arg3 harg3 x1 x2 hX (wr_S arg12 harg12 hW) r j)

include hX hE in
theorem mix_C (hc0 : ¬cond0_0 i) (hc1 : cond0_1 i) (hc2 : ¬cond0_2 i) (hW : ∀ k j, xs3 (ix2 k j) = W k j) (h0 : ∀ n, n < 8 → ∀ q, E n q = 0) (r : Fin 1024) (q : Fin 512) :
    out0_C_6 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs3 (ix2 r q) = crow x1 x2 x4 x5 X W E r.val q :=
  (congrArg (fun L => rd VO0_6 L (ix2 r q)) (mixC c i arg1 harg1 arg2 harg2 arg3 harg3 arg4 harg4 arg5 harg5 arg6 harg6 arg7 harg7 arg8 harg8 arg9 harg9 arg10 harg10 arg11 harg11 arg12 harg12 x0 x1 x2 x3 x4 x5 xs3 hc0 hc1 hc2)).trans
    (mix_row arg1 harg1 arg2 harg2 arg3 harg3 arg5 harg5 arg6 harg6 x1 x2 x4 x5 hX hE (wl_S arg12 harg12 hW) (halo_0 h0) r q)

include hX in
theorem qkv_C (hc0 : ¬cond0_0 i) (hc1 : cond0_1 i) (hc2 : ¬cond0_2 i) (hW : ∀ k j, xs3 (ix2 k j) = W k j) (r : Fin 1024) (j : Fin 1536) :
    out0_C_7 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs3 (ix2 r j) = qkv (prow x1 x2 X W r.val) j :=
  (congrArg (fun L => rd VO0_7 L (ix2 r j)) (qkvC c i arg1 harg1 arg2 harg2 arg3 harg3 arg4 harg4 arg5 harg5 arg6 harg6 arg7 harg7 arg8 harg8 arg9 harg9 arg10 harg10 arg11 harg11 arg12 harg12 x0 x1 x2 x3 x4 x5 xs3 hc0 hc1 hc2)).trans (qkv_row arg1 harg1 arg2 harg2 arg3 harg3 x1 x2 hX (wr_S arg12 harg12 hW) r j)

include hX hE in
theorem ext_C (hc0 : ¬cond0_0 i) (hc1 : cond0_1 i) (hc2 : ¬cond0_2 i) (hW : ∀ k j, xs3 (ix2 k j) = W k j) (h0 : ∀ n, n < 8 → ∀ q, E n q = 0) (r : Fin 1032) (q : Fin 512) :
    sout0_C_0 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs3 (ix2 r q) = E r.val q :=
  (congrArg (fun L => rd VS0_0 L (ix2 r q)) (extC c i arg1 harg1 arg2 harg2 arg3 harg3 arg4 harg4 arg5 harg5 arg6 harg6 arg7 harg7 arg8 harg8 arg9 harg9 arg10 harg10 arg11 harg11 arg12 harg12 x0 x1 x2 x3 x4 x5 xs3 hc0 hc1 hc2)).trans
    (ext_rows arg1 harg1 arg2 harg2 arg3 harg3 x1 x2 hX hE (wl_S arg12 harg12 hW) (halo_0 h0) r q)

theorem w_B (hc0 : ¬cond0_0 i) (hc1 : ¬cond0_1 i) (hc2 : cond0_2 i) (hW : ∀ k j, xs3 (ix2 k j) = W k j) (k : Fin 1024) (j : Fin 3072) :
    sout0_B_3 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs3 (ix2 k j) = W k j := hW k j

theorem w_C (hc0 : ¬cond0_0 i) (hc1 : cond0_1 i) (hc2 : ¬cond0_2 i) (hW : ∀ k j, xs3 (ix2 k j) = W k j) (k : Fin 1024) (j : Fin 3072) :
    sout0_C_3 (F := Ideal) c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs3 (ix2 k j) = W k j := hW k j

end Cases

end Cert.Kernel3Ideal.InProjPoint

end
-- ==== Proof.InProjGrid.lean ====
/-
  The grid of the input projection: 16 points, one per 1024 rows, two per batch element. A point's blocks are parts of the
  arguments; the weights are kept from the first point on; and the last rows a batch element's first point convolves over are
  kept for its second. So the two results are functions of the arguments.
-/
module

public import proofs.«01_k».proof.Proof.InProjPoint
public import proofs.«01_k».proof.Proof.Gen.Kernel3Ideal.Value
public import Idealize.ShloMosaic.Lib.IdealHost

@[expose] public section

set_option maxRecDepth 16384

noncomputable section

namespace Cert.Kernel3Ideal.InProjGrid

open Cert.Kernel3Ideal Cert.Kernel3Ideal.Gen Cert.Kernel3Ideal.Value
open Idealize.ShloMosaic Idealize.ShloMosaic.TcCoe Idealize.SL.Sem
open Cert.Ffn Cert.InProj Cert.Layout Cert.Kernel3Ideal.InProjPoint
open scoped BigOperators

variable (m : (ℓ : Loc nD τ sig) → Buf (Elt Ideal) ℓ) (c : Dev nD)

/-- The layer's input. -/
abbrev X : FVec Ideal S8x2048x1024 .f32 := m ((c : Thread nD τ).loc main_arg0)
/-- The modulation. -/
abbrev MD : FVec Ideal S8x6144 .f32 := m ((c : Thread nD τ).loc main_arg1)
/-- The first norm's gains. -/
abbrev G1 : FVec Ideal S1024 .f32 := m ((c : Thread nD τ).loc main_arg2)
/-- The input projection. -/
abbrev WI : FVec Ideal S1024x3072 .f32 := m ((c : Thread nD τ).loc main_arg3)
/-- The convolution's taps. -/
abbrev CW : FVec Ideal S3x512 .f32 := m ((c : Thread nD τ).loc main_arg4)
/-- The convolution's gains. -/
abbrev CG : FVec Ideal S512 .f32 := m ((c : Thread nD τ).loc main_arg5)

/-! ## The reshaped arguments -/

theorem V_x : (V m c main_v0 : FVec Ideal S16384x1024 .f32) = shapeCast S16384x1024 (X m c) shapeCasts_S8x2048x1024_S16384x1024 := by
  show StableHlo.after hostOps0 (fun b => m (c, b)) (main_v0 : DevRef τ sig) = _
  after_results
  rfl
theorem V_md : (V m c main_v1 : FVec Ideal S8x6x1024 .f32) = shapeCast S8x6x1024 (MD m c) shapeCasts_S8x6144_S8x6x1024 := by
  show StableHlo.after hostOps0 (fun b => m (c, b)) (main_v1 : DevRef τ sig) = _
  after_results
  rfl
theorem V_g1 : (V m c main_v2 : FVec Ideal S1x1024 .f32) = shapeCast S1x1024 (G1 m c) shapeCasts_S1024_S1x1024 := by
  show StableHlo.after hostOps0 (fun b => m (c, b)) (main_v2 : DevRef τ sig) = _
  after_results
  rfl
theorem V_cg : (V m c main_v3 : FVec Ideal S1x512 .f32) = shapeCast S1x512 (CG m c) shapeCasts_S512_S1x512 := by
  show StableHlo.after hostOps0 (fun b => m (c, b)) (main_v3 : DevRef τ sig) = _
  after_results
  rfl

theorem x_at (b : Fin 8) (t : Fin 2048) (j : Fin 1024) :
    shapeCast S16384x1024 (X m c) shapeCasts_S8x2048x1024_S16384x1024 (ix2 ⟨b.val * 2048 + t.val, by omega⟩ j) = X m c (ix3 b t j) := by
  pointwise []
theorem md_at (b : Fin 8) (n : Fin 6) (j : Fin 1024) :
    shapeCast S8x6x1024 (MD m c) shapeCasts_S8x6144_S8x6x1024 (ix3 b n j) = MD m c (ix2 b ⟨n.val * 1024 + j.val, by omega⟩) := by
  pointwise []
theorem g1_at (j : Fin 1024) : shapeCast S1x1024 (G1 m c) shapeCasts_S1024_S1x1024 (ix2 (0 : Fin 1) j) = G1 m c (ix1 j) := by
  pointwise []
theorem cg_at (j : Fin 512) : shapeCast S1x512 (CG m c) shapeCasts_S512_S1x512 (ix2 (0 : Fin 1) j) = CG m c (ix1 j) := by
  pointwise []

/-! ## The blocks of a point -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 3) = t.val / 2 ∧ win0_1.index t (1 : Fin 3) = 0 ∧ win0_1.index t (2 : Fin 3) = 0 :=
  (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = t.val ∧ win0_6.index t (1 : Fin 2) = 0 := (by decide +kernel : ∀ t : Fin grid0.N, _)
theorem index7 : ∀ t : Fin cfg0.N, win0_7.index t (0 : Fin 2) = t.val ∧ win0_7.index t (1 : Fin 2) = 0 := (by decide +kernel : ∀ t : Fin grid0.N, _)

theorem point_lt (t : Fin cfg0.N) : t.val < 16 := t.isLt

/-- The batch element of a point. -/
abbrev bat (t : Fin cfg0.N) : Fin 8 := ⟨t.val / 2, by have := point_lt t; omega⟩
/-- The token of a row of a point. -/
abbrev pos (t : Fin cfg0.N) (r : Fin 1024) : Fin 2048 := ⟨t.val % 2 * 1024 + r.val, by omega⟩

theorem blk0 (t : Fin cfg0.N) (r k : Fin 1024) :
    (iblk m c 0 t : FVec Ideal S1024x1024 .f32) (ix2 r k) = X m c (ix3 (bat t) (pos t r) k) := by
  obtain ⟨e0, e1⟩ := index0 t
  rw [← x_at, ← V_x]
  show (V m c main_v0 : FVec Ideal S16384x1024 .f32) (((cfg0.win 0).blk t).view.emb (ix2 r k)) = _
  refine congrArg (V m c main_v0 : FVec Ideal S16384x1024 .f32) (idx2_ext ?_ ?_)
  · show win0_0.index t (0 : Fin 2) * 1024 + 1 * r.val = t.val / 2 * 2048 + (t.val % 2 * 1024 + r.val); omega
  · show win0_0.index t (1 : Fin 2) * 1024 + 1 * k.val = k.val; omega

theorem blk1 (t : Fin cfg0.N) (n : Fin 6) (k : Fin 1024) :
    (iblk m c 1 t : FVec Ideal S1x6x1024 .f32) (ix3 (0 : Fin 1) n k) = MD m c (ix2 (bat t) ⟨n.val * 1024 + k.val, by omega⟩) := by
  obtain ⟨e0, e1, e2⟩ := index1 t
  rw [← md_at, ← V_md]
  show (V m c main_v1 : FVec Ideal S8x6x1024 .f32) (((cfg0.win 1).blk t).view.emb (ix3 (0 : Fin 1) n k)) = _
  refine congrArg (V m c main_v1 : FVec Ideal S8x6x1024 .f32) (funext fun a => match a with
    | ⟨0, _⟩ => Fin.ext ?_
    | ⟨1, _⟩ => Fin.ext ?_
    | ⟨2, _⟩ => Fin.ext ?_)
  · show win0_1.index t (0 : Fin 3) * 1 + 1 * 0 = t.val / 2; omega
  · show win0_1.index t (1 : Fin 3) * 6 + 1 * n.val = n.val; omega
  · show win0_1.index t (2 : Fin 3) * 1024 + 1 * k.val = k.val; omega

theorem blk2 (t : Fin cfg0.N) (k : Fin 1024) : (iblk m c 2 t : FVec Ideal S1x1024 .f32) (ix2 (0 : Fin 1) k) = G1 m c (ix1 k) := by
  obtain ⟨e0, e1⟩ := index2 t
  rw [← g1_at, ← V_g1]
  show (V m c main_v2 : FVec Ideal S1x1024 .f32) (((cfg0.win 2).blk t).view.emb (ix2 (0 : Fin 1) k)) = _
  refine congrArg (V m c main_v2 : FVec Ideal S1x1024 .f32) (idx2_ext ?_ ?_)
  · show win0_2.index t (0 : Fin 2) * 1 + 1 * 0 = 0; omega
  · show win0_2.index t (1 : Fin 2) * 1024 + 1 * k.val = k.val; omega

theorem blk5 (t : Fin cfg0.N) (k : Fin 512) : (iblk m c 5 t : FVec Ideal S1x512 .f32) (ix2 (0 : Fin 1) k) = CG m c (ix1 k) := by
  obtain ⟨e0, e1⟩ := index5 t
  rw [← cg_at, ← V_cg]
  show (V m c main_v3 : FVec Ideal S1x512 .f32) (((cfg0.win 5).blk t).view.emb (ix2 (0 : Fin 1) k)) = _
  refine congrArg (V m c main_v3 : FVec Ideal S1x512 .f32) (idx2_ext ?_ ?_)
  · show win0_5.index t (0 : Fin 2) * 1 + 1 * 0 = 0; omega
  · show win0_5.index t (1 : Fin 2) * 512 + 1 * k.val = k.val; omega

theorem blk3 (t : Fin cfg0.N) (i : Fin 1024) (j : Fin 3072) : (iblk m c 3 t : FVec Ideal S1024x3072 .f32) (ix2 i j) = WI m c (ix2 i j) := by
  obtain ⟨e0, e1⟩ := index3 t
  show (V m c main_arg3 : FVec Ideal S1024x3072 .f32) (((cfg0.win 3).blk t).view.emb (ix2 i j)) = _
  rw [V_main_arg3]
  refine congrArg (WI m c) (idx2_ext ?_ ?_)
  · show win0_3.index t (0 : Fin 2) * 1024 + 1 * i.val = i.val; omega
  · show win0_3.index t (1 : Fin 2) * 3072 + 1 * j.val = j.val; omega

theorem blk4 (t : Fin cfg0.N) (i : Fin 3) (j : Fin 512) : (iblk m c 4 t : FVec Ideal S3x512 .f32) (ix2 i j) = CW m c (ix2 i j) := by
  obtain ⟨e0, e1⟩ := index4 t
  show (V m c main_arg4 : FVec Ideal S3x512 .f32) (((cfg0.win 4).blk t).view.emb (ix2 i j)) = _
  rw [V_main_arg4]
  refine congrArg (CW m c) (idx2_ext ?_ ?_)
  · show win0_4.index t (0 : Fin 2) * 3 + 1 * i.val = i.val; omega
  · show win0_4.index t (1 : Fin 2) * 512 + 1 * j.val = j.val; omega

/-! ## The rows of a point -/

/-- The projected rows of a batch element. -/
def rowsOf (b : Fin 8) : ℕ → Fin 3072 → EReal := seq fun t => proj (modn (fun k => X m c (ix3 b t k)) (fun k => G1 m c (ix1 k))
  (fun k => MD m c (ix2 b ⟨1 * 1024 + k.val, by omega⟩)) (fun k => MD m c (ix2 b ⟨0 * 1024 + k.val, by omega⟩))) (fun k j => WI m c (ix2 k j))

/-- The input's rows at a point. -/
def xrow (t : Fin cfg0.N) (n : ℕ) (k : Fin 1024) : EReal := X m c (ix3 (bat t) ⟨(t.val % 2 * 1024 + n) % 2048, Nat.mod_lt _ (by decide)⟩ k)

/-- The weights. -/
def wrow (k : Fin 1024) (j : Fin 3072) : EReal := WI m c (ix2 k j)

/-- The rows a point convolves over. -/
def erow (t : Fin cfg0.N) (n : ℕ) : Fin 512 → EReal := ext (rowsOf m c (bat t)) (t.val % 2 * 1024 + n)

theorem hX (t : Fin cfg0.N) (r k : Fin 1024) : (iblk m c 0 t : FVec Ideal S1024x1024 .f32) (ix2 r k) = xrow m c t r.val k := by
  rw [blk0]
  unfold xrow
  refine congrArg (fun p => X m c (ix3 (bat t) p k)) (Fin.ext ?_)
  show t.val % 2 * 1024 + r.val = (t.val % 2 * 1024 + r.val) % 2048
  omega

theorem hW (t : Fin cfg0.N) (k : Fin 1024) (j : Fin 3072) : (iblk m c 3 t : FVec Ideal S1024x3072 .f32) (ix2 k j) = wrow m c k j := blk3 m c t k j

theorem prow_eq (t : Fin cfg0.N) {r : ℕ} (hr : r < 1024) :
    prow (iblk m c 1 t : FVec Ideal S1x6x1024 .f32) (iblk m c 2 t : FVec Ideal S1x1024 .f32) (xrow m c t) (wrow m c) r = rowsOf m c (bat t) (t.val % 2 * 1024 + r) := by
  refine Eq.trans ?_ (dif_pos (by omega : t.val % 2 * 1024 + r < 2048)).symm
  unfold prow
  simp only [blk1, blk2]
  have e : xrow m c t r = fun k => X m c (ix3 (bat t) ⟨t.val % 2 * 1024 + r, by omega⟩ k) := by
    funext k
    unfold xrow
    refine congrArg (fun p => X m c (ix3 (bat t) p k)) (Fin.ext ?_)
    show (t.val % 2 * 1024 + r) % 2048 = t.val % 2 * 1024 + r
    omega
  rw [e]
  rfl

theorem hE (t : Fin cfg0.N) : ∀ r, r < 1024 → ∀ q, erow m c t (8 + r) q
    = cu (prow (iblk m c 1 t : FVec Ideal S1x6x1024 .f32) (iblk m c 2 t : FVec Ideal S1x1024 .f32) (xrow m c t) (wrow m c) r) q := by
  intro r hr q
  rw [prow_eq m c t hr]
  unfold erow
  rw [show t.val % 2 * 1024 + (8 + r) = 8 + (t.val % 2 * 1024 + r) by omega, ext_row]

theorem halo_even (t : Fin cfg0.N) (h : t.val % 2 = 0) : ∀ n, n < 8 → ∀ q, erow m c t n q = 0 := by
  intro n hn q
  unfold erow
  rw [h, Nat.zero_mul, Nat.zero_add]
  exact ext_halo _ hn q

/-- The weights are kept from the first point on. -/
theorem weights (n : ℕ) : ∀ t : Fin cfg0.N, t.val = n → ∀ (k : Fin 1024) (j : Fin 3072), (outsAt0 m c t.val t.isLt).2.2.2 (ix2 k j) = wrow m c k j := by
  induction n with
  | zero =>
    intro t ht k j
    have h0 : t.val % 16 = 0 := by omega
    have h1 : t.val % 2 = 0 := by omega
    have h2 : ¬t.val % 2 = 1 := by omega
    refine Eq.trans ?_ (w_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (x0 := iblk m c 0 t) (iblk m c 1 t) (iblk m c 2 t) (iblk m c 4 t) (iblk m c 5 t) ((hcond0_0 t).mpr h0) ((hcond0_1 t).mpr h1) (fun h => h2 ((hcond0_2 t).mp h)) (hW m c t) k j)
    rw [outsAt0_A m c t h0 h1 h2]
  | succ n ih =>
    intro t ht k j
    have hb := point_lt t
    have e := ih ⟨t.val - 1, Nat.lt_of_le_of_lt (Nat.sub_le _ _) t.isLt⟩ (by show t.val - 1 = n; omega) k j
    by_cases h1 : t.val % 2 = 0
    · rw [outsAt0_C m c t (by omega) h1 (by omega)]
      exact e
    · rw [outsAt0_B m c t (by omega) h1 (by omega)]
      exact e

/-- The weights a later point finds. -/
theorem found (t : Fin cfg0.N) (k : Fin 1024) (j : Fin 3072) :
    (outsAt0 m c (t.val - 1) (Nat.lt_of_le_of_lt (Nat.sub_le _ _) t.isLt)).2.2.2 (ix2 k j) = wrow m c k j :=
  weights m c (t.val - 1) ⟨t.val - 1, Nat.lt_of_le_of_lt (Nat.sub_le _ _) t.isLt⟩ rfl k j

/-- The rows a batch element's first point leaves. -/
theorem kept (t : Fin cfg0.N) (h1 : t.val % 2 = 0) (r : Fin 1032) (q : Fin 512) : (outsAt0 m c t.val t.isLt).2.2.1 (ix2 r q) = erow m c t r.val q := by
  have h2 : ¬t.val % 2 = 1 := by omega
  by_cases h0 : t.val % 16 = 0
  · refine Eq.trans ?_ (ext_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 1 t) (iblk m c 2 t) (iblk m c 4 t) (iblk m c 5 t) (hX m c t) (hE m c t) ((hcond0_0 t).mpr h0) ((hcond0_1 t).mpr h1) (fun h => h2 ((hcond0_2 t).mp h)) (hW m c t) (halo_even m c t h1) r q)
    rw [outsAt0_A m c t h0 h1 h2]
  · refine Eq.trans ?_ (ext_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (x3 := iblk m c 3 t) (iblk m c 1 t) (iblk m c 2 t) (iblk m c 4 t) (iblk m c 5 t) (hX m c t) (hE m c t) (fun h => h0 ((hcond0_0 t).mp h)) ((hcond0_1 t).mpr h1) (fun h => h2 ((hcond0_2 t).mp h)) (found m c t) (halo_even m c t h1) r q)
    rw [outsAt0_C m c t h0 h1 h2]

/-- … which are its second point's halo. -/
theorem halo_odd (t : Fin cfg0.N) (h : t.val % 2 = 1) (r : Fin 8) (q : Fin 512) :
    (outsAt0 m c (t.val - 1) (Nat.lt_of_le_of_lt (Nat.sub_le _ _) t.isLt)).2.2.1 (ix2 (⟨1024 + r.val, by omega⟩ : Fin 1032) q) = erow m c t r.val q := by
  refine (kept m c ⟨t.val - 1, Nat.lt_of_le_of_lt (Nat.sub_le _ _) t.isLt⟩ (by show (t.val - 1) % 2 = 0; omega) _ q).trans ?_
  unfold erow
  have eb : bat (⟨t.val - 1, Nat.lt_of_le_of_lt (Nat.sub_le _ _) t.isLt⟩ : Fin cfg0.N) = bat t := Fin.ext (by show (t.val - 1) / 2 = t.val / 2; omega)
  rw [eb]
  refine congrArg (fun n => ext (rowsOf m c (bat t)) n q) ?_
  show (t.val - 1) % 2 * 1024 + (1024 + r.val) = t.val % 2 * 1024 + r.val
  omega

/-- A row of the convolution. -/
def mixRow (b : Fin 8) (n : ℕ) : Fin 512 → EReal := tok (rowsOf m c b) (fun n k => CW m c (ix2 n k)) (fun k => CG m c (ix1 k)) n

/-- A row of the attention's part. -/
def qkvRow (b : Fin 8) (n : ℕ) : Fin 1536 → EReal := qkv (rowsOf m c b n)

theorem crow_eq (t : Fin cfg0.N) (r : Fin 1024) :
    crow (iblk m c 1 t : FVec Ideal S1x6x1024 .f32) (iblk m c 2 t : FVec Ideal S1x1024 .f32) (iblk m c 4 t : FVec Ideal S3x512 .f32)
      (iblk m c 5 t : FVec Ideal S1x512 .f32) (xrow m c t) (wrow m c) (erow m c t) r.val = mixRow m c (bat t) (pos t r).val := by
  unfold crow mixRow tok erow
  simp only [blk4, blk5]
  rw [prow_eq m c t r.isLt]
  show conv _ (ext _ (t.val % 2 * 1024 + (8 + r.val))) (ext _ (t.val % 2 * 1024 + (7 + r.val))) (ext _ (t.val % 2 * 1024 + (6 + r.val))) _ _
    = conv _ (ext _ (8 + (t.val % 2 * 1024 + r.val))) (ext _ (7 + (t.val % 2 * 1024 + r.val))) (ext _ (6 + (t.val % 2 * 1024 + r.val))) _ _
  rw [Nat.add_left_comm _ 8, Nat.add_left_comm _ 7, Nat.add_left_comm _ 6]

/-- What a point computes of the convolution. -/
theorem point6 (t : Fin cfg0.N) (r : Fin 1024) (q : Fin 512) : (outsAt0 m c t.val t.isLt).1 (ix2 r q) = mixRow m c (bat t) (pos t r).val q := by
  rw [← crow_eq]
  by_cases h1 : t.val % 2 = 0
  · have h2 : ¬t.val % 2 = 1 := by omega
    by_cases h0 : t.val % 16 = 0
    · refine Eq.trans ?_ (mix_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 1 t) (iblk m c 2 t) (iblk m c 4 t) (iblk m c 5 t) (hX m c t) (hE m c t) ((hcond0_0 t).mpr h0) ((hcond0_1 t).mpr h1) (fun h => h2 ((hcond0_2 t).mp h)) (hW m c t) (halo_even m c t h1) r q)
      rw [outsAt0_A m c t h0 h1 h2]
    · refine Eq.trans ?_ (mix_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (x3 := iblk m c 3 t) (iblk m c 1 t) (iblk m c 2 t) (iblk m c 4 t) (iblk m c 5 t) (hX m c t) (hE m c t) (fun h => h0 ((hcond0_0 t).mp h)) ((hcond0_1 t).mpr h1) (fun h => h2 ((hcond0_2 t).mp h)) (found m c t) (halo_even m c t h1) r q)
      rw [outsAt0_C m c t h0 h1 h2]
  · have h2 : t.val % 2 = 1 := by omega
    have h0 : ¬t.val % 16 = 0 := by omega
    refine Eq.trans ?_ (mix_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (x3 := iblk m c 3 t) (iblk m c 1 t) (iblk m c 2 t) (iblk m c 4 t) (iblk m c 5 t) (hX m c t) (hE m c t) (fun h => h0 ((hcond0_0 t).mp h)) (fun h => h1 ((hcond0_1 t).mp h)) ((hcond0_2 t).mpr h2) (found m c t) (halo_odd m c t h2) r q)
    rw [outsAt0_B m c t h0 h1 h2]

/-- What a point computes of the attention's part. -/
theorem point7 (t : Fin cfg0.N) (r : Fin 1024) (j : Fin 1536) : (outsAt0 m c t.val t.isLt).2.1 (ix2 r j) = qkvRow m c (bat t) (pos t r).val j := by
  refine Eq.trans ?_ (congrArg (fun p => qkv p j) (prow_eq m c t r.isLt))
  by_cases h1 : t.val % 2 = 0
  · have h2 : ¬t.val % 2 = 1 := by omega
    by_cases h0 : t.val % 16 = 0
    · refine Eq.trans ?_ (qkv_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 1 t) (iblk m c 2 t) (iblk m c 4 t) (iblk m c 5 t) (hX m c t) ((hcond0_0 t).mpr h0) ((hcond0_1 t).mpr h1) (fun h => h2 ((hcond0_2 t).mp h)) (hW m c t) r j)
      rw [outsAt0_A m c t h0 h1 h2]
    · refine Eq.trans ?_ (qkv_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (x3 := iblk m c 3 t) (iblk m c 1 t) (iblk m c 2 t) (iblk m c 4 t) (iblk m c 5 t) (hX m c t) (fun h => h0 ((hcond0_0 t).mp h)) ((hcond0_1 t).mpr h1) (fun h => h2 ((hcond0_2 t).mp h)) (found m c t) r j)
      rw [outsAt0_C m c t h0 h1 h2]
  · have h2 : t.val % 2 = 1 := by omega
    have h0 : ¬t.val % 16 = 0 := by omega
    refine Eq.trans ?_ (qkv_B (xs0 := (outsAt0 m c (t.val - 1) (Nat.lt_of_le_of_lt (Nat.sub_le _ _) t.isLt)).2.2.1) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (x3 := iblk m c 3 t) (iblk m c 1 t) (iblk m c 2 t) (iblk m c 4 t) (iblk m c 5 t) (hX m c t) (fun h => h0 ((hcond0_0 t).mp h)) (fun h => h1 ((hcond0_1 t).mp h)) ((hcond0_2 t).mpr h2) (found m c t) r j)
    rw [outsAt0_B m c t h0 h1 h2]

/-! ## The results -/

/-- The convolution, in rows of tokens. -/
def mixArr : S16384x512.Idx → EReal := fun i =>
  mixRow m c ⟨(i 0).val / 2048, by have h : (i 0).val < 16384 := (i 0).isLt; omega⟩ ((i 0).val % 2048) (i 1)

/-- What a point writes is its rows of the result. -/
theorem written6 (t : Fin cfg0.N) :
    (dats m 0 c).flushed 6 t = ((cfg0.win 6).blk t).view.read (Elt Ideal) (mixArr m c) := by
  rw [flushed6]
  funext j
  obtain ⟨e0, e1⟩ := index6 t
  have b0 : ((j : S1024x512.Idx) 0).val < 1024 := ((j : S1024x512.Idx) 0).isLt
  have bt := point_lt t
  have h0 : ((((cfg0.win 6).blk t).view.emb j : S16384x512.Idx) 0).val = t.val * 1024 + ((j : S1024x512.Idx) 0).val := by
    show win0_6.index t (0 : Fin 2) * 1024 + 1 * ((j : S1024x512.Idx) 0).val = _; omega
  have h1 : ((((cfg0.win 6).blk t).view.emb j : S16384x512.Idx) 1).val = ((j : S1024x512.Idx) 1).val := by
    show win0_6.index t (1 : Fin 2) * 512 + 1 * ((j : S1024x512.Idx) 1).val = _; omega
  have ej : (j : S1024x512.Idx) = ix2 ((j : S1024x512.Idx) 0) ((j : S1024x512.Idx) 1) := idx2_ext rfl rfl
  refine Eq.trans ?_ ((point6 m c t ((j : S1024x512.Idx) 0) ((j : S1024x512.Idx) 1)).trans ?_)
  · exact congrArg ((outsAt0 m c t.val t.isLt).1) ej
  · show _ = mixArr m c (((cfg0.win 6).blk t).view.emb j)
    unfold mixArr
    have f0 : (⟨((((cfg0.win 6).blk t).view.emb j : S16384x512.Idx) 0).val / 2048, by rw [h0]; omega⟩ : Fin 8) = bat t :=
      Fin.ext (by show ((((cfg0.win 6).blk t).view.emb j : S16384x512.Idx) 0).val / 2048 = t.val / 2; rw [h0]; omega)
    have f1 : ((((cfg0.win 6).blk t).view.emb j : S16384x512.Idx) 0).val % 2048 = (pos t ((j : S1024x512.Idx) 0)).val := by
      show ((((cfg0.win 6).blk t).view.emb j : S16384x512.Idx) 0).val % 2048 = t.val % 2 * 1024 + ((j : S1024x512.Idx) 0).val; rw [h0]; omega
    have f2 : (((cfg0.win 6).blk t).view.emb j : S16384x512.Idx) 1 = (j : S1024x512.Idx) 1 := Fin.ext h1
    rw [f0, f1, f2]

theorem array6 : (dats m 0 c).arrAt 6 cfg0.N = mixArr m c :=
  (dats m 0 c).arrAt_eq_of_cover 6 (mixArr m c) (fun t _ => written6 m c t) (fun i => (covered_iff6 i).2 (by
    have h0 : (i 0).val < 16384 := (i 0).isLt; have h1 : (i 1).val < 512 := (i 1).isLt; omega))

/-- The attention's part of the projection, in rows of tokens. -/
def qkvArr : S16384x1536.Idx → EReal := fun i =>
  qkvRow m c ⟨(i 0).val / 2048, by have h : (i 0).val < 16384 := (i 0).isLt; omega⟩ ((i 0).val % 2048) (i 1)

/-- What a point writes is its rows of the result. -/
theorem written7 (t : Fin cfg0.N) :
    (dats m 0 c).flushed 7 t = ((cfg0.win 7).blk t).view.read (Elt Ideal) (qkvArr m c) := by
  rw [flushed7]
  funext j
  obtain ⟨e0, e1⟩ := index7 t
  have b0 : ((j : S1024x1536.Idx) 0).val < 1024 := ((j : S1024x1536.Idx) 0).isLt
  have bt := point_lt t
  have h0 : ((((cfg0.win 7).blk t).view.emb j : S16384x1536.Idx) 0).val = t.val * 1024 + ((j : S1024x1536.Idx) 0).val := by
    show win0_7.index t (0 : Fin 2) * 1024 + 1 * ((j : S1024x1536.Idx) 0).val = _; omega
  have h1 : ((((cfg0.win 7).blk t).view.emb j : S16384x1536.Idx) 1).val = ((j : S1024x1536.Idx) 1).val := by
    show win0_7.index t (1 : Fin 2) * 1536 + 1 * ((j : S1024x1536.Idx) 1).val = _; omega
  have ej : (j : S1024x1536.Idx) = ix2 ((j : S1024x1536.Idx) 0) ((j : S1024x1536.Idx) 1) := idx2_ext rfl rfl
  refine Eq.trans ?_ ((point7 m c t ((j : S1024x1536.Idx) 0) ((j : S1024x1536.Idx) 1)).trans ?_)
  · exact congrArg ((outsAt0 m c t.val t.isLt).2.1) ej
  · show _ = qkvArr m c (((cfg0.win 7).blk t).view.emb j)
    unfold qkvArr
    have f0 : (⟨((((cfg0.win 7).blk t).view.emb j : S16384x1536.Idx) 0).val / 2048, by rw [h0]; omega⟩ : Fin 8) = bat t :=
      Fin.ext (by show ((((cfg0.win 7).blk t).view.emb j : S16384x1536.Idx) 0).val / 2048 = t.val / 2; rw [h0]; omega)
    have f1 : ((((cfg0.win 7).blk t).view.emb j : S16384x1536.Idx) 0).val % 2048 = (pos t ((j : S1024x1536.Idx) 0)).val := by
      show ((((cfg0.win 7).blk t).view.emb j : S16384x1536.Idx) 0).val % 2048 = t.val % 2 * 1024 + ((j : S1024x1536.Idx) 0).val; rw [h0]; omega
    have f2 : (((cfg0.win 7).blk t).view.emb j : S16384x1536.Idx) 1 = (j : S1024x1536.Idx) 1 := Fin.ext h1
    rw [f0, f1, f2]

theorem array7 : (dats m 0 c).arrAt 7 cfg0.N = qkvArr m c :=
  (dats m 0 c).arrAt_eq_of_cover 7 (qkvArr m c) (fun t _ => written7 m c t) (fun i => (covered_iff7 i).2 (by
    have h0 : (i 0).val < 16384 := (i 0).isLt; have h1 : (i 1).val < 1536 := (i 1).isLt; omega))

end Cert.Kernel3Ideal.InProjGrid

end
-- ==== Proof.lean ====
/-
  The certificate's claims about three calls of the model's layer: the attention, the output projection with the
  feed-forward part, and the input projection with the short convolution. For each, the kernel, its idealization and the
  reference run to the end and leave their arguments as they were; the attention's idealization names two constants, and the
  others' change nothing; and at exact arithmetic each kernel's results are its reference's.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.RefValue
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Grid
public import proofs.«01_k».proof.Proof.FfnRef
public import proofs.«01_k».proof.Proof.FfnGrid
public import proofs.«01_k».proof.Proof.InProjRef
public import proofs.«01_k».proof.Proof.InProjGrid
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Kernel

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run m ρ)

/-- The two named constants: the binary logarithm of e, and an eighth of it. -/
theorem preserves : Cert.preserves_Kernel_KernelIdeal :=
  ⟨IdealRules.named_const.statement Cert.KernelIdeal.κ "qscale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl⟩

/-- The reference's attention is the kernel's. -/
theorem attention (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ) (c' : Dev Cert.ReferenceIdeal.nD)
    (h0 : m' ((c'.tc : Thread Cert.ReferenceIdeal.nD Cert.ReferenceIdeal.τ).loc Cert.ReferenceIdeal.main_arg0) = Cert.KernelIdeal.Grid.X m c)
    (h1 : m' ((c'.tc : Thread Cert.ReferenceIdeal.nD Cert.ReferenceIdeal.τ).loc Cert.ReferenceIdeal.main_arg1) = Cert.KernelIdeal.Grid.gq m c)
    (h2 : m' ((c'.tc : Thread Cert.ReferenceIdeal.nD Cert.ReferenceIdeal.τ).loc Cert.ReferenceIdeal.main_arg2) = Cert.KernelIdeal.Grid.gk m c) :
    (Cert.ReferenceIdeal.Value.res_main_v56 (F := Ideal) m' c' : Cert.KernelIdeal.S16384x512.Idx → EReal) = Cert.KernelIdeal.Grid.attnArr m c := by
  funext i
  have b0 : (i 0).val < 16384 := (i 0).isLt
  have b1 : (i 1).val < 512 := (i 1).isLt
  have h := Cert.ReferenceIdeal.RefValue.res_at m' c' ⟨(i 0).val / 2048, by omega⟩ ⟨(i 0).val % 2048, by omega⟩ ⟨(i 1).val / 64, by omega⟩
    ⟨(i 1).val % 64, by omega⟩
  rw [h0, h1, h2] at h
  refine Eq.trans (congrArg (Cert.ReferenceIdeal.Value.res_main_v56 (F := Ideal) m' c') ?_) h
  exact Cert.Layout.idx2_ext (a := 16384) (b := 512) (Nat.div_add_mod' _ _).symm (Nat.div_add_mod' _ _).symm

theorem algebraic : Cert.algebraic_KernelIdeal_ReferenceIdeal := by
  intro m ρ m' ρ' _ hagree
  refine ⟨_, _, _, _, Cert.KernelIdeal.Value.run_blocks m ρ, ?_⟩
  refine (θ_run Cert.ReferenceIdeal.defs _ _).mono (fun r h c => ?_) (Cert.ReferenceIdeal.Value.run m' ρ')
  obtain ⟨a0, a1, a2, a3, a4, a5⟩ := hagree c
  obtain ⟨r0, r1, r2, r3, kept⟩ := h c
  refine ⟨r0.trans ((attention m c m' c a0 a1 a2).trans (Cert.KernelIdeal.Grid.final10 m c).symm), ?_, ?_, ?_, kept⟩
  · exact r1.trans (a3.trans (Cert.KernelIdeal.Grid.final11 m c).symm)
  · exact r2.trans (a4.trans (Cert.KernelIdeal.Grid.final12 m c).symm)
  · exact r3.trans (a5.trans (Cert.KernelIdeal.Grid.final13 m c).symm)

/-! ## The output projection and the feed-forward part -/

theorem frame_p2 : Cert.quiescent_Kernel2 := fun m ρ _ => Cert.Kernel2.Gen.frame m ρ

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

theorem preserves2 : Cert.preserves_Kernel2_Kernel2Ideal := by trivial

/-- The reference's rows are the kernel's. -/
theorem rows (m : (ℓ : Loc Cert.Kernel2Ideal.nD Cert.Kernel2Ideal.τ Cert.Kernel2Ideal.sig) → Buf (Elt Ideal) ℓ) (c : Dev Cert.Kernel2Ideal.nD)
    (m' : (ℓ : Loc Cert.Reference2Ideal.nD Cert.Reference2Ideal.τ Cert.Reference2Ideal.sig) → Buf (Elt Ideal) ℓ) (c' : Dev Cert.Reference2Ideal.nD)
    (h0 : m' ((c'.tc : Thread Cert.Reference2Ideal.nD Cert.Reference2Ideal.τ).loc Cert.Reference2Ideal.main_arg0) = Cert.Kernel2Ideal.FfnGrid.A m c)
    (h1 : m' ((c'.tc : Thread Cert.Reference2Ideal.nD Cert.Reference2Ideal.τ).loc Cert.Reference2Ideal.main_arg1) = Cert.Kernel2Ideal.FfnGrid.Y m c)
    (h2 : m' ((c'.tc : Thread Cert.Reference2Ideal.nD Cert.Reference2Ideal.τ).loc Cert.Reference2Ideal.main_arg2) = Cert.Kernel2Ideal.FfnGrid.X m c)
    (h3 : m' ((c'.tc : Thread Cert.Reference2Ideal.nD Cert.Reference2Ideal.τ).loc Cert.Reference2Ideal.main_arg3) = Cert.Kernel2Ideal.FfnGrid.MD m c)
    (h4 : m' ((c'.tc : Thread Cert.Reference2Ideal.nD Cert.Reference2Ideal.τ).loc Cert.Reference2Ideal.main_arg4) = Cert.Kernel2Ideal.FfnGrid.AG m c)
    (h5 : m' ((c'.tc : Thread Cert.Reference2Ideal.nD Cert.Reference2Ideal.τ).loc Cert.Reference2Ideal.main_arg5) = Cert.Kernel2Ideal.FfnGrid.WO m c)
    (h6 : m' ((c'.tc : Thread Cert.Reference2Ideal.nD Cert.Reference2Ideal.τ).loc Cert.Reference2Ideal.main_arg6) = Cert.Kernel2Ideal.FfnGrid.G2 m c)
    (h7 : m' ((c'.tc : Thread Cert.Reference2Ideal.nD Cert.Reference2Ideal.τ).loc Cert.Reference2Ideal.main_arg7) = Cert.Kernel2Ideal.FfnGrid.W1 m c)
    (h8 : m' ((c'.tc : Thread Cert.Reference2Ideal.nD Cert.Reference2Ideal.τ).loc Cert.Reference2Ideal.main_arg8) = Cert.Kernel2Ideal.FfnGrid.W2 m c) :
    (Cert.Reference2Ideal.Value.res_main_v60 (F := Ideal) m' c' : Cert.Kernel2Ideal.S16384x1024.Idx → EReal) = Cert.Kernel2Ideal.FfnGrid.outArr m c := by
  funext i
  have b0 : (i 0).val < 16384 := (i 0).isLt
  rw [Cert.Reference2Ideal.FfnRef.res_eq m' c' _ _ _ _ _ _ _ _ _ h0 h1 h2 h3 h4 h5 h6 h7 h8]
  refine Eq.trans (congrArg _ ?_) (Cert.Reference2Ideal.FfnRef.res_at _ _ _ _ _ _ _ _ _ ⟨(i 0).val / 2048, by omega⟩ ⟨(i 0).val % 2048, by omega⟩ (i 1))
  exact Cert.Layout.idx2_ext (a := 16384) (b := 1024) (Nat.div_add_mod' _ _).symm rfl

theorem algebraic2 : Cert.algebraic_Kernel2Ideal_Reference2Ideal := by
  intro m ρ m' ρ' _ hagree
  refine ⟨_, Cert.Kernel2Ideal.Value.run_blocks m ρ, ?_⟩
  refine (θ_run Cert.Reference2Ideal.defs _ _).mono (fun r h c => ?_) (Cert.Reference2Ideal.Value.run m' ρ')
  obtain ⟨a0, a1, a2, a3, a4, a5, a6, a7, a8⟩ := hagree c
  exact ⟨(h c).1.trans ((rows m c m' c a0 a1 a2 a3 a4 a5 a6 a7 a8).trans (Cert.Kernel2Ideal.FfnGrid.final9 m c).symm), (h c).2⟩

/-! ## The input projection and the short convolution -/

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run m ρ)

theorem preserves3 : Cert.preserves_Kernel3_Kernel3Ideal := by trivial

/-- The reference's convolution is the kernel's. -/
theorem mix (m : (ℓ : Loc Cert.Kernel3Ideal.nD Cert.Kernel3Ideal.τ Cert.Kernel3Ideal.sig) → Buf (Elt Ideal) ℓ) (c : Dev Cert.Kernel3Ideal.nD)
    (m' : (ℓ : Loc Cert.Reference3Ideal.nD Cert.Reference3Ideal.τ Cert.Reference3Ideal.sig) → Buf (Elt Ideal) ℓ) (c' : Dev Cert.Reference3Ideal.nD)
    (h0 : m' ((c'.tc : Thread Cert.Reference3Ideal.nD Cert.Reference3Ideal.τ).loc Cert.Reference3Ideal.main_arg0) = Cert.Kernel3Ideal.InProjGrid.X m c)
    (h1 : m' ((c'.tc : Thread Cert.Reference3Ideal.nD Cert.Reference3Ideal.τ).loc Cert.Reference3Ideal.main_arg1) = Cert.Kernel3Ideal.InProjGrid.MD m c)
    (h2 : m' ((c'.tc : Thread Cert.Reference3Ideal.nD Cert.Reference3Ideal.τ).loc Cert.Reference3Ideal.main_arg2) = Cert.Kernel3Ideal.InProjGrid.G1 m c)
    (h3 : m' ((c'.tc : Thread Cert.Reference3Ideal.nD Cert.Reference3Ideal.τ).loc Cert.Reference3Ideal.main_arg3) = Cert.Kernel3Ideal.InProjGrid.WI m c)
    (h4 : m' ((c'.tc : Thread Cert.Reference3Ideal.nD Cert.Reference3Ideal.τ).loc Cert.Reference3Ideal.main_arg4) = Cert.Kernel3Ideal.InProjGrid.CW m c)
    (h5 : m' ((c'.tc : Thread Cert.Reference3Ideal.nD Cert.Reference3Ideal.τ).loc Cert.Reference3Ideal.main_arg5) = Cert.Kernel3Ideal.InProjGrid.CG m c) :
    (Cert.Reference3Ideal.Value.res_main_v69 (F := Ideal) m' c' : Cert.Kernel3Ideal.S16384x512.Idx → EReal) = Cert.Kernel3Ideal.InProjGrid.mixArr m c := by
  funext i
  have b0 : (i 0).val < 16384 := (i 0).isLt
  rw [Cert.Reference3Ideal.InProjRef.res_eq m' c' _ _ _ _ _ _ h0 h1 h2 h3 h4 h5]
  refine Eq.trans (congrArg _ ?_) (Cert.Reference3Ideal.InProjRef.mix_at _ _ _ _ _ _ ⟨(i 0).val / 2048, by omega⟩ ⟨(i 0).val % 2048, by omega⟩ (i 1))
  exact Cert.Layout.idx2_ext (a := 16384) (b := 512) (Nat.div_add_mod' _ _).symm rfl

/-- The reference's part of the projection for the attention is the kernel's. -/
theorem part (m : (ℓ : Loc Cert.Kernel3Ideal.nD Cert.Kernel3Ideal.τ Cert.Kernel3Ideal.sig) → Buf (Elt Ideal) ℓ) (c : Dev Cert.Kernel3Ideal.nD)
    (m' : (ℓ : Loc Cert.Reference3Ideal.nD Cert.Reference3Ideal.τ Cert.Reference3Ideal.sig) → Buf (Elt Ideal) ℓ) (c' : Dev Cert.Reference3Ideal.nD)
    (h0 : m' ((c'.tc : Thread Cert.Reference3Ideal.nD Cert.Reference3Ideal.τ).loc Cert.Reference3Ideal.main_arg0) = Cert.Kernel3Ideal.InProjGrid.X m c)
    (h1 : m' ((c'.tc : Thread Cert.Reference3Ideal.nD Cert.Reference3Ideal.τ).loc Cert.Reference3Ideal.main_arg1) = Cert.Kernel3Ideal.InProjGrid.MD m c)
    (h2 : m' ((c'.tc : Thread Cert.Reference3Ideal.nD Cert.Reference3Ideal.τ).loc Cert.Reference3Ideal.main_arg2) = Cert.Kernel3Ideal.InProjGrid.G1 m c)
    (h3 : m' ((c'.tc : Thread Cert.Reference3Ideal.nD Cert.Reference3Ideal.τ).loc Cert.Reference3Ideal.main_arg3) = Cert.Kernel3Ideal.InProjGrid.WI m c) :
    (Cert.Reference3Ideal.InProjRef.qkvV (Cert.Reference3Ideal.InProjRef.projV (Cert.Reference3Ideal.InProjRef.modV
      (m' ((c'.tc : Thread Cert.Reference3Ideal.nD Cert.Reference3Ideal.τ).loc Cert.Reference3Ideal.main_arg0))
      (m' ((c'.tc : Thread Cert.Reference3Ideal.nD Cert.Reference3Ideal.τ).loc Cert.Reference3Ideal.main_arg2))
      (m' ((c'.tc : Thread Cert.Reference3Ideal.nD Cert.Reference3Ideal.τ).loc Cert.Reference3Ideal.main_arg1)))
      (m' ((c'.tc : Thread Cert.Reference3Ideal.nD Cert.Reference3Ideal.τ).loc Cert.Reference3Ideal.main_arg3))) : Cert.Kernel3Ideal.S16384x1536.Idx → EReal)
      = Cert.Kernel3Ideal.InProjGrid.qkvArr m c := by
  funext i
  have b0 : (i 0).val < 16384 := (i 0).isLt
  rw [h0, h1, h2, h3]
  refine Eq.trans (congrArg _ ?_) (Cert.Reference3Ideal.InProjRef.qkv_at _ _ _ _ ⟨(i 0).val / 2048, by omega⟩ ⟨(i 0).val % 2048, by omega⟩ (i 1))
  exact Cert.Layout.idx2_ext (a := 16384) (b := 1536) (Nat.div_add_mod' _ _).symm rfl

theorem algebraic3 : Cert.algebraic_Kernel3Ideal_Reference3Ideal := by
  intro m ρ m' ρ' _ hagree
  refine ⟨_, _, Cert.Kernel3Ideal.Value.run_blocks m ρ, ?_⟩
  refine (θ_run Cert.Reference3Ideal.defs _ _).mono (fun r h c => ?_) (Cert.Reference3Ideal.Value.run m' ρ')
  obtain ⟨a0, a1, a2, a3, a4, a5⟩ := hagree c
  obtain ⟨r0, r1, kept⟩ := h c
  exact ⟨r0.trans ((mix m c m' c a0 a1 a2 a3 a4 a5).trans (Cert.Kernel3Ideal.InProjGrid.array6 m c).symm),
    r1.trans ((part m c m' c a0 a1 a2 a3).trans (Cert.Kernel3Ideal.InProjGrid.array7 m c).symm), kept⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_p, frame_pi, frame_ri, frame_p2, frame_pi2, frame_ri2, frame_p3, frame_pi3, frame_ri3,
  preserves, algebraic, preserves2, algebraic2, preserves3, algebraic3⟩

end Cert.Proof

end
